-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_RotateIn (m : (ℓ : Loc Cert.RotateIn.nD Cert.RotateIn.τ Cert.RotateIn.sig) → Buf (Elt Bits) ℓ) : Prop :=
  True

def Pre_RotateInIdeal (m : (ℓ : Loc Cert.RotateInIdeal.nD Cert.RotateInIdeal.τ Cert.RotateInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_RotateIn [hRotateIn : Cert.RotateIn.Facts] : Prop :=
  ∀ (m : (ℓ : Loc Cert.RotateIn.nD Cert.RotateIn.τ Cert.RotateIn.sig) → Buf (Elt Bits) ℓ) (g : Dev Cert.RotateIn.nD → PrngReg), Pre_RotateIn m →
    θ_run (Cert.RotateIn.defs (F := Bits)) (onTc (τ := Cert.RotateIn.τ) (Cert.RotateIn.main (F := Bits))) ⟨m, fun _ => 0, g⟩ (fun r => (∀ c : Dev Cert.RotateIn.nD,
      r.2.mem ((c.tc : Thread Cert.RotateIn.nD Cert.RotateIn.τ).loc Cert.RotateIn.main_arg0) = m ((c.tc : Thread Cert.RotateIn.nD Cert.RotateIn.τ).loc Cert.RotateIn.main_arg0)
      ∧ r.2.mem ((c.tc : Thread Cert.RotateIn.nD Cert.RotateIn.τ).loc Cert.RotateIn.main_arg1) = m ((c.tc : Thread Cert.RotateIn.nD Cert.RotateIn.τ).loc Cert.RotateIn.main_arg1)
      ∧ r.2.mem ((c.tc : Thread Cert.RotateIn.nD Cert.RotateIn.τ).loc Cert.RotateIn.main_arg2) = m ((c.tc : Thread Cert.RotateIn.nD Cert.RotateIn.τ).loc Cert.RotateIn.main_arg2))
      ∧ r.2.sem = fun _ => 0)

def quiescent_RotateInIdeal [hRotateInIdeal : Cert.RotateInIdeal.Facts] : Prop :=
  ∀ (m : (ℓ : Loc Cert.RotateInIdeal.nD Cert.RotateInIdeal.τ Cert.RotateInIdeal.sig) → Buf (Elt Ideal) ℓ) (g : Dev Cert.RotateInIdeal.nD → PrngReg), Pre_RotateInIdeal m →
    θ_run (Cert.RotateInIdeal.defs (F := Ideal)) (onTc (τ := Cert.RotateInIdeal.τ) (Cert.RotateInIdeal.main (F := Ideal))) ⟨m, fun _ => 0, g⟩ (fun r => (∀ c : Dev Cert.RotateInIdeal.nD,
      r.2.mem ((c.tc : Thread Cert.RotateInIdeal.nD Cert.RotateInIdeal.τ).loc Cert.RotateInIdeal.main_arg0) = m ((c.tc : Thread Cert.RotateInIdeal.nD Cert.RotateInIdeal.τ).loc Cert.RotateInIdeal.main_arg0)
      ∧ r.2.mem ((c.tc : Thread Cert.RotateInIdeal.nD Cert.RotateInIdeal.τ).loc Cert.RotateInIdeal.main_arg1) = m ((c.tc : Thread Cert.RotateInIdeal.nD Cert.RotateInIdeal.τ).loc Cert.RotateInIdeal.main_arg1)
      ∧ r.2.mem ((c.tc : Thread Cert.RotateInIdeal.nD Cert.RotateInIdeal.τ).loc Cert.RotateInIdeal.main_arg2) = m ((c.tc : Thread Cert.RotateInIdeal.nD Cert.RotateInIdeal.τ).loc Cert.RotateInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def preserves_Kernel_KernelIdeal : Prop :=
  IdealRules.bf16_pair.BufferStatement Cert.KernelIdeal.S768x40x2x128 Cert.KernelIdeal.S768x40x1x128
  ∧ IdealRules.bf16_pair.BufferStatement Cert.KernelIdeal.S2816x2x128 Cert.KernelIdeal.S2816x1x128
  ∧ IdealRules.bf16_pair.Statement Cert.KernelIdeal.S768x40x2x128 Cert.KernelIdeal.S768x40x1x128
  ∧ IdealRules.bf16_pair.SelectZeroStatement Cert.KernelIdeal.S768x40x128
  ∧ IdealRules.bf16_pair.Statement Cert.KernelIdeal.S2816x2x128 Cert.KernelIdeal.S2816x1x128
  ∧ IdealRules.bf16_pair.SelectZeroStatement Cert.KernelIdeal.S2816x128
  ∧ IdealRules.bf16_pair.PackStatement Cert.KernelIdeal.S256x256
  ∧ IdealRules.bf16_pair.Statement Cert.KernelIdeal.S256x1x2x128 Cert.KernelIdeal.S256x1x1x128
  ∧ IdealRules.bf16_pair.Statement Cert.KernelIdeal.S1x40x2x128 Cert.KernelIdeal.S1x40x1x128
  ∧ IdealRules.bf16_pair.Statement Cert.KernelIdeal.S80x128 Cert.KernelIdeal.S40x128
  ∧ IdealRules.bf16_pair.PackStatement Cert.KernelIdeal.S80x256
  ∧ IdealRules.bf16_pair.Statement Cert.KernelIdeal.S80x2x128 Cert.KernelIdeal.S80x1x128
  ∧ IdealRules.bf16_pair.Statement Cert.KernelIdeal.S8x2x128 Cert.KernelIdeal.S8x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_RotateIn_RotateInIdeal : Prop :=
  IdealRules.bf16_pair.BufferStatement Cert.RotateInIdeal.S64x40x2x128 Cert.RotateInIdeal.S64x40x1x128
  ∧ IdealRules.bf16_pair.Statement Cert.RotateInIdeal.S64x40x2x128 Cert.RotateInIdeal.S64x40x1x128
  ∧ IdealRules.bf16_pair.SelectZeroStatement Cert.RotateInIdeal.S64x40x128
  ∧ IdealRules.bf16_pair.PackStatement Cert.RotateInIdeal.S8x128
  ∧ IdealRules.bf16_pair.Statement Cert.RotateInIdeal.S8x1x2x128 Cert.RotateInIdeal.S8x1x1x128
  ∧ IdealRules.bf16_pair.Statement Cert.RotateInIdeal.S1x32x2x128 Cert.RotateInIdeal.S1x32x1x128
  ∧ IdealRules.bf16_pair.Statement Cert.RotateInIdeal.S64x128 Cert.RotateInIdeal.S32x128

def algebraic_RotateInIdeal_ReferenceInIdeal [hRotateInIdeal : Cert.RotateInIdeal.Facts] [hReferenceInIdeal : Cert.ReferenceInIdeal.Facts] : Prop :=
  ∀ (m : (ℓ : Loc Cert.RotateInIdeal.nD Cert.RotateInIdeal.τ Cert.RotateInIdeal.sig) → Buf (Elt Ideal) ℓ) (g : Dev Cert.RotateInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_RotateInIdeal m →
    (∀ c : Dev Cert.RotateInIdeal.nD,
      m' ((c.tc : Thread Cert.ReferenceInIdeal.nD Cert.ReferenceInIdeal.τ).loc Cert.ReferenceInIdeal.main_arg0) = m ((c.tc : Thread Cert.RotateInIdeal.nD Cert.RotateInIdeal.τ).loc Cert.RotateInIdeal.main_arg0)
      ∧ m' ((c.tc : Thread Cert.ReferenceInIdeal.nD Cert.ReferenceInIdeal.τ).loc Cert.ReferenceInIdeal.main_arg1) = m ((c.tc : Thread Cert.RotateInIdeal.nD Cert.RotateInIdeal.τ).loc Cert.RotateInIdeal.main_arg1)
      ∧ m' ((c.tc : Thread Cert.ReferenceInIdeal.nD Cert.ReferenceInIdeal.τ).loc Cert.ReferenceInIdeal.main_arg2) = m ((c.tc : Thread Cert.RotateInIdeal.nD Cert.RotateInIdeal.τ).loc Cert.RotateInIdeal.main_arg2)) →
    ∃ (v0 : (c : Dev Cert.RotateInIdeal.nD) → Buf (Elt Ideal) ((c.tc : Thread Cert.RotateInIdeal.nD Cert.RotateInIdeal.τ).loc Cert.RotateInIdeal.main_v9)),
      θ_run (Cert.RotateInIdeal.defs (F := Ideal)) (onTc (τ := Cert.RotateInIdeal.τ) (Cert.RotateInIdeal.main (F := Ideal))) ⟨m, fun _ => 0, g⟩ (fun r => ∀ c : Dev Cert.RotateInIdeal.nD,
          r.2.mem ((c.tc : Thread Cert.RotateInIdeal.nD Cert.RotateInIdeal.τ).loc Cert.RotateInIdeal.main_v9) = v0 c
          ∧ r.2.mem ((c.tc : Thread Cert.RotateInIdeal.nD Cert.RotateInIdeal.τ).loc Cert.RotateInIdeal.main_arg0) = m ((c.tc : Thread Cert.RotateInIdeal.nD Cert.RotateInIdeal.τ).loc Cert.RotateInIdeal.main_arg0)
          ∧ r.2.mem ((c.tc : Thread Cert.RotateInIdeal.nD Cert.RotateInIdeal.τ).loc Cert.RotateInIdeal.main_arg1) = m ((c.tc : Thread Cert.RotateInIdeal.nD Cert.RotateInIdeal.τ).loc Cert.RotateInIdeal.main_arg1)
          ∧ r.2.mem ((c.tc : Thread Cert.RotateInIdeal.nD Cert.RotateInIdeal.τ).loc Cert.RotateInIdeal.main_arg2) = m ((c.tc : Thread Cert.RotateInIdeal.nD Cert.RotateInIdeal.τ).loc Cert.RotateInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v6) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def Claim : Prop :=
  ∃ (hKernel : Cert.Kernel.Facts) (hKernelIdeal : Cert.KernelIdeal.Facts) (hReferenceIdeal : Cert.ReferenceIdeal.Facts) (hRotateIn : Cert.RotateIn.Facts) (hRotateInIdeal : Cert.RotateInIdeal.Facts) (hReferenceInIdeal : Cert.ReferenceInIdeal.Facts),
    quiescent_Kernel (hKernel := hKernel)
    ∧ quiescent_KernelIdeal (hKernelIdeal := hKernelIdeal)
    ∧ quiescent_ReferenceIdeal (hReferenceIdeal := hReferenceIdeal)
    ∧ quiescent_RotateIn (hRotateIn := hRotateIn)
    ∧ quiescent_RotateInIdeal (hRotateInIdeal := hRotateInIdeal)
    ∧ quiescent_ReferenceInIdeal (hReferenceInIdeal := hReferenceInIdeal)
    ∧ preserves_Kernel_KernelIdeal
    ∧ algebraic_KernelIdeal_ReferenceIdeal (hKernelIdeal := hKernelIdeal) (hReferenceIdeal := hReferenceIdeal)
    ∧ preserves_RotateIn_RotateInIdeal
    ∧ algebraic_RotateInIdeal_ReferenceInIdeal (hRotateInIdeal := hRotateInIdeal) (hReferenceInIdeal := hReferenceInIdeal)
-- ==== Kernel.lean ====
abbrev S1536x3584 : Shape := ⟨2, ![1536, 3584]⟩
abbrev S3584x4736 : Shape := ⟨2, ![3584, 4736]⟩
abbrev S18944 : Shape := ⟨1, ![18944]⟩
abbrev S74x74 : Shape := ⟨2, ![74, 74]⟩
abbrev S256x256 : Shape := ⟨2, ![256, 256]⟩
abbrev S1536x112x16x2 : Shape := ⟨4, ![1536, 112, 16, 2]⟩
abbrev S1536x112x2x16 : Shape := ⟨4, ![1536, 112, 2, 16]⟩
abbrev S64x4x256 : Shape := ⟨3, ![64, 4, 256]⟩
abbrev S4x64x256 : Shape := ⟨3, ![4, 64, 256]⟩
abbrev S74x64x4 : Shape := ⟨3, ![74, 64, 4]⟩
abbrev S74x4x64 : Shape := ⟨3, ![74, 4, 64]⟩
abbrev S37x1x512 : Shape := ⟨3, ![37, 1, 512]⟩
abbrev S_ : Shape := ⟨0, ![]⟩
abbrev S80x80 : Shape := ⟨2, ![80, 80]⟩
abbrev S1536x18944 : Shape := ⟨2, ![1536, 18944]⟩
abbrev S768x3584 : Shape := ⟨2, ![768, 3584]⟩
abbrev S3584x128 : Shape := ⟨2, ![3584, 128]⟩
abbrev S1x1x512 : Shape := ⟨3, ![1, 1, 512]⟩
abbrev S64x18944 : Shape := ⟨2, ![64, 18944]⟩
abbrev S3584x512 : Shape := ⟨2, ![3584, 512]⟩
abbrev S768x40x128 : Shape := ⟨3, ![768, 40, 128]⟩
abbrev S2816x128 : Shape := ⟨2, ![2816, 128]⟩
abbrev S8x128 : Shape := ⟨2, ![8, 128]⟩
abbrev S16x128 : Shape := ⟨2, ![16, 128]⟩
abbrev S32x128 : Shape := ⟨2, ![32, 128]⟩
abbrev S256x3584 : Shape := ⟨2, ![256, 3584]⟩
abbrev S256x512 : Shape := ⟨2, ![256, 512]⟩
abbrev S1x512 : Shape := ⟨2, ![1, 512]⟩
abbrev S256x128 : Shape := ⟨2, ![256, 128]⟩
abbrev S256x1x128 : Shape := ⟨3, ![256, 1, 128]⟩
abbrev S1x40x128 : Shape := ⟨3, ![1, 40, 128]⟩
abbrev S40x128 : Shape := ⟨2, ![40, 128]⟩
abbrev S80x128 : Shape := ⟨2, ![80, 128]⟩
abbrev S80x256 : Shape := ⟨2, ![80, 256]⟩

abbrev nBuf : Space → Nat
  | .hbm => 19
  | .vmem => 15
  | .smem => 0
  | _ => 0

abbrev bufTy : (tb : Table) → Fin (tcTables nBuf tb) → BufTy
  | .hbm, ⟨0, _⟩ => ⟨S1536x3584, .bf16⟩
  | .hbm, ⟨1, _⟩ => ⟨S3584x4736, .i8⟩
  | .hbm, ⟨2, _⟩ => ⟨S18944, .f32⟩
  | .hbm, ⟨3, _⟩ => ⟨S74x74, .bf16⟩
  | .hbm, ⟨4, _⟩ => ⟨S256x256, .bf16⟩
  | .hbm, ⟨5, _⟩ => ⟨S1536x112x16x2, .bf16⟩
  | .hbm, ⟨6, _⟩ => ⟨S1536x112x2x16, .bf16⟩
  | .hbm, ⟨7, _⟩ => ⟨S1536x3584, .bf16⟩
  | .hbm, ⟨8, _⟩ => ⟨S256x256, .bf16⟩
  | .hbm, ⟨9, _⟩ => ⟨S64x4x256, .bf16⟩
  | .hbm, ⟨10, _⟩ => ⟨S4x64x256, .bf16⟩
  | .hbm, ⟨11, _⟩ => ⟨S256x256, .bf16⟩
  | .hbm, ⟨12, _⟩ => ⟨S74x64x4, .f32⟩
  | .hbm, ⟨13, _⟩ => ⟨S74x4x64, .f32⟩
  | .hbm, ⟨14, _⟩ => ⟨S37x1x512, .f32⟩
  | .hbm, ⟨15, _⟩ => ⟨S_, .i32⟩
  | .hbm, ⟨16, _⟩ => ⟨S_, .bf16⟩
  | .hbm, ⟨17, _⟩ => ⟨S80x80, .bf16⟩
  | .hbm, ⟨18, _⟩ => ⟨S1536x18944, .bf16⟩
  | .local _ .vmem, ⟨0, _⟩ => ⟨S768x3584, .bf16⟩
  | .local _ .vmem, ⟨1, _⟩ => ⟨S768x3584, .bf16⟩
  | .local _ .vmem, ⟨2, _⟩ => ⟨S3584x128, .i8⟩
  | .local _ .vmem, ⟨3, _⟩ => ⟨S3584x128, .i8⟩
  | .local _ .vmem, ⟨4, _⟩ => ⟨S1x1x512, .f32⟩
  | .local _ .vmem, ⟨5, _⟩ => ⟨S1x1x512, .f32⟩
  | .local _ .vmem, ⟨6, _⟩ => ⟨S256x256, .bf16⟩
  | .local _ .vmem, ⟨7, _⟩ => ⟨S80x80, .bf16⟩
  | .local _ .vmem, ⟨8, _⟩ => ⟨S64x18944, .bf16⟩
  | .local _ .vmem, ⟨9, _⟩ => ⟨S64x18944, .bf16⟩
  | .local _ .vmem, ⟨10, _⟩ => ⟨S3584x512, .bf16⟩
  | .local _ .vmem, ⟨11, _⟩ => ⟨S768x40x128, .i32⟩
  | .local _ .vmem, ⟨12, _⟩ => ⟨S768x40x128, .i32⟩
  | .local _ .vmem, ⟨13, _⟩ => ⟨S2816x128, .i32⟩
  | .local _ .vmem, ⟨14, _⟩ => ⟨S2816x128, .i32⟩
  | _, _ => ⟨S1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨2, ![2, 49], ![false, false]⟩

def k0_cond2 (i : grid0.Coords) : BitVec 1 :=
  let arg1 : BitVec 32 := BitVec.ofNat 32 (i 1).val
  let c37_i32 : BitVec 32 := 37#32
  let v5 : BitVec 1 := Scalar.cmpi .slt arg1 c37_i32
  let v6 : BitVec 32 := Scalar.extui v5
  let c0_i32_2 : BitVec 32 := 0#32
  let v7 : BitVec 1 := Scalar.cmpi .ne v6 c0_i32_2
  v7

@[reducible] def k0_t1_loop : Scf.Loop 32 :=
  let c0_i32_11 : BitVec 32 := 0#32
  let c112_i32 : BitVec 32 := 112#32
  let v37 : BitVec 32 := Scalar.addi c0_i32_11 c112_i32
  let c1_i32 : BitVec 32 := 1#32
  ⟨c0_i32_11, v37, c1_i32⟩
def k0_mult1 (k0_t1 : Fin k0_t1_loop.trips) : BitVec 32 :=
  let c32_i32 : BitVec 32 := 32#32
  let c0_i32_11 : BitVec 32 := 0#32
  let c1_i32 : BitVec 32 := 1#32
  let arg13 : BitVec 32 := Scf.iv c0_i32_11 c1_i32 k0_t1
  let v122 : BitVec 32 := Scalar.muli c32_i32 arg13
  v122
def k0_off1 (k0_t1 : Fin k0_t1_loop.trips) : Fin 2 → Nat :=
  let c32_i32 : BitVec 32 := 32#32
  let c0_i32_11 : BitVec 32 := 0#32
  let c1_i32 : BitVec 32 := 1#32
  let arg13 : BitVec 32 := Scf.iv c0_i32_11 c1_i32 k0_t1
  let v122 : BitVec 32 := Scalar.muli c32_i32 arg13
  let v123 : BitVec 32 := v122
  let v124 : Index := Scalar.indexCast v123
  let c0_64 : Index := 0#32
  ![v124.toNat, 0]
def k0_off2 (k0_t1 : Fin k0_t1_loop.trips) (c0_i32_68 : BitVec 32) : Fin 2 → Nat :=
  let c32_i32 : BitVec 32 := 32#32
  let c0_i32_11 : BitVec 32 := 0#32
  let c1_i32 : BitVec 32 := 1#32
  let arg13 : BitVec 32 := Scf.iv c0_i32_11 c1_i32 k0_t1
  let v122 : BitVec 32 := Scalar.muli c32_i32 arg13
  let v123 : BitVec 32 := v122
  let v138 : BitVec 32 := Scalar.addi v123 c0_i32_68
  let v147 : Index := Scalar.indexCast v138
  let c0_69 : Index := 0#32
  ![v147.toNat, 0]
def k0_off3 (k0_t1 : Fin k0_t1_loop.trips) (c0_i32_68 : BitVec 32) : Fin 2 → Nat :=
  let c32_i32 : BitVec 32 := 32#32
  let c0_i32_11 : BitVec 32 := 0#32
  let c1_i32 : BitVec 32 := 1#32
  let arg13 : BitVec 32 := Scf.iv c0_i32_11 c1_i32 k0_t1
  let v122 : BitVec 32 := Scalar.muli c32_i32 arg13
  let v123 : BitVec 32 := v122
  let v138 : BitVec 32 := Scalar.addi v123 c0_i32_68
  let v151 : Index := Scalar.indexCast v138
  let c128 : Index := 128#32
  ![v151.toNat, 128]
def k0_off4 (k0_t1 : Fin k0_t1_loop.trips) (c0_i32_76 : BitVec 32) : Fin 2 → Nat :=
  let c32_i32 : BitVec 32 := 32#32
  let c0_i32_11 : BitVec 32 := 0#32
  let c1_i32 : BitVec 32 := 1#32
  let arg13 : BitVec 32 := Scf.iv c0_i32_11 c1_i32 k0_t1
  let v122 : BitVec 32 := Scalar.muli c32_i32 arg13
  let v123 : BitVec 32 := v122
  let v180 : BitVec 32 := Scalar.addi v123 c0_i32_76
  let v189 : Index := Scalar.indexCast v180
  let c256_77 : Index := 256#32
  ![v189.toNat, 256]
def k0_off5 (k0_t1 : Fin k0_t1_loop.trips) (c0_i32_76 : BitVec 32) : Fin 2 → Nat :=
  let c32_i32 : BitVec 32 := 32#32
  let c0_i32_11 : BitVec 32 := 0#32
  let c1_i32 : BitVec 32 := 1#32
  let arg13 : BitVec 32 := Scf.iv c0_i32_11 c1_i32 k0_t1
  let v122 : BitVec 32 := Scalar.muli c32_i32 arg13
  let v123 : BitVec 32 := v122
  let v180 : BitVec 32 := Scalar.addi v123 c0_i32_76
  let v193 : Index := Scalar.indexCast v180
  let c384 : Index := 384#32
  ![v193.toNat, 384]
def k0_off6 (i : grid0.Coords) : Fin 3 → Nat :=
  let c0_26 : Index := 0#32
  let arg1 : BitVec 32 := BitVec.ofNat 32 (i 1).val
  let v57 : Index := Scalar.indexCast arg1
  let c0_27 : Index := 0#32
  ![0, v57.toNat, 0]
def k0_off7 (i : grid0.Coords) : Fin 3 → Nat :=
  let c256_43 : Index := 256#32
  let arg1 : BitVec 32 := BitVec.ofNat 32 (i 1).val
  let v85 : Index := Scalar.indexCast arg1
  let c0_44 : Index := 0#32
  ![256, v85.toNat, 0]
def k0_off8 (i : grid0.Coords) : Fin 3 → Nat :=
  let c512_60 : Index := 512#32
  let arg1 : BitVec 32 := BitVec.ofNat 32 (i 1).val
  let v113 : Index := Scalar.indexCast arg1
  let c0_61 : Index := 0#32
  ![512, v113.toNat, 0]
def k0_cond3 (i : grid0.Coords) : BitVec 1 :=
  let arg1 : BitVec 32 := BitVec.ofNat 32 (i 1).val
  let c37_i32_3 : BitVec 32 := 37#32
  let v8 : BitVec 1 := Scalar.cmpi .sge arg1 c37_i32_3
  let v9 : BitVec 32 := Scalar.extui v8
  let c0_i32_4 : BitVec 32 := 0#32
  let v10 : BitVec 1 := Scalar.cmpi .ne v9 c0_i32_4
  v10

@[reducible] def k0_t2_loop : Scf.Loop 32 :=
  let c0_i32_6 : BitVec 32 := 0#32
  let c32_i32 : BitVec 32 := 32#32
  let v13 : BitVec 32 := Scalar.addi c0_i32_6 c32_i32
  let c1_i32 : BitVec 32 := 1#32
  ⟨c0_i32_6, v13, c1_i32⟩
def k0_off9 (i : grid0.Coords) (k0_t2 : Fin k0_t2_loop.trips) : Fin 3 → Nat :=
  let arg1 : BitVec 32 := BitVec.ofNat 32 (i 1).val
  let c37_i32_5 : BitVec 32 := 37#32
  let v11 : BitVec 32 := Scalar.subi arg1 c37_i32_5
  let c64_i32 : BitVec 32 := 64#32
  let v12 : BitVec 32 := Scalar.muli v11 c64_i32
  let c2_i32 : BitVec 32 := 2#32
  let c0_i32_6 : BitVec 32 := 0#32
  let c1_i32 : BitVec 32 := 1#32
  let arg13 : BitVec 32 := Scf.iv c0_i32_6 c1_i32 k0_t2
  let v15 : BitVec 32 := Scalar.muli c2_i32 arg13
  let v16 : BitVec 32 := Scalar.addi v12 v15
  let v17 : Index := Scalar.indexCast v16
  let c0 : Index := 0#32
  let c0_11 : Index := 0#32
  ![v17.toNat, 0, 0]
def k0_off10 (i : grid0.Coords) (k0_t2 : Fin k0_t2_loop.trips) : Fin 3 → Nat :=
  let arg1 : BitVec 32 := BitVec.ofNat 32 (i 1).val
  let c37_i32_5 : BitVec 32 := 37#32
  let v11 : BitVec 32 := Scalar.subi arg1 c37_i32_5
  let c64_i32 : BitVec 32 := 64#32
  let v12 : BitVec 32 := Scalar.muli v11 c64_i32
  let c2_i32_16 : BitVec 32 := 2#32
  let c0_i32_6 : BitVec 32 := 0#32
  let c1_i32 : BitVec 32 := 1#32
  let arg13 : BitVec 32 := Scf.iv c0_i32_6 c1_i32 k0_t2
  let v30 : BitVec 32 := Scalar.muli c2_i32_16 arg13
  let c1_i32_17 : BitVec 32 := 1#32
  let v31 : BitVec 32 := Scalar.addi v30 c1_i32_17
  let v32 : BitVec 32 := Scalar.addi v12 v31
  let v33 : Index := Scalar.indexCast v32
  let c0_18 : Index := 0#32
  let c0_19 : Index := 0#32
  ![v33.toNat, 0, 0]
def k0_mult2 (k0_t2 : Fin k0_t2_loop.trips) : BitVec 32 :=
  let c88_i32 : BitVec 32 := 88#32
  let c0_i32_6 : BitVec 32 := 0#32
  let c1_i32 : BitVec 32 := 1#32
  let arg13 : BitVec 32 := Scf.iv c0_i32_6 c1_i32 k0_t2
  let v48 : BitVec 32 := Scalar.muli c88_i32 arg13
  v48
def k0_off11 (k0_t2 : Fin k0_t2_loop.trips) : Fin 2 → Nat :=
  let c88_i32 : BitVec 32 := 88#32
  let c0_i32_6 : BitVec 32 := 0#32
  let c1_i32 : BitVec 32 := 1#32
  let arg13 : BitVec 32 := Scf.iv c0_i32_6 c1_i32 k0_t2
  let v48 : BitVec 32 := Scalar.muli c88_i32 arg13
  let v49 : BitVec 32 := v48
  let v50 : Index := Scalar.indexCast v49
  let c0_25 : Index := 0#32
  ![v50.toNat, 0]
def k0_mult3 (k0_t2 : Fin k0_t2_loop.trips) : BitVec 32 :=
  let c88_i32_26 : BitVec 32 := 88#32
  let c0_i32_6 : BitVec 32 := 0#32
  let c1_i32 : BitVec 32 := 1#32
  let arg13 : BitVec 32 := Scf.iv c0_i32_6 c1_i32 k0_t2
  let v55 : BitVec 32 := Scalar.muli c88_i32_26 arg13
  v55
@[reducible] def k0_t3_loop : Scf.Loop 32 :=
  let c0_i32_8 : BitVec 32 := 0#32
  let c74_i32 : BitVec 32 := 74#32
  let v14 : BitVec 32 := Scalar.addi c0_i32_8 c74_i32
  let c1_i32_9 : BitVec 32 := 1#32
  ⟨c0_i32_8, v14, c1_i32_9⟩
def k0_off12 (k0_t3 : Fin k0_t3_loop.trips) (c0_i32_11 : BitVec 32) : Fin 2 → Nat :=
  let c0_i32_8 : BitVec 32 := 0#32
  let c1_i32_9 : BitVec 32 := 1#32
  let arg13 : BitVec 32 := Scf.iv c0_i32_8 c1_i32_9 k0_t3
  let v15 : BitVec 32 := Scalar.addi c0_i32_11 arg13
  let v16 : Index := Scalar.indexCast v15
  let c0 : Index := 0#32
  ![v16.toNat, 0]
def k0_mult4 (k0_t3 : Fin k0_t3_loop.trips) : BitVec 32 :=
  let c256_i32 : BitVec 32 := 256#32
  let c0_i32_8 : BitVec 32 := 0#32
  let c1_i32_9 : BitVec 32 := 1#32
  let arg13 : BitVec 32 := Scf.iv c0_i32_8 c1_i32_9 k0_t3
  let v19 : BitVec 32 := Scalar.muli c256_i32 arg13
  let c0_i32_12 : BitVec 32 := 0#32
  let v20 : BitVec 32 := Scalar.addi v19 c0_i32_12
  v20
def k0_off13 (k0_t3 : Fin k0_t3_loop.trips) (c0_i32_12 : BitVec 32) : Fin 2 → Nat :=
  let c0_13 : Index := 0#32
  let c256_i32 : BitVec 32 := 256#32
  let c0_i32_8 : BitVec 32 := 0#32
  let c1_i32_9 : BitVec 32 := 1#32
  let arg13 : BitVec 32 := Scf.iv c0_i32_8 c1_i32_9 k0_t3
  let v19 : BitVec 32 := Scalar.muli c256_i32 arg13
  let v20 : BitVec 32 := Scalar.addi v19 c0_i32_12
  let v21 : BitVec 32 := v20
  let v22 : Index := Scalar.indexCast v21
  ![0, v22.toNat]
def k0_mult5 (k0_t3 : Fin k0_t3_loop.trips) : BitVec 32 :=
  let c256_i32_16 : BitVec 32 := 256#32
  let c0_i32_8 : BitVec 32 := 0#32
  let c1_i32_9 : BitVec 32 := 1#32
  let arg13 : BitVec 32 := Scf.iv c0_i32_8 c1_i32_9 k0_t3
  let v28 : BitVec 32 := Scalar.muli c256_i32_16 arg13
  let c128_i32 : BitVec 32 := 128#32
  let v29 : BitVec 32 := Scalar.addi v28 c128_i32
  v29
def k0_mult6 (k0_t3 : Fin k0_t3_loop.trips) : BitVec 32 :=
  let c256_i32_19 : BitVec 32 := 256#32
  let c0_i32_8 : BitVec 32 := 0#32
  let c1_i32_9 : BitVec 32 := 1#32
  let arg13 : BitVec 32 := Scf.iv c0_i32_8 c1_i32_9 k0_t3
  let v37 : BitVec 32 := Scalar.muli c256_i32_19 arg13
  let c0_i32_20 : BitVec 32 := 0#32
  let v38 : BitVec 32 := Scalar.addi v37 c0_i32_20
  v38
def k0_off14 (k0_t3 : Fin k0_t3_loop.trips) (c0_i32_20 : BitVec 32) : Fin 2 → Nat :=
  let c16 : Index := 16#32
  let c256_i32_19 : BitVec 32 := 256#32
  let c0_i32_8 : BitVec 32 := 0#32
  let c1_i32_9 : BitVec 32 := 1#32
  let arg13 : BitVec 32 := Scf.iv c0_i32_8 c1_i32_9 k0_t3
  let v37 : BitVec 32 := Scalar.muli c256_i32_19 arg13
  let v38 : BitVec 32 := Scalar.addi v37 c0_i32_20
  let v39 : BitVec 32 := v38
  let v40 : Index := Scalar.indexCast v39
  ![16, v40.toNat]
def k0_mult7 (k0_t3 : Fin k0_t3_loop.trips) : BitVec 32 :=
  let c256_i32_23 : BitVec 32 := 256#32
  let c0_i32_8 : BitVec 32 := 0#32
  let c1_i32_9 : BitVec 32 := 1#32
  let arg13 : BitVec 32 := Scf.iv c0_i32_8 c1_i32_9 k0_t3
  let v46 : BitVec 32 := Scalar.muli c256_i32_23 arg13
  let c128_i32_24 : BitVec 32 := 128#32
  let v47 : BitVec 32 := Scalar.addi v46 c128_i32_24
  v47
def k0_mult8 (k0_t3 : Fin k0_t3_loop.trips) : BitVec 32 :=
  let c256_i32_27 : BitVec 32 := 256#32
  let c0_i32_8 : BitVec 32 := 0#32
  let c1_i32_9 : BitVec 32 := 1#32
  let arg13 : BitVec 32 := Scf.iv c0_i32_8 c1_i32_9 k0_t3
  let v55 : BitVec 32 := Scalar.muli c256_i32_27 arg13
  let c0_i32_28 : BitVec 32 := 0#32
  let v56 : BitVec 32 := Scalar.addi v55 c0_i32_28
  v56
def k0_off15 (k0_t3 : Fin k0_t3_loop.trips) (c0_i32_28 : BitVec 32) : Fin 2 → Nat :=
  let c32 : Index := 32#32
  let c256_i32_27 : BitVec 32 := 256#32
  let c0_i32_8 : BitVec 32 := 0#32
  let c1_i32_9 : BitVec 32 := 1#32
  let arg13 : BitVec 32 := Scf.iv c0_i32_8 c1_i32_9 k0_t3
  let v55 : BitVec 32 := Scalar.muli c256_i32_27 arg13
  let v56 : BitVec 32 := Scalar.addi v55 c0_i32_28
  let v57 : BitVec 32 := v56
  let v58 : Index := Scalar.indexCast v57
  ![32, v58.toNat]
def k0_mult9 (k0_t3 : Fin k0_t3_loop.trips) : BitVec 32 :=
  let c256_i32_31 : BitVec 32 := 256#32
  let c0_i32_8 : BitVec 32 := 0#32
  let c1_i32_9 : BitVec 32 := 1#32
  let arg13 : BitVec 32 := Scf.iv c0_i32_8 c1_i32_9 k0_t3
  let v64 : BitVec 32 := Scalar.muli c256_i32_31 arg13
  let c128_i32_32 : BitVec 32 := 128#32
  let v65 : BitVec 32 := Scalar.addi v64 c128_i32_32
  v65
def k0_mult10 (k0_t3 : Fin k0_t3_loop.trips) : BitVec 32 :=
  let c256_i32_35 : BitVec 32 := 256#32
  let c0_i32_8 : BitVec 32 := 0#32
  let c1_i32_9 : BitVec 32 := 1#32
  let arg13 : BitVec 32 := Scf.iv c0_i32_8 c1_i32_9 k0_t3
  let v73 : BitVec 32 := Scalar.muli c256_i32_35 arg13
  let c0_i32_36 : BitVec 32 := 0#32
  let v74 : BitVec 32 := Scalar.addi v73 c0_i32_36
  v74
def k0_off16 (k0_t3 : Fin k0_t3_loop.trips) (c0_i32_36 : BitVec 32) : Fin 2 → Nat :=
  let c48 : Index := 48#32
  let c256_i32_35 : BitVec 32 := 256#32
  let c0_i32_8 : BitVec 32 := 0#32
  let c1_i32_9 : BitVec 32 := 1#32
  let arg13 : BitVec 32 := Scf.iv c0_i32_8 c1_i32_9 k0_t3
  let v73 : BitVec 32 := Scalar.muli c256_i32_35 arg13
  let v74 : BitVec 32 := Scalar.addi v73 c0_i32_36
  let v75 : BitVec 32 := v74
  let v76 : Index := Scalar.indexCast v75
  ![48, v76.toNat]
def k0_mult11 (k0_t3 : Fin k0_t3_loop.trips) : BitVec 32 :=
  let c256_i32_39 : BitVec 32 := 256#32
  let c0_i32_8 : BitVec 32 := 0#32
  let c1_i32_9 : BitVec 32 := 1#32
  let arg13 : BitVec 32 := Scf.iv c0_i32_8 c1_i32_9 k0_t3
  let v82 : BitVec 32 := Scalar.muli c256_i32_39 arg13
  let c128_i32_40 : BitVec 32 := 128#32
  let v83 : BitVec 32 := Scalar.addi v82 c128_i32_40
  v83
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg1 c36_i32
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.minsi arg1 c36_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let c37_i32 : BitVec 32 := 37#32
  let v1 : BitVec 32 := Scalar.subi arg1 c37_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

abbrev stage0_0 : Fin 2 → Memref sig .tc .vmem S768x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3584x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S80x80 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x18944 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
abbrev S1536x3584 : Shape := ⟨2, ![1536, 3584]⟩
abbrev S3584x4736 : Shape := ⟨2, ![3584, 4736]⟩
abbrev S18944 : Shape := ⟨1, ![18944]⟩
abbrev S74x74 : Shape := ⟨2, ![74, 74]⟩
abbrev S256x256 : Shape := ⟨2, ![256, 256]⟩
abbrev S1536x112x16x2 : Shape := ⟨4, ![1536, 112, 16, 2]⟩
abbrev S1536x112x2x16 : Shape := ⟨4, ![1536, 112, 2, 16]⟩
abbrev S64x4x256 : Shape := ⟨3, ![64, 4, 256]⟩
abbrev S4x64x256 : Shape := ⟨3, ![4, 64, 256]⟩
abbrev S74x64x4 : Shape := ⟨3, ![74, 64, 4]⟩
abbrev S74x4x64 : Shape := ⟨3, ![74, 4, 64]⟩
abbrev S37x1x512 : Shape := ⟨3, ![37, 1, 512]⟩
abbrev S_ : Shape := ⟨0, ![]⟩
abbrev S80x80 : Shape := ⟨2, ![80, 80]⟩
abbrev S1536x18944 : Shape := ⟨2, ![1536, 18944]⟩
abbrev S768x3584 : Shape := ⟨2, ![768, 3584]⟩
abbrev S3584x128 : Shape := ⟨2, ![3584, 128]⟩
abbrev S1x1x512 : Shape := ⟨3, ![1, 1, 512]⟩
abbrev S64x18944 : Shape := ⟨2, ![64, 18944]⟩
abbrev S3584x512 : Shape := ⟨2, ![3584, 512]⟩
abbrev S768x40x128 : Shape := ⟨3, ![768, 40, 128]⟩
abbrev S768x40x2x128 : Shape := ⟨4, ![768, 40, 2, 128]⟩
abbrev S768x40x1x128 : Shape := ⟨4, ![768, 40, 1, 128]⟩
abbrev S2816x128 : Shape := ⟨2, ![2816, 128]⟩
abbrev S2816x2x128 : Shape := ⟨3, ![2816, 2, 128]⟩
abbrev S2816x1x128 : Shape := ⟨3, ![2816, 1, 128]⟩
abbrev S8x128 : Shape := ⟨2, ![8, 128]⟩
abbrev S16x128 : Shape := ⟨2, ![16, 128]⟩
abbrev S32x128 : Shape := ⟨2, ![32, 128]⟩
abbrev S256x3584 : Shape := ⟨2, ![256, 3584]⟩
abbrev S256x512 : Shape := ⟨2, ![256, 512]⟩
abbrev S1x512 : Shape := ⟨2, ![1, 512]⟩
abbrev S256x128 : Shape := ⟨2, ![256, 128]⟩
abbrev S256x1x128 : Shape := ⟨3, ![256, 1, 128]⟩
abbrev S256x1x2x128 : Shape := ⟨4, ![256, 1, 2, 128]⟩
abbrev S256x1x1x128 : Shape := ⟨4, ![256, 1, 1, 128]⟩
abbrev S1x40x128 : Shape := ⟨3, ![1, 40, 128]⟩
abbrev S1x40x2x128 : Shape := ⟨4, ![1, 40, 2, 128]⟩
abbrev S1x40x1x128 : Shape := ⟨4, ![1, 40, 1, 128]⟩
abbrev S40x128 : Shape := ⟨2, ![40, 128]⟩
abbrev S80x128 : Shape := ⟨2, ![80, 128]⟩
abbrev S80x256 : Shape := ⟨2, ![80, 256]⟩
abbrev S80x2x128 : Shape := ⟨3, ![80, 2, 128]⟩
abbrev S80x1x128 : Shape := ⟨3, ![80, 1, 128]⟩
abbrev S8x2x128 : Shape := ⟨3, ![8, 2, 128]⟩
abbrev S8x1x128 : Shape := ⟨3, ![8, 1, 128]⟩

abbrev nBuf : Space → Nat
  | .hbm => 19
  | .vmem => 15
  | .smem => 0
  | _ => 0

abbrev bufTy : (tb : Table) → Fin (tcTables nBuf tb) → BufTy
  | .hbm, ⟨0, _⟩ => ⟨S1536x3584, .bf16⟩
  | .hbm, ⟨1, _⟩ => ⟨S3584x4736, .i8⟩
  | .hbm, ⟨2, _⟩ => ⟨S18944, .f32⟩
  | .hbm, ⟨3, _⟩ => ⟨S74x74, .bf16⟩
  | .hbm, ⟨4, _⟩ => ⟨S256x256, .bf16⟩
  | .hbm, ⟨5, _⟩ => ⟨S1536x112x16x2, .bf16⟩
  | .hbm, ⟨6, _⟩ => ⟨S1536x112x2x16, .bf16⟩
  | .hbm, ⟨7, _⟩ => ⟨S1536x3584, .bf16⟩
  | .hbm, ⟨8, _⟩ => ⟨S256x256, .bf16⟩
  | .hbm, ⟨9, _⟩ => ⟨S64x4x256, .bf16⟩
  | .hbm, ⟨10, _⟩ => ⟨S4x64x256, .bf16⟩
  | .hbm, ⟨11, _⟩ => ⟨S256x256, .bf16⟩
  | .hbm, ⟨12, _⟩ => ⟨S74x64x4, .f32⟩
  | .hbm, ⟨13, _⟩ => ⟨S74x4x64, .f32⟩
  | .hbm, ⟨14, _⟩ => ⟨S37x1x512, .f32⟩
  | .hbm, ⟨15, _⟩ => ⟨S_, .i32⟩
  | .hbm, ⟨16, _⟩ => ⟨S_, .bf16⟩
  | .hbm, ⟨17, _⟩ => ⟨S80x80, .bf16⟩
  | .hbm, ⟨18, _⟩ => ⟨S1536x18944, .bf16⟩
  | .local _ .vmem, ⟨0, _⟩ => ⟨S768x3584, .bf16⟩
  | .local _ .vmem, ⟨1, _⟩ => ⟨S768x3584, .bf16⟩
  | .local _ .vmem, ⟨2, _⟩ => ⟨S3584x128, .i8⟩
  | .local _ .vmem, ⟨3, _⟩ => ⟨S3584x128, .i8⟩
  | .local _ .vmem, ⟨4, _⟩ => ⟨S1x1x512, .f32⟩
  | .local _ .vmem, ⟨5, _⟩ => ⟨S1x1x512, .f32⟩
  | .local _ .vmem, ⟨6, _⟩ => ⟨S256x256, .bf16⟩
  | .local _ .vmem, ⟨7, _⟩ => ⟨S80x80, .bf16⟩
  | .local _ .vmem, ⟨8, _⟩ => ⟨S64x18944, .bf16⟩
  | .local _ .vmem, ⟨9, _⟩ => ⟨S64x18944, .bf16⟩
  | .local _ .vmem, ⟨10, _⟩ => ⟨S3584x512, .bf16⟩
  | .local _ .vmem, ⟨11, _⟩ => ⟨S768x40x2x128, .bf16⟩
  | .local _ .vmem, ⟨12, _⟩ => ⟨S768x40x2x128, .bf16⟩
  | .local _ .vmem, ⟨13, _⟩ => ⟨S2816x2x128, .bf16⟩
  | .local _ .vmem, ⟨14, _⟩ => ⟨S2816x2x128, .bf16⟩
  | _, _ => ⟨S1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 49], ![false, false]⟩

def k0_cond2 (i : grid0.Coords) : BitVec 1 :=
  let arg1 : BitVec 32 := BitVec.ofNat 32 (i 1).val
  let c37_i32 : BitVec 32 := 37#32
  let v5 : BitVec 1 := Scalar.cmpi .slt arg1 c37_i32
  let v6 : BitVec 32 := Scalar.extui v5
  let c0_i32_2 : BitVec 32 := 0#32
  let v7 : BitVec 1 := Scalar.cmpi .ne v6 c0_i32_2
  v7

@[reducible] def k0_t1_loop : Scf.Loop 32 :=
  let c0_i32_11 : BitVec 32 := 0#32
  let c112_i32 : BitVec 32 := 112#32
  let v37 : BitVec 32 := Scalar.addi c0_i32_11 c112_i32
  let c1_i32 : BitVec 32 := 1#32
  ⟨c0_i32_11, v37, c1_i32⟩
def k0_mult1 (k0_t1 : Fin k0_t1_loop.trips) : BitVec 32 :=
  let c32_i32 : BitVec 32 := 32#32
  let c0_i32_11 : BitVec 32 := 0#32
  let c1_i32 : BitVec 32 := 1#32
  let arg13 : BitVec 32 := Scf.iv c0_i32_11 c1_i32 k0_t1
  let v122 : BitVec 32 := Scalar.muli c32_i32 arg13
  v122
def k0_off1 (k0_t1 : Fin k0_t1_loop.trips) : Fin 2 → Nat :=
  let c32_i32 : BitVec 32 := 32#32
  let c0_i32_11 : BitVec 32 := 0#32
  let c1_i32 : BitVec 32 := 1#32
  let arg13 : BitVec 32 := Scf.iv c0_i32_11 c1_i32 k0_t1
  let v122 : BitVec 32 := Scalar.muli c32_i32 arg13
  let v123 : BitVec 32 := v122
  let v124 : Index := Scalar.indexCast v123
  let c0_64 : Index := 0#32
  ![v124.toNat, 0]
def k0_off2 (k0_t1 : Fin k0_t1_loop.trips) (c0_i32_68 : BitVec 32) : Fin 2 → Nat :=
  let c32_i32 : BitVec 32 := 32#32
  let c0_i32_11 : BitVec 32 := 0#32
  let c1_i32 : BitVec 32 := 1#32
  let arg13 : BitVec 32 := Scf.iv c0_i32_11 c1_i32 k0_t1
  let v122 : BitVec 32 := Scalar.muli c32_i32 arg13
  let v123 : BitVec 32 := v122
  let v138 : BitVec 32 := Scalar.addi v123 c0_i32_68
  let v147 : Index := Scalar.indexCast v138
  let c0_69 : Index := 0#32
  ![v147.toNat, 0]
def k0_off3 (k0_t1 : Fin k0_t1_loop.trips) (c0_i32_68 : BitVec 32) : Fin 2 → Nat :=
  let c32_i32 : BitVec 32 := 32#32
  let c0_i32_11 : BitVec 32 := 0#32
  let c1_i32 : BitVec 32 := 1#32
  let arg13 : BitVec 32 := Scf.iv c0_i32_11 c1_i32 k0_t1
  let v122 : BitVec 32 := Scalar.muli c32_i32 arg13
  let v123 : BitVec 32 := v122
  let v138 : BitVec 32 := Scalar.addi v123 c0_i32_68
  let v151 : Index := Scalar.indexCast v138
  let c128 : Index := 128#32
  ![v151.toNat, 128]
def k0_off4 (k0_t1 : Fin k0_t1_loop.trips) (c0_i32_76 : BitVec 32) : Fin 2 → Nat :=
  let c32_i32 : BitVec 32 := 32#32
  let c0_i32_11 : BitVec 32 := 0#32
  let c1_i32 : BitVec 32 := 1#32
  let arg13 : BitVec 32 := Scf.iv c0_i32_11 c1_i32 k0_t1
  let v122 : BitVec 32 := Scalar.muli c32_i32 arg13
  let v123 : BitVec 32 := v122
  let v180 : BitVec 32 := Scalar.addi v123 c0_i32_76
  let v189 : Index := Scalar.indexCast v180
  let c256_77 : Index := 256#32
  ![v189.toNat, 256]
def k0_off5 (k0_t1 : Fin k0_t1_loop.trips) (c0_i32_76 : BitVec 32) : Fin 2 → Nat :=
  let c32_i32 : BitVec 32 := 32#32
  let c0_i32_11 : BitVec 32 := 0#32
  let c1_i32 : BitVec 32 := 1#32
  let arg13 : BitVec 32 := Scf.iv c0_i32_11 c1_i32 k0_t1
  let v122 : BitVec 32 := Scalar.muli c32_i32 arg13
  let v123 : BitVec 32 := v122
  let v180 : BitVec 32 := Scalar.addi v123 c0_i32_76
  let v193 : Index := Scalar.indexCast v180
  let c384 : Index := 384#32
  ![v193.toNat, 384]
def k0_off6 (i : grid0.Coords) : Fin 4 → Nat :=
  let c0_26 : Index := 0#32
  let arg1 : BitVec 32 := BitVec.ofNat 32 (i 1).val
  let v57 : Index := Scalar.indexCast arg1
  let c0_27 : Index := 0#32
  ![0, v57.toNat, 0, 0]
def k0_off7 (i : grid0.Coords) : Fin 4 → Nat :=
  let c256_43 : Index := 256#32
  let arg1 : BitVec 32 := BitVec.ofNat 32 (i 1).val
  let v85 : Index := Scalar.indexCast arg1
  let c0_44 : Index := 0#32
  ![256, v85.toNat, 0, 0]
def k0_off8 (i : grid0.Coords) : Fin 4 → Nat :=
  let c512_60 : Index := 512#32
  let arg1 : BitVec 32 := BitVec.ofNat 32 (i 1).val
  let v113 : Index := Scalar.indexCast arg1
  let c0_61 : Index := 0#32
  ![512, v113.toNat, 0, 0]
def k0_cond3 (i : grid0.Coords) : BitVec 1 :=
  let arg1 : BitVec 32 := BitVec.ofNat 32 (i 1).val
  let c37_i32_3 : BitVec 32 := 37#32
  let v8 : BitVec 1 := Scalar.cmpi .sge arg1 c37_i32_3
  let v9 : BitVec 32 := Scalar.extui v8
  let c0_i32_4 : BitVec 32 := 0#32
  let v10 : BitVec 1 := Scalar.cmpi .ne v9 c0_i32_4
  v10

@[reducible] def k0_t2_loop : Scf.Loop 32 :=
  let c0_i32_6 : BitVec 32 := 0#32
  let c32_i32 : BitVec 32 := 32#32
  let v13 : BitVec 32 := Scalar.addi c0_i32_6 c32_i32
  let c1_i32 : BitVec 32 := 1#32
  ⟨c0_i32_6, v13, c1_i32⟩
def k0_off9 (i : grid0.Coords) (k0_t2 : Fin k0_t2_loop.trips) : Fin 4 → Nat :=
  let arg1 : BitVec 32 := BitVec.ofNat 32 (i 1).val
  let c37_i32_5 : BitVec 32 := 37#32
  let v11 : BitVec 32 := Scalar.subi arg1 c37_i32_5
  let c64_i32 : BitVec 32 := 64#32
  let v12 : BitVec 32 := Scalar.muli v11 c64_i32
  let c2_i32 : BitVec 32 := 2#32
  let c0_i32_6 : BitVec 32 := 0#32
  let c1_i32 : BitVec 32 := 1#32
  let arg13 : BitVec 32 := Scf.iv c0_i32_6 c1_i32 k0_t2
  let v15 : BitVec 32 := Scalar.muli c2_i32 arg13
  let v16 : BitVec 32 := Scalar.addi v12 v15
  let v17 : Index := Scalar.indexCast v16
  let c0 : Index := 0#32
  let c0_11 : Index := 0#32
  ![v17.toNat, 0, 0, 0]
def k0_off10 (i : grid0.Coords) (k0_t2 : Fin k0_t2_loop.trips) : Fin 4 → Nat :=
  let arg1 : BitVec 32 := BitVec.ofNat 32 (i 1).val
  let c37_i32_5 : BitVec 32 := 37#32
  let v11 : BitVec 32 := Scalar.subi arg1 c37_i32_5
  let c64_i32 : BitVec 32 := 64#32
  let v12 : BitVec 32 := Scalar.muli v11 c64_i32
  let c2_i32_16 : BitVec 32 := 2#32
  let c0_i32_6 : BitVec 32 := 0#32
  let c1_i32 : BitVec 32 := 1#32
  let arg13 : BitVec 32 := Scf.iv c0_i32_6 c1_i32 k0_t2
  let v30 : BitVec 32 := Scalar.muli c2_i32_16 arg13
  let c1_i32_17 : BitVec 32 := 1#32
  let v31 : BitVec 32 := Scalar.addi v30 c1_i32_17
  let v32 : BitVec 32 := Scalar.addi v12 v31
  let v33 : Index := Scalar.indexCast v32
  let c0_18 : Index := 0#32
  let c0_19 : Index := 0#32
  ![v33.toNat, 0, 0, 0]
def k0_mult2 (k0_t2 : Fin k0_t2_loop.trips) : BitVec 32 :=
  let c88_i32 : BitVec 32 := 88#32
  let c0_i32_6 : BitVec 32 := 0#32
  let c1_i32 : BitVec 32 := 1#32
  let arg13 : BitVec 32 := Scf.iv c0_i32_6 c1_i32 k0_t2
  let v48 : BitVec 32 := Scalar.muli c88_i32 arg13
  v48
def k0_off11 (k0_t2 : Fin k0_t2_loop.trips) : Fin 3 → Nat :=
  let c88_i32 : BitVec 32 := 88#32
  let c0_i32_6 : BitVec 32 := 0#32
  let c1_i32 : BitVec 32 := 1#32
  let arg13 : BitVec 32 := Scf.iv c0_i32_6 c1_i32 k0_t2
  let v48 : BitVec 32 := Scalar.muli c88_i32 arg13
  let v49 : BitVec 32 := v48
  let v50 : Index := Scalar.indexCast v49
  let c0_25 : Index := 0#32
  ![v50.toNat, 0, 0]
def k0_mult3 (k0_t2 : Fin k0_t2_loop.trips) : BitVec 32 :=
  let c88_i32_26 : BitVec 32 := 88#32
  let c0_i32_6 : BitVec 32 := 0#32
  let c1_i32 : BitVec 32 := 1#32
  let arg13 : BitVec 32 := Scf.iv c0_i32_6 c1_i32 k0_t2
  let v55 : BitVec 32 := Scalar.muli c88_i32_26 arg13
  v55
@[reducible] def k0_t3_loop : Scf.Loop 32 :=
  let c0_i32_8 : BitVec 32 := 0#32
  let c74_i32 : BitVec 32 := 74#32
  let v14 : BitVec 32 := Scalar.addi c0_i32_8 c74_i32
  let c1_i32_9 : BitVec 32 := 1#32
  ⟨c0_i32_8, v14, c1_i32_9⟩
def k0_off12 (k0_t3 : Fin k0_t3_loop.trips) (c0_i32_11 : BitVec 32) : Fin 3 → Nat :=
  let c0_i32_8 : BitVec 32 := 0#32
  let c1_i32_9 : BitVec 32 := 1#32
  let arg13 : BitVec 32 := Scf.iv c0_i32_8 c1_i32_9 k0_t3
  let v15 : BitVec 32 := Scalar.addi c0_i32_11 arg13
  let v16 : Index := Scalar.indexCast v15
  let c0 : Index := 0#32
  ![v16.toNat, 0, 0]
def k0_mult4 (k0_t3 : Fin k0_t3_loop.trips) : BitVec 32 :=
  let c256_i32 : BitVec 32 := 256#32
  let c0_i32_8 : BitVec 32 := 0#32
  let c1_i32_9 : BitVec 32 := 1#32
  let arg13 : BitVec 32 := Scf.iv c0_i32_8 c1_i32_9 k0_t3
  let v19 : BitVec 32 := Scalar.muli c256_i32 arg13
  let c0_i32_12 : BitVec 32 := 0#32
  let v20 : BitVec 32 := Scalar.addi v19 c0_i32_12
  v20
def k0_off13 (k0_t3 : Fin k0_t3_loop.trips) (c0_i32_12 : BitVec 32) : Fin 2 → Nat :=
  let c0_13 : Index := 0#32
  let c256_i32 : BitVec 32 := 256#32
  let c0_i32_8 : BitVec 32 := 0#32
  let c1_i32_9 : BitVec 32 := 1#32
  let arg13 : BitVec 32 := Scf.iv c0_i32_8 c1_i32_9 k0_t3
  let v19 : BitVec 32 := Scalar.muli c256_i32 arg13
  let v20 : BitVec 32 := Scalar.addi v19 c0_i32_12
  let v21 : BitVec 32 := v20
  let v22 : Index := Scalar.indexCast v21
  ![0, v22.toNat]
def k0_mult5 (k0_t3 : Fin k0_t3_loop.trips) : BitVec 32 :=
  let c256_i32_16 : BitVec 32 := 256#32
  let c0_i32_8 : BitVec 32 := 0#32
  let c1_i32_9 : BitVec 32 := 1#32
  let arg13 : BitVec 32 := Scf.iv c0_i32_8 c1_i32_9 k0_t3
  let v28 : BitVec 32 := Scalar.muli c256_i32_16 arg13
  let c128_i32 : BitVec 32 := 128#32
  let v29 : BitVec 32 := Scalar.addi v28 c128_i32
  v29
def k0_mult6 (k0_t3 : Fin k0_t3_loop.trips) : BitVec 32 :=
  let c256_i32_19 : BitVec 32 := 256#32
  let c0_i32_8 : BitVec 32 := 0#32
  let c1_i32_9 : BitVec 32 := 1#32
  let arg13 : BitVec 32 := Scf.iv c0_i32_8 c1_i32_9 k0_t3
  let v37 : BitVec 32 := Scalar.muli c256_i32_19 arg13
  let c0_i32_20 : BitVec 32 := 0#32
  let v38 : BitVec 32 := Scalar.addi v37 c0_i32_20
  v38
def k0_off14 (k0_t3 : Fin k0_t3_loop.trips) (c0_i32_20 : BitVec 32) : Fin 2 → Nat :=
  let c16 : Index := 16#32
  let c256_i32_19 : BitVec 32 := 256#32
  let c0_i32_8 : BitVec 32 := 0#32
  let c1_i32_9 : BitVec 32 := 1#32
  let arg13 : BitVec 32 := Scf.iv c0_i32_8 c1_i32_9 k0_t3
  let v37 : BitVec 32 := Scalar.muli c256_i32_19 arg13
  let v38 : BitVec 32 := Scalar.addi v37 c0_i32_20
  let v39 : BitVec 32 := v38
  let v40 : Index := Scalar.indexCast v39
  ![16, v40.toNat]
def k0_mult7 (k0_t3 : Fin k0_t3_loop.trips) : BitVec 32 :=
  let c256_i32_23 : BitVec 32 := 256#32
  let c0_i32_8 : BitVec 32 := 0#32
  let c1_i32_9 : BitVec 32 := 1#32
  let arg13 : BitVec 32 := Scf.iv c0_i32_8 c1_i32_9 k0_t3
  let v46 : BitVec 32 := Scalar.muli c256_i32_23 arg13
  let c128_i32_24 : BitVec 32 := 128#32
  let v47 : BitVec 32 := Scalar.addi v46 c128_i32_24
  v47
def k0_mult8 (k0_t3 : Fin k0_t3_loop.trips) : BitVec 32 :=
  let c256_i32_27 : BitVec 32 := 256#32
  let c0_i32_8 : BitVec 32 := 0#32
  let c1_i32_9 : BitVec 32 := 1#32
  let arg13 : BitVec 32 := Scf.iv c0_i32_8 c1_i32_9 k0_t3
  let v55 : BitVec 32 := Scalar.muli c256_i32_27 arg13
  let c0_i32_28 : BitVec 32 := 0#32
  let v56 : BitVec 32 := Scalar.addi v55 c0_i32_28
  v56
def k0_off15 (k0_t3 : Fin k0_t3_loop.trips) (c0_i32_28 : BitVec 32) : Fin 2 → Nat :=
  let c32 : Index := 32#32
  let c256_i32_27 : BitVec 32 := 256#32
  let c0_i32_8 : BitVec 32 := 0#32
  let c1_i32_9 : BitVec 32 := 1#32
  let arg13 : BitVec 32 := Scf.iv c0_i32_8 c1_i32_9 k0_t3
  let v55 : BitVec 32 := Scalar.muli c256_i32_27 arg13
  let v56 : BitVec 32 := Scalar.addi v55 c0_i32_28
  let v57 : BitVec 32 := v56
  let v58 : Index := Scalar.indexCast v57
  ![32, v58.toNat]
def k0_mult9 (k0_t3 : Fin k0_t3_loop.trips) : BitVec 32 :=
  let c256_i32_31 : BitVec 32 := 256#32
  let c0_i32_8 : BitVec 32 := 0#32
  let c1_i32_9 : BitVec 32 := 1#32
  let arg13 : BitVec 32 := Scf.iv c0_i32_8 c1_i32_9 k0_t3
  let v64 : BitVec 32 := Scalar.muli c256_i32_31 arg13
  let c128_i32_32 : BitVec 32 := 128#32
  let v65 : BitVec 32 := Scalar.addi v64 c128_i32_32
  v65
def k0_mult10 (k0_t3 : Fin k0_t3_loop.trips) : BitVec 32 :=
  let c256_i32_35 : BitVec 32 := 256#32
  let c0_i32_8 : BitVec 32 := 0#32
  let c1_i32_9 : BitVec 32 := 1#32
  let arg13 : BitVec 32 := Scf.iv c0_i32_8 c1_i32_9 k0_t3
  let v73 : BitVec 32 := Scalar.muli c256_i32_35 arg13
  let c0_i32_36 : BitVec 32 := 0#32
  let v74 : BitVec 32 := Scalar.addi v73 c0_i32_36
  v74
def k0_off16 (k0_t3 : Fin k0_t3_loop.trips) (c0_i32_36 : BitVec 32) : Fin 2 → Nat :=
  let c48 : Index := 48#32
  let c256_i32_35 : BitVec 32 := 256#32
  let c0_i32_8 : BitVec 32 := 0#32
  let c1_i32_9 : BitVec 32 := 1#32
  let arg13 : BitVec 32 := Scf.iv c0_i32_8 c1_i32_9 k0_t3
  let v73 : BitVec 32 := Scalar.muli c256_i32_35 arg13
  let v74 : BitVec 32 := Scalar.addi v73 c0_i32_36
  let v75 : BitVec 32 := v74
  let v76 : Index := Scalar.indexCast v75
  ![48, v76.toNat]
def k0_mult11 (k0_t3 : Fin k0_t3_loop.trips) : BitVec 32 :=
  let c256_i32_39 : BitVec 32 := 256#32
  let c0_i32_8 : BitVec 32 := 0#32
  let c1_i32_9 : BitVec 32 := 1#32
  let arg13 : BitVec 32 := Scf.iv c0_i32_8 c1_i32_9 k0_t3
  let v82 : BitVec 32 := Scalar.muli c256_i32_39 arg13
  let c128_i32_40 : BitVec 32 := 128#32
  let v83 : BitVec 32 := Scalar.addi v82 c128_i32_40
  v83
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg1 c36_i32
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.minsi arg1 c36_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let c37_i32 : BitVec 32 := 37#32
  let v1 : BitVec 32 := Scalar.subi arg1 c37_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

abbrev stage0_0 : Fin 2 → Memref sig .tc .vmem S768x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3584x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S80x80 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x18944 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S1536x3584 : Shape := ⟨2, ![1536, 3584]⟩
abbrev S3584x4736 : Shape := ⟨2, ![3584, 4736]⟩
abbrev S18944 : Shape := ⟨1, ![18944]⟩
abbrev S74x74 : Shape := ⟨2, ![74, 74]⟩
abbrev S256x256 : Shape := ⟨2, ![256, 256]⟩
abbrev S4736x4 : Shape := ⟨2, ![4736, 4]⟩
abbrev S_ : Shape := ⟨0, ![]⟩
abbrev S1536x4736 : Shape := ⟨2, ![1536, 4736]⟩
abbrev S4736x1 : Shape := ⟨2, ![4736, 1]⟩
abbrev S4736 : Shape := ⟨1, ![4736]⟩
abbrev S1x4736 : Shape := ⟨2, ![1, 4736]⟩
abbrev S1536x4736x1 : Shape := ⟨3, ![1536, 4736, 1]⟩
abbrev S1536x4736x4 : Shape := ⟨3, ![1536, 4736, 4]⟩
abbrev S1536x18944 : Shape := ⟨2, ![1536, 18944]⟩
abbrev S1536x74x256 : Shape := ⟨3, ![1536, 74, 256]⟩
abbrev S1536x256x74 : Shape := ⟨3, ![1536, 256, 74]⟩

abbrev nBuf : Space → Nat
  | .hbm => 85
  | .vmem => 0
  | .smem => 0
  | _ => 0

abbrev bufTy : (tb : Table) → Fin (tcTables nBuf tb) → BufTy
  | .hbm, ⟨0, _⟩ => ⟨S1536x3584, .bf16⟩
  | .hbm, ⟨1, _⟩ => ⟨S3584x4736, .i8⟩
  | .hbm, ⟨2, _⟩ => ⟨S18944, .f32⟩
  | .hbm, ⟨3, _⟩ => ⟨S74x74, .bf16⟩
  | .hbm, ⟨4, _⟩ => ⟨S256x256, .bf16⟩
  | .hbm, ⟨5, _⟩ => ⟨S3584x4736, .i32⟩
  | .hbm, ⟨6, _⟩ => ⟨S4736x4, .f32⟩
  | .hbm, ⟨7, _⟩ => ⟨S_, .i32⟩
  | .hbm, ⟨8, _⟩ => ⟨S3584x4736, .i32⟩
  | .hbm, ⟨9, _⟩ => ⟨S3584x4736, .i32⟩
  | .hbm, ⟨10, _⟩ => ⟨S_, .i32⟩
  | .hbm, ⟨11, _⟩ => ⟨S3584x4736, .i32⟩
  | .hbm, ⟨12, _⟩ => ⟨S3584x4736, .i32⟩
  | .hbm, ⟨13, _⟩ => ⟨S3584x4736, .bf16⟩
  | .hbm, ⟨14, _⟩ => ⟨S_, .bf16⟩
  | .hbm, ⟨15, _⟩ => ⟨S3584x4736, .bf16⟩
  | .hbm, ⟨16, _⟩ => ⟨S3584x4736, .bf16⟩
  | .hbm, ⟨17, _⟩ => ⟨S1536x4736, .f32⟩
  | .hbm, ⟨18, _⟩ => ⟨S4736x1, .f32⟩
  | .hbm, ⟨19, _⟩ => ⟨S4736, .f32⟩
  | .hbm, ⟨20, _⟩ => ⟨S1x4736, .f32⟩
  | .hbm, ⟨21, _⟩ => ⟨S1536x4736, .f32⟩
  | .hbm, ⟨22, _⟩ => ⟨S1536x4736, .f32⟩
  | .hbm, ⟨23, _⟩ => ⟨S_, .i32⟩
  | .hbm, ⟨24, _⟩ => ⟨S3584x4736, .i32⟩
  | .hbm, ⟨25, _⟩ => ⟨S3584x4736, .i32⟩
  | .hbm, ⟨26, _⟩ => ⟨S_, .i32⟩
  | .hbm, ⟨27, _⟩ => ⟨S3584x4736, .i32⟩
  | .hbm, ⟨28, _⟩ => ⟨S3584x4736, .i32⟩
  | .hbm, ⟨29, _⟩ => ⟨S3584x4736, .bf16⟩
  | .hbm, ⟨30, _⟩ => ⟨S_, .bf16⟩
  | .hbm, ⟨31, _⟩ => ⟨S3584x4736, .bf16⟩
  | .hbm, ⟨32, _⟩ => ⟨S3584x4736, .bf16⟩
  | .hbm, ⟨33, _⟩ => ⟨S1536x4736, .f32⟩
  | .hbm, ⟨34, _⟩ => ⟨S4736x1, .f32⟩
  | .hbm, ⟨35, _⟩ => ⟨S4736, .f32⟩
  | .hbm, ⟨36, _⟩ => ⟨S1x4736, .f32⟩
  | .hbm, ⟨37, _⟩ => ⟨S1536x4736, .f32⟩
  | .hbm, ⟨38, _⟩ => ⟨S1536x4736, .f32⟩
  | .hbm, ⟨39, _⟩ => ⟨S_, .i32⟩
  | .hbm, ⟨40, _⟩ => ⟨S3584x4736, .i32⟩
  | .hbm, ⟨41, _⟩ => ⟨S3584x4736, .i32⟩
  | .hbm, ⟨42, _⟩ => ⟨S_, .i32⟩
  | .hbm, ⟨43, _⟩ => ⟨S3584x4736, .i32⟩
  | .hbm, ⟨44, _⟩ => ⟨S3584x4736, .i32⟩
  | .hbm, ⟨45, _⟩ => ⟨S3584x4736, .bf16⟩
  | .hbm, ⟨46, _⟩ => ⟨S_, .bf16⟩
  | .hbm, ⟨47, _⟩ => ⟨S3584x4736, .bf16⟩
  | .hbm, ⟨48, _⟩ => ⟨S3584x4736, .bf16⟩
  | .hbm, ⟨49, _⟩ => ⟨S1536x4736, .f32⟩
  | .hbm, ⟨50, _⟩ => ⟨S4736x1, .f32⟩
  | .hbm, ⟨51, _⟩ => ⟨S4736, .f32⟩
  | .hbm, ⟨52, _⟩ => ⟨S1x4736, .f32⟩
  | .hbm, ⟨53, _⟩ => ⟨S1536x4736, .f32⟩
  | .hbm, ⟨54, _⟩ => ⟨S1536x4736, .f32⟩
  | .hbm, ⟨55, _⟩ => ⟨S_, .i32⟩
  | .hbm, ⟨56, _⟩ => ⟨S3584x4736, .i32⟩
  | .hbm, ⟨57, _⟩ => ⟨S3584x4736, .i32⟩
  | .hbm, ⟨58, _⟩ => ⟨S_, .i32⟩
  | .hbm, ⟨59, _⟩ => ⟨S3584x4736, .i32⟩
  | .hbm, ⟨60, _⟩ => ⟨S3584x4736, .i32⟩
  | .hbm, ⟨61, _⟩ => ⟨S3584x4736, .bf16⟩
  | .hbm, ⟨62, _⟩ => ⟨S_, .bf16⟩
  | .hbm, ⟨63, _⟩ => ⟨S3584x4736, .bf16⟩
  | .hbm, ⟨64, _⟩ => ⟨S3584x4736, .bf16⟩
  | .hbm, ⟨65, _⟩ => ⟨S1536x4736, .f32⟩
  | .hbm, ⟨66, _⟩ => ⟨S4736x1, .f32⟩
  | .hbm, ⟨67, _⟩ => ⟨S4736, .f32⟩
  | .hbm, ⟨68, _⟩ => ⟨S1x4736, .f32⟩
  | .hbm, ⟨69, _⟩ => ⟨S1536x4736, .f32⟩
  | .hbm, ⟨70, _⟩ => ⟨S1536x4736, .f32⟩
  | .hbm, ⟨71, _⟩ => ⟨S1536x4736x1, .f32⟩
  | .hbm, ⟨72, _⟩ => ⟨S1536x4736x1, .f32⟩
  | .hbm, ⟨73, _⟩ => ⟨S1536x4736x1, .f32⟩
  | .hbm, ⟨74, _⟩ => ⟨S1536x4736x1, .f32⟩
  | .hbm, ⟨75, _⟩ => ⟨S1536x4736x4, .f32⟩
  | .hbm, ⟨76, _⟩ => ⟨S1536x18944, .f32⟩
  | .hbm, ⟨77, _⟩ => ⟨S1536x18944, .bf16⟩
  | .hbm, ⟨78, _⟩ => ⟨S1536x74x256, .bf16⟩
  | .hbm, ⟨79, _⟩ => ⟨S1536x74x256, .f32⟩
  | .hbm, ⟨80, _⟩ => ⟨S1536x74x256, .bf16⟩
  | .hbm, ⟨81, _⟩ => ⟨S1536x256x74, .f32⟩
  | .hbm, ⟨82, _⟩ => ⟨S1536x74x256, .f32⟩
  | .hbm, ⟨83, _⟩ => ⟨S1536x74x256, .bf16⟩
  | .hbm, ⟨84, _⟩ => ⟨S1536x18944, .bf16⟩
  | _, _ => ⟨S1536x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_7 : Ref sig .tc := ⟨.hbm, 55, rfl⟩
abbrev main_v41 : Ref sig .tc := ⟨.hbm, 56, rfl⟩
abbrev main_v42 : Ref sig .tc := ⟨.hbm, 57, rfl⟩
abbrev main_c_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== RotateIn.lean ====
abbrev S1536x3584 : Shape := ⟨2, ![1536, 3584]⟩
abbrev S56x56 : Shape := ⟨2, ![56, 56]⟩
abbrev S64x64 : Shape := ⟨2, ![64, 64]⟩
abbrev S4x4 : Shape := ⟨2, ![4, 4]⟩
abbrev S_ : Shape := ⟨0, ![]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S56x64 : Shape := ⟨2, ![56, 64]⟩
abbrev S128x3584 : Shape := ⟨2, ![128, 3584]⟩
abbrev S64x40x128 : Shape := ⟨3, ![64, 40, 128]⟩
abbrev S3584x128 : Shape := ⟨2, ![3584, 128]⟩
abbrev S8x128 : Shape := ⟨2, ![8, 128]⟩
abbrev S128x256 : Shape := ⟨2, ![128, 256]⟩
abbrev S8x1x128 : Shape := ⟨3, ![8, 1, 128]⟩
abbrev S1x32x128 : Shape := ⟨3, ![1, 32, 128]⟩
abbrev S32x128 : Shape := ⟨2, ![32, 128]⟩
abbrev S64x128 : Shape := ⟨2, ![64, 128]⟩
abbrev S64x256 : Shape := ⟨2, ![64, 256]⟩
abbrev S56x256 : Shape := ⟨2, ![56, 256]⟩
abbrev S56x128 : Shape := ⟨2, ![56, 128]⟩
abbrev S16x128 : Shape := ⟨2, ![16, 128]⟩

abbrev nBuf : Space → Nat
  | .hbm => 21
  | .vmem => 8
  | .smem => 0
  | _ => 0

abbrev bufTy : (tb : Table) → Fin (tcTables nBuf tb) → BufTy
  | .hbm, ⟨0, _⟩ => ⟨S1536x3584, .bf16⟩
  | .hbm, ⟨1, _⟩ => ⟨S56x56, .bf16⟩
  | .hbm, ⟨2, _⟩ => ⟨S64x64, .bf16⟩
  | .hbm, ⟨3, _⟩ => ⟨S4x4, .i32⟩
  | .hbm, ⟨4, _⟩ => ⟨S4x4, .i32⟩
  | .hbm, ⟨5, _⟩ => ⟨S_, .i32⟩
  | .hbm, ⟨6, _⟩ => ⟨S4x4, .i32⟩
  | .hbm, ⟨7, _⟩ => ⟨S4x4, .i32⟩
  | .hbm, ⟨8, _⟩ => ⟨S4x4, .i1⟩
  | .hbm, ⟨9, _⟩ => ⟨S4x4, .bf16⟩
  | .hbm, ⟨10, _⟩ => ⟨S4x1x4x1, .bf16⟩
  | .hbm, ⟨11, _⟩ => ⟨S1x64x1x64, .bf16⟩
  | .hbm, ⟨12, _⟩ => ⟨S4x64x4x64, .bf16⟩
  | .hbm, ⟨13, _⟩ => ⟨S4x64x4x64, .bf16⟩
  | .hbm, ⟨14, _⟩ => ⟨S4x64x4x64, .bf16⟩
  | .hbm, ⟨15, _⟩ => ⟨S256x256, .bf16⟩
  | .hbm, ⟨16, _⟩ => ⟨S56x56, .bf16⟩
  | .hbm, ⟨17, _⟩ => ⟨S_, .i32⟩
  | .hbm, ⟨18, _⟩ => ⟨S_, .bf16⟩
  | .hbm, ⟨19, _⟩ => ⟨S56x64, .bf16⟩
  | .hbm, ⟨20, _⟩ => ⟨S1536x3584, .bf16⟩
  | .local _ .vmem, ⟨0, _⟩ => ⟨S128x3584, .bf16⟩
  | .local _ .vmem, ⟨1, _⟩ => ⟨S128x3584, .bf16⟩
  | .local _ .vmem, ⟨2, _⟩ => ⟨S256x256, .bf16⟩
  | .local _ .vmem, ⟨3, _⟩ => ⟨S56x64, .bf16⟩
  | .local _ .vmem, ⟨4, _⟩ => ⟨S128x3584, .bf16⟩
  | .local _ .vmem, ⟨5, _⟩ => ⟨S128x3584, .bf16⟩
  | .local _ .vmem, ⟨6, _⟩ => ⟨S64x40x128, .i32⟩
  | .local _ .vmem, ⟨7, _⟩ => ⟨S3584x128, .f32⟩
  | _, _ => ⟨S1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![12], ![false]⟩

@[reducible] def k0_t1_loop : Scf.Loop 32 :=
  let c0_i32_2 : BitVec 32 := 0#32
  let c14_i32 : BitVec 32 := 14#32
  let v10 : BitVec 32 := Scalar.addi c0_i32_2 c14_i32
  let c1_i32 : BitVec 32 := 1#32
  ⟨c0_i32_2, v10, c1_i32⟩
def k0_mult1 (k0_t1 : Fin k0_t1_loop.trips) : BitVec 32 :=
  let c256_i32 : BitVec 32 := 256#32
  let c0_i32_2 : BitVec 32 := 0#32
  let c1_i32 : BitVec 32 := 1#32
  let arg7 : BitVec 32 := Scf.iv c0_i32_2 c1_i32 k0_t1
  let v13 : BitVec 32 := Scalar.muli c256_i32 arg7
  v13
def k0_off1 (k0_t1 : Fin k0_t1_loop.trips) : Fin 2 → Nat :=
  let c0_10 : Index := 0#32
  let c256_i32 : BitVec 32 := 256#32
  let c0_i32_2 : BitVec 32 := 0#32
  let c1_i32 : BitVec 32 := 1#32
  let arg7 : BitVec 32 := Scf.iv c0_i32_2 c1_i32 k0_t1
  let v13 : BitVec 32 := Scalar.muli c256_i32 arg7
  let v14 : BitVec 32 := v13
  let v15 : Index := Scalar.indexCast v14
  ![0, v15.toNat]
def k0_off2 (k0_t1 : Fin k0_t1_loop.trips) (c0_i32_16 : BitVec 32) : Fin 3 → Nat :=
  let c0_17 : Index := 0#32
  let c2_i32 : BitVec 32 := 2#32
  let c0_i32_2 : BitVec 32 := 0#32
  let c1_i32 : BitVec 32 := 1#32
  let arg7 : BitVec 32 := Scf.iv c0_i32_2 c1_i32 k0_t1
  let v27 : BitVec 32 := Scalar.muli c2_i32 arg7
  let v28 : BitVec 32 := Scalar.addi v27 c0_i32_16
  let v29 : Index := Scalar.indexCast v28
  let c0_18 : Index := 0#32
  ![0, v29.toNat, 0]
def k0_off3 (k0_t1 : Fin k0_t1_loop.trips) (c0_i32_22 : BitVec 32) : Fin 3 → Nat :=
  let c8 : Index := 8#32
  let c2_i32_21 : BitVec 32 := 2#32
  let c0_i32_2 : BitVec 32 := 0#32
  let c1_i32 : BitVec 32 := 1#32
  let arg7 : BitVec 32 := Scf.iv c0_i32_2 c1_i32 k0_t1
  let v40 : BitVec 32 := Scalar.muli c2_i32_21 arg7
  let v41 : BitVec 32 := Scalar.addi v40 c0_i32_22
  let v42 : Index := Scalar.indexCast v41
  let c0_23 : Index := 0#32
  ![8, v42.toNat, 0]
def k0_off4 (k0_t1 : Fin k0_t1_loop.trips) (c0_i32_27 : BitVec 32) : Fin 3 → Nat :=
  let c16 : Index := 16#32
  let c2_i32_26 : BitVec 32 := 2#32
  let c0_i32_2 : BitVec 32 := 0#32
  let c1_i32 : BitVec 32 := 1#32
  let arg7 : BitVec 32 := Scf.iv c0_i32_2 c1_i32 k0_t1
  let v53 : BitVec 32 := Scalar.muli c2_i32_26 arg7
  let v54 : BitVec 32 := Scalar.addi v53 c0_i32_27
  let v55 : Index := Scalar.indexCast v54
  let c0_28 : Index := 0#32
  ![16, v55.toNat, 0]
def k0_off5 (k0_t1 : Fin k0_t1_loop.trips) (c0_i32_32 : BitVec 32) : Fin 3 → Nat :=
  let c24 : Index := 24#32
  let c2_i32_31 : BitVec 32 := 2#32
  let c0_i32_2 : BitVec 32 := 0#32
  let c1_i32 : BitVec 32 := 1#32
  let arg7 : BitVec 32 := Scf.iv c0_i32_2 c1_i32 k0_t1
  let v66 : BitVec 32 := Scalar.muli c2_i32_31 arg7
  let v67 : BitVec 32 := Scalar.addi v66 c0_i32_32
  let v68 : Index := Scalar.indexCast v67
  let c0_33 : Index := 0#32
  ![24, v68.toNat, 0]
def k0_off6 (k0_t1 : Fin k0_t1_loop.trips) (c0_i32_37 : BitVec 32) : Fin 3 → Nat :=
  let c32 : Index := 32#32
  let c2_i32_36 : BitVec 32 := 2#32
  let c0_i32_2 : BitVec 32 := 0#32
  let c1_i32 : BitVec 32 := 1#32
  let arg7 : BitVec 32 := Scf.iv c0_i32_2 c1_i32 k0_t1
  let v79 : BitVec 32 := Scalar.muli c2_i32_36 arg7
  let v80 : BitVec 32 := Scalar.addi v79 c0_i32_37
  let v81 : Index := Scalar.indexCast v80
  let c0_38 : Index := 0#32
  ![32, v81.toNat, 0]
def k0_off7 (k0_t1 : Fin k0_t1_loop.trips) (c0_i32_42 : BitVec 32) : Fin 3 → Nat :=
  let c40 : Index := 40#32
  let c2_i32_41 : BitVec 32 := 2#32
  let c0_i32_2 : BitVec 32 := 0#32
  let c1_i32 : BitVec 32 := 1#32
  let arg7 : BitVec 32 := Scf.iv c0_i32_2 c1_i32 k0_t1
  let v92 : BitVec 32 := Scalar.muli c2_i32_41 arg7
  let v93 : BitVec 32 := Scalar.addi v92 c0_i32_42
  let v94 : Index := Scalar.indexCast v93
  let c0_43 : Index := 0#32
  ![40, v94.toNat, 0]
def k0_off8 (k0_t1 : Fin k0_t1_loop.trips) (c0_i32_47 : BitVec 32) : Fin 3 → Nat :=
  let c48 : Index := 48#32
  let c2_i32_46 : BitVec 32 := 2#32
  let c0_i32_2 : BitVec 32 := 0#32
  let c1_i32 : BitVec 32 := 1#32
  let arg7 : BitVec 32 := Scf.iv c0_i32_2 c1_i32 k0_t1
  let v105 : BitVec 32 := Scalar.muli c2_i32_46 arg7
  let v106 : BitVec 32 := Scalar.addi v105 c0_i32_47
  let v107 : Index := Scalar.indexCast v106
  let c0_48 : Index := 0#32
  ![48, v107.toNat, 0]
def k0_off9 (k0_t1 : Fin k0_t1_loop.trips) (c0_i32_52 : BitVec 32) : Fin 3 → Nat :=
  let c56 : Index := 56#32
  let c2_i32_51 : BitVec 32 := 2#32
  let c0_i32_2 : BitVec 32 := 0#32
  let c1_i32 : BitVec 32 := 1#32
  let arg7 : BitVec 32 := Scf.iv c0_i32_2 c1_i32 k0_t1
  let v118 : BitVec 32 := Scalar.muli c2_i32_51 arg7
  let v119 : BitVec 32 := Scalar.addi v118 c0_i32_52
  let v120 : Index := Scalar.indexCast v119
  let c0_53 : Index := 0#32
  ![56, v120.toNat, 0]
@[reducible] def k0_t2_loop : Scf.Loop 32 :=
  let c0_i32_4 : BitVec 32 := 0#32
  let c32_i32 : BitVec 32 := 32#32
  let v11 : BitVec 32 := Scalar.addi c0_i32_4 c32_i32
  let c1_i32_5 : BitVec 32 := 1#32
  ⟨c0_i32_4, v11, c1_i32_5⟩
def k0_off10 (k0_t2 : Fin k0_t2_loop.trips) (c0_i32_10 : BitVec 32) : Fin 3 → Nat :=
  let c2_i32 : BitVec 32 := 2#32
  let c0_i32_4 : BitVec 32 := 0#32
  let c1_i32_5 : BitVec 32 := 1#32
  let arg7 : BitVec 32 := Scf.iv c0_i32_4 c1_i32_5 k0_t2
  let v13 : BitVec 32 := Scalar.muli c2_i32 arg7
  let v14 : BitVec 32 := Scalar.addi v13 c0_i32_10
  let v15 : Index := Scalar.indexCast v14
  let c0_11 : Index := 0#32
  let c0_12 : Index := 0#32
  ![v15.toNat, 0, 0]
def k0_mult2 (k0_t2 : Fin k0_t2_loop.trips) : BitVec 32 :=
  let c2_i32_20 : BitVec 32 := 2#32
  let c0_i32_4 : BitVec 32 := 0#32
  let c1_i32_5 : BitVec 32 := 1#32
  let arg7 : BitVec 32 := Scf.iv c0_i32_4 c1_i32_5 k0_t2
  let v30 : BitVec 32 := Scalar.muli c2_i32_20 arg7
  let c0_i32_21 : BitVec 32 := 0#32
  let v31 : BitVec 32 := Scalar.addi v30 c0_i32_21
  let c56_i32 : BitVec 32 := 56#32
  let v32 : BitVec 32 := Scalar.muli v31 c56_i32
  v32
def k0_off11 (k0_t2 : Fin k0_t2_loop.trips) (c0_i32_21 : BitVec 32) : Fin 2 → Nat :=
  let c2_i32_20 : BitVec 32 := 2#32
  let c0_i32_4 : BitVec 32 := 0#32
  let c1_i32_5 : BitVec 32 := 1#32
  let arg7 : BitVec 32 := Scf.iv c0_i32_4 c1_i32_5 k0_t2
  let v30 : BitVec 32 := Scalar.muli c2_i32_20 arg7
  let v31 : BitVec 32 := Scalar.addi v30 c0_i32_21
  let c56_i32 : BitVec 32 := 56#32
  let v32 : BitVec 32 := Scalar.muli v31 c56_i32
  let v33 : BitVec 32 := v32
  let v34 : Index := Scalar.indexCast v33
  let c0_22 : Index := 0#32
  ![v34.toNat, 0]
def k0_mult3 (k0_t2 : Fin k0_t2_loop.trips) : BitVec 32 :=
  let c2_i32_23 : BitVec 32 := 2#32
  let c0_i32_4 : BitVec 32 := 0#32
  let c1_i32_5 : BitVec 32 := 1#32
  let arg7 : BitVec 32 := Scf.iv c0_i32_4 c1_i32_5 k0_t2
  let v39 : BitVec 32 := Scalar.muli c2_i32_23 arg7
  let c1_i32_24 : BitVec 32 := 1#32
  let v40 : BitVec 32 := Scalar.addi v39 c1_i32_24
  let c56_i32_25 : BitVec 32 := 56#32
  let v41 : BitVec 32 := Scalar.muli v40 c56_i32_25
  v41
@[reducible] def k0_t3_loop : Scf.Loop 32 :=
  let c0_i32_7 : BitVec 32 := 0#32
  let c28_i32 : BitVec 32 := 28#32
  let v12 : BitVec 32 := Scalar.addi c0_i32_7 c28_i32
  let c1_i32_8 : BitVec 32 := 1#32
  ⟨c0_i32_7, v12, c1_i32_8⟩
def k0_off12 (k0_t3 : Fin k0_t3_loop.trips) (c0_i32_10 : BitVec 32) : Fin 2 → Nat :=
  let c2_i32 : BitVec 32 := 2#32
  let c0_i32_7 : BitVec 32 := 0#32
  let c1_i32_8 : BitVec 32 := 1#32
  let arg7 : BitVec 32 := Scf.iv c0_i32_7 c1_i32_8 k0_t3
  let v13 : BitVec 32 := Scalar.muli c2_i32 arg7
  let v14 : BitVec 32 := Scalar.addi c0_i32_10 v13
  let v15 : Index := Scalar.indexCast v14
  let c0_11 : Index := 0#32
  ![v15.toNat, 0]
def k0_off13 (k0_t3 : Fin k0_t3_loop.trips) (c0_i32_13 : BitVec 32) : Fin 2 → Nat :=
  let c2_i32_12 : BitVec 32 := 2#32
  let c0_i32_7 : BitVec 32 := 0#32
  let c1_i32_8 : BitVec 32 := 1#32
  let arg7 : BitVec 32 := Scf.iv c0_i32_7 c1_i32_8 k0_t3
  let v17 : BitVec 32 := Scalar.muli c2_i32_12 arg7
  let v18 : BitVec 32 := Scalar.addi c0_i32_13 v17
  let c1_i32_14 : BitVec 32 := 1#32
  let v19 : BitVec 32 := Scalar.addi v18 c1_i32_14
  let v20 : Index := Scalar.indexCast v19
  let c0_15 : Index := 0#32
  ![v20.toNat, 0]
def k0_mult4 (k0_t3 : Fin k0_t3_loop.trips) : BitVec 32 :=
  let c128_i32 : BitVec 32 := 128#32
  let c0_i32_7 : BitVec 32 := 0#32
  let c1_i32_8 : BitVec 32 := 1#32
  let arg7 : BitVec 32 := Scf.iv c0_i32_7 c1_i32_8 k0_t3
  let v28 : BitVec 32 := Scalar.muli c128_i32 arg7
  v28
def k0_off14 (k0_t3 : Fin k0_t3_loop.trips) : Fin 2 → Nat :=
  let c0_18 : Index := 0#32
  let c128_i32 : BitVec 32 := 128#32
  let c0_i32_7 : BitVec 32 := 0#32
  let c1_i32_8 : BitVec 32 := 1#32
  let arg7 : BitVec 32 := Scf.iv c0_i32_7 c1_i32_8 k0_t3
  let v28 : BitVec 32 := Scalar.muli c128_i32 arg7
  let v29 : BitVec 32 := v28
  let v30 : Index := Scalar.indexCast v29
  ![0, v30.toNat]
def k0_mult5 (k0_t3 : Fin k0_t3_loop.trips) : BitVec 32 :=
  let c128_i32_27 : BitVec 32 := 128#32
  let c0_i32_7 : BitVec 32 := 0#32
  let c1_i32_8 : BitVec 32 := 1#32
  let arg7 : BitVec 32 := Scf.iv c0_i32_7 c1_i32_8 k0_t3
  let v47 : BitVec 32 := Scalar.muli c128_i32_27 arg7
  v47
def k0_off15 (k0_t3 : Fin k0_t3_loop.trips) : Fin 2 → Nat :=
  let c16 : Index := 16#32
  let c128_i32_27 : BitVec 32 := 128#32
  let c0_i32_7 : BitVec 32 := 0#32
  let c1_i32_8 : BitVec 32 := 1#32
  let arg7 : BitVec 32 := Scf.iv c0_i32_7 c1_i32_8 k0_t3
  let v47 : BitVec 32 := Scalar.muli c128_i32_27 arg7
  let v48 : BitVec 32 := v47
  let v49 : Index := Scalar.indexCast v48
  ![16, v49.toNat]
def k0_mult6 (k0_t3 : Fin k0_t3_loop.trips) : BitVec 32 :=
  let c128_i32_36 : BitVec 32 := 128#32
  let c0_i32_7 : BitVec 32 := 0#32
  let c1_i32_8 : BitVec 32 := 1#32
  let arg7 : BitVec 32 := Scf.iv c0_i32_7 c1_i32_8 k0_t3
  let v66 : BitVec 32 := Scalar.muli c128_i32_36 arg7
  v66
def k0_off16 (k0_t3 : Fin k0_t3_loop.trips) : Fin 2 → Nat :=
  let c32 : Index := 32#32
  let c128_i32_36 : BitVec 32 := 128#32
  let c0_i32_7 : BitVec 32 := 0#32
  let c1_i32_8 : BitVec 32 := 1#32
  let arg7 : BitVec 32 := Scf.iv c0_i32_7 c1_i32_8 k0_t3
  let v66 : BitVec 32 := Scalar.muli c128_i32_36 arg7
  let v67 : BitVec 32 := v66
  let v68 : Index := Scalar.indexCast v67
  ![32, v68.toNat]
def k0_mult7 (k0_t3 : Fin k0_t3_loop.trips) : BitVec 32 :=
  let c128_i32_45 : BitVec 32 := 128#32
  let c0_i32_7 : BitVec 32 := 0#32
  let c1_i32_8 : BitVec 32 := 1#32
  let arg7 : BitVec 32 := Scf.iv c0_i32_7 c1_i32_8 k0_t3
  let v85 : BitVec 32 := Scalar.muli c128_i32_45 arg7
  v85
def k0_off17 (k0_t3 : Fin k0_t3_loop.trips) : Fin 2 → Nat :=
  let c48 : Index := 48#32
  let c128_i32_45 : BitVec 32 := 128#32
  let c0_i32_7 : BitVec 32 := 0#32
  let c1_i32_8 : BitVec 32 := 1#32
  let arg7 : BitVec 32 := Scf.iv c0_i32_7 c1_i32_8 k0_t3
  let v85 : BitVec 32 := Scalar.muli c128_i32_45 arg7
  let v86 : BitVec 32 := v85
  let v87 : Index := Scalar.indexCast v86
  ![48, v87.toNat]
def k0_mult8 (k0_t3 : Fin k0_t3_loop.trips) : BitVec 32 :=
  let c128_i32_54 : BitVec 32 := 128#32
  let c0_i32_7 : BitVec 32 := 0#32
  let c1_i32_8 : BitVec 32 := 1#32
  let arg7 : BitVec 32 := Scf.iv c0_i32_7 c1_i32_8 k0_t3
  let v104 : BitVec 32 := Scalar.muli c128_i32_54 arg7
  v104
def k0_off18 (k0_t3 : Fin k0_t3_loop.trips) : Fin 2 → Nat :=
  let c64 : Index := 64#32
  let c128_i32_54 : BitVec 32 := 128#32
  let c0_i32_7 : BitVec 32 := 0#32
  let c1_i32_8 : BitVec 32 := 1#32
  let arg7 : BitVec 32 := Scf.iv c0_i32_7 c1_i32_8 k0_t3
  let v104 : BitVec 32 := Scalar.muli c128_i32_54 arg7
  let v105 : BitVec 32 := v104
  let v106 : Index := Scalar.indexCast v105
  ![64, v106.toNat]
def k0_mult9 (k0_t3 : Fin k0_t3_loop.trips) : BitVec 32 :=
  let c128_i32_63 : BitVec 32 := 128#32
  let c0_i32_7 : BitVec 32 := 0#32
  let c1_i32_8 : BitVec 32 := 1#32
  let arg7 : BitVec 32 := Scf.iv c0_i32_7 c1_i32_8 k0_t3
  let v123 : BitVec 32 := Scalar.muli c128_i32_63 arg7
  v123
def k0_off19 (k0_t3 : Fin k0_t3_loop.trips) : Fin 2 → Nat :=
  let c80 : Index := 80#32
  let c128_i32_63 : BitVec 32 := 128#32
  let c0_i32_7 : BitVec 32 := 0#32
  let c1_i32_8 : BitVec 32 := 1#32
  let arg7 : BitVec 32 := Scf.iv c0_i32_7 c1_i32_8 k0_t3
  let v123 : BitVec 32 := Scalar.muli c128_i32_63 arg7
  let v124 : BitVec 32 := v123
  let v125 : Index := Scalar.indexCast v124
  ![80, v125.toNat]
def k0_mult10 (k0_t3 : Fin k0_t3_loop.trips) : BitVec 32 :=
  let c128_i32_72 : BitVec 32 := 128#32
  let c0_i32_7 : BitVec 32 := 0#32
  let c1_i32_8 : BitVec 32 := 1#32
  let arg7 : BitVec 32 := Scf.iv c0_i32_7 c1_i32_8 k0_t3
  let v142 : BitVec 32 := Scalar.muli c128_i32_72 arg7
  v142
def k0_off20 (k0_t3 : Fin k0_t3_loop.trips) : Fin 2 → Nat :=
  let c96 : Index := 96#32
  let c128_i32_72 : BitVec 32 := 128#32
  let c0_i32_7 : BitVec 32 := 0#32
  let c1_i32_8 : BitVec 32 := 1#32
  let arg7 : BitVec 32 := Scf.iv c0_i32_7 c1_i32_8 k0_t3
  let v142 : BitVec 32 := Scalar.muli c128_i32_72 arg7
  let v143 : BitVec 32 := v142
  let v144 : Index := Scalar.indexCast v143
  ![96, v144.toNat]
def k0_mult11 (k0_t3 : Fin k0_t3_loop.trips) : BitVec 32 :=
  let c128_i32_81 : BitVec 32 := 128#32
  let c0_i32_7 : BitVec 32 := 0#32
  let c1_i32_8 : BitVec 32 := 1#32
  let arg7 : BitVec 32 := Scf.iv c0_i32_7 c1_i32_8 k0_t3
  let v161 : BitVec 32 := Scalar.muli c128_i32_81 arg7
  v161
def k0_off21 (k0_t3 : Fin k0_t3_loop.trips) : Fin 2 → Nat :=
  let c112 : Index := 112#32
  let c128_i32_81 : BitVec 32 := 128#32
  let c0_i32_7 : BitVec 32 := 0#32
  let c1_i32_8 : BitVec 32 := 1#32
  let arg7 : BitVec 32 := Scf.iv c0_i32_7 c1_i32_8 k0_t3
  let v161 : BitVec 32 := Scalar.muli c128_i32_81 arg7
  let v162 : BitVec 32 := v161
  let v163 : Index := Scalar.indexCast v162
  ![112, v163.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S56x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RotateInIdeal.lean ====
abbrev S1536x3584 : Shape := ⟨2, ![1536, 3584]⟩
abbrev S56x56 : Shape := ⟨2, ![56, 56]⟩
abbrev S64x64 : Shape := ⟨2, ![64, 64]⟩
abbrev S4x4 : Shape := ⟨2, ![4, 4]⟩
abbrev S_ : Shape := ⟨0, ![]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S56x64 : Shape := ⟨2, ![56, 64]⟩
abbrev S128x3584 : Shape := ⟨2, ![128, 3584]⟩
abbrev S64x40x128 : Shape := ⟨3, ![64, 40, 128]⟩
abbrev S64x40x2x128 : Shape := ⟨4, ![64, 40, 2, 128]⟩
abbrev S64x40x1x128 : Shape := ⟨4, ![64, 40, 1, 128]⟩
abbrev S3584x128 : Shape := ⟨2, ![3584, 128]⟩
abbrev S8x128 : Shape := ⟨2, ![8, 128]⟩
abbrev S128x256 : Shape := ⟨2, ![128, 256]⟩
abbrev S8x1x128 : Shape := ⟨3, ![8, 1, 128]⟩
abbrev S8x1x2x128 : Shape := ⟨4, ![8, 1, 2, 128]⟩
abbrev S8x1x1x128 : Shape := ⟨4, ![8, 1, 1, 128]⟩
abbrev S1x32x128 : Shape := ⟨3, ![1, 32, 128]⟩
abbrev S1x32x2x128 : Shape := ⟨4, ![1, 32, 2, 128]⟩
abbrev S1x32x1x128 : Shape := ⟨4, ![1, 32, 1, 128]⟩
abbrev S32x128 : Shape := ⟨2, ![32, 128]⟩
abbrev S64x128 : Shape := ⟨2, ![64, 128]⟩
abbrev S64x256 : Shape := ⟨2, ![64, 256]⟩
abbrev S56x256 : Shape := ⟨2, ![56, 256]⟩
abbrev S56x128 : Shape := ⟨2, ![56, 128]⟩
abbrev S16x128 : Shape := ⟨2, ![16, 128]⟩

abbrev nBuf : Space → Nat
  | .hbm => 21
  | .vmem => 8
  | .smem => 0
  | _ => 0

abbrev bufTy : (tb : Table) → Fin (tcTables nBuf tb) → BufTy
  | .hbm, ⟨0, _⟩ => ⟨S1536x3584, .bf16⟩
  | .hbm, ⟨1, _⟩ => ⟨S56x56, .bf16⟩
  | .hbm, ⟨2, _⟩ => ⟨S64x64, .bf16⟩
  | .hbm, ⟨3, _⟩ => ⟨S4x4, .i32⟩
  | .hbm, ⟨4, _⟩ => ⟨S4x4, .i32⟩
  | .hbm, ⟨5, _⟩ => ⟨S_, .i32⟩
  | .hbm, ⟨6, _⟩ => ⟨S4x4, .i32⟩
  | .hbm, ⟨7, _⟩ => ⟨S4x4, .i32⟩
  | .hbm, ⟨8, _⟩ => ⟨S4x4, .i1⟩
  | .hbm, ⟨9, _⟩ => ⟨S4x4, .bf16⟩
  | .hbm, ⟨10, _⟩ => ⟨S4x1x4x1, .bf16⟩
  | .hbm, ⟨11, _⟩ => ⟨S1x64x1x64, .bf16⟩
  | .hbm, ⟨12, _⟩ => ⟨S4x64x4x64, .bf16⟩
  | .hbm, ⟨13, _⟩ => ⟨S4x64x4x64, .bf16⟩
  | .hbm, ⟨14, _⟩ => ⟨S4x64x4x64, .bf16⟩
  | .hbm, ⟨15, _⟩ => ⟨S256x256, .bf16⟩
  | .hbm, ⟨16, _⟩ => ⟨S56x56, .bf16⟩
  | .hbm, ⟨17, _⟩ => ⟨S_, .i32⟩
  | .hbm, ⟨18, _⟩ => ⟨S_, .bf16⟩
  | .hbm, ⟨19, _⟩ => ⟨S56x64, .bf16⟩
  | .hbm, ⟨20, _⟩ => ⟨S1536x3584, .bf16⟩
  | .local _ .vmem, ⟨0, _⟩ => ⟨S128x3584, .bf16⟩
  | .local _ .vmem, ⟨1, _⟩ => ⟨S128x3584, .bf16⟩
  | .local _ .vmem, ⟨2, _⟩ => ⟨S256x256, .bf16⟩
  | .local _ .vmem, ⟨3, _⟩ => ⟨S56x64, .bf16⟩
  | .local _ .vmem, ⟨4, _⟩ => ⟨S128x3584, .bf16⟩
  | .local _ .vmem, ⟨5, _⟩ => ⟨S128x3584, .bf16⟩
  | .local _ .vmem, ⟨6, _⟩ => ⟨S64x40x2x128, .bf16⟩
  | .local _ .vmem, ⟨7, _⟩ => ⟨S3584x128, .f32⟩
  | _, _ => ⟨S1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![12], ![false]⟩

@[reducible] def k0_t1_loop : Scf.Loop 32 :=
  let c0_i32_2 : BitVec 32 := 0#32
  let c14_i32 : BitVec 32 := 14#32
  let v10 : BitVec 32 := Scalar.addi c0_i32_2 c14_i32
  let c1_i32 : BitVec 32 := 1#32
  ⟨c0_i32_2, v10, c1_i32⟩
def k0_mult1 (k0_t1 : Fin k0_t1_loop.trips) : BitVec 32 :=
  let c256_i32 : BitVec 32 := 256#32
  let c0_i32_2 : BitVec 32 := 0#32
  let c1_i32 : BitVec 32 := 1#32
  let arg7 : BitVec 32 := Scf.iv c0_i32_2 c1_i32 k0_t1
  let v13 : BitVec 32 := Scalar.muli c256_i32 arg7
  v13
def k0_off1 (k0_t1 : Fin k0_t1_loop.trips) : Fin 2 → Nat :=
  let c0_10 : Index := 0#32
  let c256_i32 : BitVec 32 := 256#32
  let c0_i32_2 : BitVec 32 := 0#32
  let c1_i32 : BitVec 32 := 1#32
  let arg7 : BitVec 32 := Scf.iv c0_i32_2 c1_i32 k0_t1
  let v13 : BitVec 32 := Scalar.muli c256_i32 arg7
  let v14 : BitVec 32 := v13
  let v15 : Index := Scalar.indexCast v14
  ![0, v15.toNat]
def k0_off2 (k0_t1 : Fin k0_t1_loop.trips) (c0_i32_16 : BitVec 32) : Fin 4 → Nat :=
  let c0_17 : Index := 0#32
  let c2_i32 : BitVec 32 := 2#32
  let c0_i32_2 : BitVec 32 := 0#32
  let c1_i32 : BitVec 32 := 1#32
  let arg7 : BitVec 32 := Scf.iv c0_i32_2 c1_i32 k0_t1
  let v27 : BitVec 32 := Scalar.muli c2_i32 arg7
  let v28 : BitVec 32 := Scalar.addi v27 c0_i32_16
  let v29 : Index := Scalar.indexCast v28
  let c0_18 : Index := 0#32
  ![0, v29.toNat, 0, 0]
def k0_off3 (k0_t1 : Fin k0_t1_loop.trips) (c0_i32_22 : BitVec 32) : Fin 4 → Nat :=
  let c8 : Index := 8#32
  let c2_i32_21 : BitVec 32 := 2#32
  let c0_i32_2 : BitVec 32 := 0#32
  let c1_i32 : BitVec 32 := 1#32
  let arg7 : BitVec 32 := Scf.iv c0_i32_2 c1_i32 k0_t1
  let v40 : BitVec 32 := Scalar.muli c2_i32_21 arg7
  let v41 : BitVec 32 := Scalar.addi v40 c0_i32_22
  let v42 : Index := Scalar.indexCast v41
  let c0_23 : Index := 0#32
  ![8, v42.toNat, 0, 0]
def k0_off4 (k0_t1 : Fin k0_t1_loop.trips) (c0_i32_27 : BitVec 32) : Fin 4 → Nat :=
  let c16 : Index := 16#32
  let c2_i32_26 : BitVec 32 := 2#32
  let c0_i32_2 : BitVec 32 := 0#32
  let c1_i32 : BitVec 32 := 1#32
  let arg7 : BitVec 32 := Scf.iv c0_i32_2 c1_i32 k0_t1
  let v53 : BitVec 32 := Scalar.muli c2_i32_26 arg7
  let v54 : BitVec 32 := Scalar.addi v53 c0_i32_27
  let v55 : Index := Scalar.indexCast v54
  let c0_28 : Index := 0#32
  ![16, v55.toNat, 0, 0]
def k0_off5 (k0_t1 : Fin k0_t1_loop.trips) (c0_i32_32 : BitVec 32) : Fin 4 → Nat :=
  let c24 : Index := 24#32
  let c2_i32_31 : BitVec 32 := 2#32
  let c0_i32_2 : BitVec 32 := 0#32
  let c1_i32 : BitVec 32 := 1#32
  let arg7 : BitVec 32 := Scf.iv c0_i32_2 c1_i32 k0_t1
  let v66 : BitVec 32 := Scalar.muli c2_i32_31 arg7
  let v67 : BitVec 32 := Scalar.addi v66 c0_i32_32
  let v68 : Index := Scalar.indexCast v67
  let c0_33 : Index := 0#32
  ![24, v68.toNat, 0, 0]
def k0_off6 (k0_t1 : Fin k0_t1_loop.trips) (c0_i32_37 : BitVec 32) : Fin 4 → Nat :=
  let c32 : Index := 32#32
  let c2_i32_36 : BitVec 32 := 2#32
  let c0_i32_2 : BitVec 32 := 0#32
  let c1_i32 : BitVec 32 := 1#32
  let arg7 : BitVec 32 := Scf.iv c0_i32_2 c1_i32 k0_t1
  let v79 : BitVec 32 := Scalar.muli c2_i32_36 arg7
  let v80 : BitVec 32 := Scalar.addi v79 c0_i32_37
  let v81 : Index := Scalar.indexCast v80
  let c0_38 : Index := 0#32
  ![32, v81.toNat, 0, 0]
def k0_off7 (k0_t1 : Fin k0_t1_loop.trips) (c0_i32_42 : BitVec 32) : Fin 4 → Nat :=
  let c40 : Index := 40#32
  let c2_i32_41 : BitVec 32 := 2#32
  let c0_i32_2 : BitVec 32 := 0#32
  let c1_i32 : BitVec 32 := 1#32
  let arg7 : BitVec 32 := Scf.iv c0_i32_2 c1_i32 k0_t1
  let v92 : BitVec 32 := Scalar.muli c2_i32_41 arg7
  let v93 : BitVec 32 := Scalar.addi v92 c0_i32_42
  let v94 : Index := Scalar.indexCast v93
  let c0_43 : Index := 0#32
  ![40, v94.toNat, 0, 0]
def k0_off8 (k0_t1 : Fin k0_t1_loop.trips) (c0_i32_47 : BitVec 32) : Fin 4 → Nat :=
  let c48 : Index := 48#32
  let c2_i32_46 : BitVec 32 := 2#32
  let c0_i32_2 : BitVec 32 := 0#32
  let c1_i32 : BitVec 32 := 1#32
  let arg7 : BitVec 32 := Scf.iv c0_i32_2 c1_i32 k0_t1
  let v105 : BitVec 32 := Scalar.muli c2_i32_46 arg7
  let v106 : BitVec 32 := Scalar.addi v105 c0_i32_47
  let v107 : Index := Scalar.indexCast v106
  let c0_48 : Index := 0#32
  ![48, v107.toNat, 0, 0]
def k0_off9 (k0_t1 : Fin k0_t1_loop.trips) (c0_i32_52 : BitVec 32) : Fin 4 → Nat :=
  let c56 : Index := 56#32
  let c2_i32_51 : BitVec 32 := 2#32
  let c0_i32_2 : BitVec 32 := 0#32
  let c1_i32 : BitVec 32 := 1#32
  let arg7 : BitVec 32 := Scf.iv c0_i32_2 c1_i32 k0_t1
  let v118 : BitVec 32 := Scalar.muli c2_i32_51 arg7
  let v119 : BitVec 32 := Scalar.addi v118 c0_i32_52
  let v120 : Index := Scalar.indexCast v119
  let c0_53 : Index := 0#32
  ![56, v120.toNat, 0, 0]
@[reducible] def k0_t2_loop : Scf.Loop 32 :=
  let c0_i32_4 : BitVec 32 := 0#32
  let c32_i32 : BitVec 32 := 32#32
  let v11 : BitVec 32 := Scalar.addi c0_i32_4 c32_i32
  let c1_i32_5 : BitVec 32 := 1#32
  ⟨c0_i32_4, v11, c1_i32_5⟩
def k0_off10 (k0_t2 : Fin k0_t2_loop.trips) (c0_i32_10 : BitVec 32) : Fin 4 → Nat :=
  let c2_i32 : BitVec 32 := 2#32
  let c0_i32_4 : BitVec 32 := 0#32
  let c1_i32_5 : BitVec 32 := 1#32
  let arg7 : BitVec 32 := Scf.iv c0_i32_4 c1_i32_5 k0_t2
  let v13 : BitVec 32 := Scalar.muli c2_i32 arg7
  let v14 : BitVec 32 := Scalar.addi v13 c0_i32_10
  let v15 : Index := Scalar.indexCast v14
  let c0_11 : Index := 0#32
  let c0_12 : Index := 0#32
  ![v15.toNat, 0, 0, 0]
def k0_mult2 (k0_t2 : Fin k0_t2_loop.trips) : BitVec 32 :=
  let c2_i32_20 : BitVec 32 := 2#32
  let c0_i32_4 : BitVec 32 := 0#32
  let c1_i32_5 : BitVec 32 := 1#32
  let arg7 : BitVec 32 := Scf.iv c0_i32_4 c1_i32_5 k0_t2
  let v30 : BitVec 32 := Scalar.muli c2_i32_20 arg7
  let c0_i32_21 : BitVec 32 := 0#32
  let v31 : BitVec 32 := Scalar.addi v30 c0_i32_21
  let c56_i32 : BitVec 32 := 56#32
  let v32 : BitVec 32 := Scalar.muli v31 c56_i32
  v32
def k0_off11 (k0_t2 : Fin k0_t2_loop.trips) (c0_i32_21 : BitVec 32) : Fin 2 → Nat :=
  let c2_i32_20 : BitVec 32 := 2#32
  let c0_i32_4 : BitVec 32 := 0#32
  let c1_i32_5 : BitVec 32 := 1#32
  let arg7 : BitVec 32 := Scf.iv c0_i32_4 c1_i32_5 k0_t2
  let v30 : BitVec 32 := Scalar.muli c2_i32_20 arg7
  let v31 : BitVec 32 := Scalar.addi v30 c0_i32_21
  let c56_i32 : BitVec 32 := 56#32
  let v32 : BitVec 32 := Scalar.muli v31 c56_i32
  let v33 : BitVec 32 := v32
  let v34 : Index := Scalar.indexCast v33
  let c0_22 : Index := 0#32
  ![v34.toNat, 0]
def k0_mult3 (k0_t2 : Fin k0_t2_loop.trips) : BitVec 32 :=
  let c2_i32_23 : BitVec 32 := 2#32
  let c0_i32_4 : BitVec 32 := 0#32
  let c1_i32_5 : BitVec 32 := 1#32
  let arg7 : BitVec 32 := Scf.iv c0_i32_4 c1_i32_5 k0_t2
  let v39 : BitVec 32 := Scalar.muli c2_i32_23 arg7
  let c1_i32_24 : BitVec 32 := 1#32
  let v40 : BitVec 32 := Scalar.addi v39 c1_i32_24
  let c56_i32_25 : BitVec 32 := 56#32
  let v41 : BitVec 32 := Scalar.muli v40 c56_i32_25
  v41
@[reducible] def k0_t3_loop : Scf.Loop 32 :=
  let c0_i32_7 : BitVec 32 := 0#32
  let c28_i32 : BitVec 32 := 28#32
  let v12 : BitVec 32 := Scalar.addi c0_i32_7 c28_i32
  let c1_i32_8 : BitVec 32 := 1#32
  ⟨c0_i32_7, v12, c1_i32_8⟩
def k0_off12 (k0_t3 : Fin k0_t3_loop.trips) (c0_i32_10 : BitVec 32) : Fin 2 → Nat :=
  let c2_i32 : BitVec 32 := 2#32
  let c0_i32_7 : BitVec 32 := 0#32
  let c1_i32_8 : BitVec 32 := 1#32
  let arg7 : BitVec 32 := Scf.iv c0_i32_7 c1_i32_8 k0_t3
  let v13 : BitVec 32 := Scalar.muli c2_i32 arg7
  let v14 : BitVec 32 := Scalar.addi c0_i32_10 v13
  let v15 : Index := Scalar.indexCast v14
  let c0_11 : Index := 0#32
  ![v15.toNat, 0]
def k0_off13 (k0_t3 : Fin k0_t3_loop.trips) (c0_i32_13 : BitVec 32) : Fin 2 → Nat :=
  let c2_i32_12 : BitVec 32 := 2#32
  let c0_i32_7 : BitVec 32 := 0#32
  let c1_i32_8 : BitVec 32 := 1#32
  let arg7 : BitVec 32 := Scf.iv c0_i32_7 c1_i32_8 k0_t3
  let v17 : BitVec 32 := Scalar.muli c2_i32_12 arg7
  let v18 : BitVec 32 := Scalar.addi c0_i32_13 v17
  let c1_i32_14 : BitVec 32 := 1#32
  let v19 : BitVec 32 := Scalar.addi v18 c1_i32_14
  let v20 : Index := Scalar.indexCast v19
  let c0_15 : Index := 0#32
  ![v20.toNat, 0]
def k0_mult4 (k0_t3 : Fin k0_t3_loop.trips) : BitVec 32 :=
  let c128_i32 : BitVec 32 := 128#32
  let c0_i32_7 : BitVec 32 := 0#32
  let c1_i32_8 : BitVec 32 := 1#32
  let arg7 : BitVec 32 := Scf.iv c0_i32_7 c1_i32_8 k0_t3
  let v28 : BitVec 32 := Scalar.muli c128_i32 arg7
  v28
def k0_off14 (k0_t3 : Fin k0_t3_loop.trips) : Fin 2 → Nat :=
  let c0_18 : Index := 0#32
  let c128_i32 : BitVec 32 := 128#32
  let c0_i32_7 : BitVec 32 := 0#32
  let c1_i32_8 : BitVec 32 := 1#32
  let arg7 : BitVec 32 := Scf.iv c0_i32_7 c1_i32_8 k0_t3
  let v28 : BitVec 32 := Scalar.muli c128_i32 arg7
  let v29 : BitVec 32 := v28
  let v30 : Index := Scalar.indexCast v29
  ![0, v30.toNat]
def k0_mult5 (k0_t3 : Fin k0_t3_loop.trips) : BitVec 32 :=
  let c128_i32_27 : BitVec 32 := 128#32
  let c0_i32_7 : BitVec 32 := 0#32
  let c1_i32_8 : BitVec 32 := 1#32
  let arg7 : BitVec 32 := Scf.iv c0_i32_7 c1_i32_8 k0_t3
  let v47 : BitVec 32 := Scalar.muli c128_i32_27 arg7
  v47
def k0_off15 (k0_t3 : Fin k0_t3_loop.trips) : Fin 2 → Nat :=
  let c16 : Index := 16#32
  let c128_i32_27 : BitVec 32 := 128#32
  let c0_i32_7 : BitVec 32 := 0#32
  let c1_i32_8 : BitVec 32 := 1#32
  let arg7 : BitVec 32 := Scf.iv c0_i32_7 c1_i32_8 k0_t3
  let v47 : BitVec 32 := Scalar.muli c128_i32_27 arg7
  let v48 : BitVec 32 := v47
  let v49 : Index := Scalar.indexCast v48
  ![16, v49.toNat]
def k0_mult6 (k0_t3 : Fin k0_t3_loop.trips) : BitVec 32 :=
  let c128_i32_36 : BitVec 32 := 128#32
  let c0_i32_7 : BitVec 32 := 0#32
  let c1_i32_8 : BitVec 32 := 1#32
  let arg7 : BitVec 32 := Scf.iv c0_i32_7 c1_i32_8 k0_t3
  let v66 : BitVec 32 := Scalar.muli c128_i32_36 arg7
  v66
def k0_off16 (k0_t3 : Fin k0_t3_loop.trips) : Fin 2 → Nat :=
  let c32 : Index := 32#32
  let c128_i32_36 : BitVec 32 := 128#32
  let c0_i32_7 : BitVec 32 := 0#32
  let c1_i32_8 : BitVec 32 := 1#32
  let arg7 : BitVec 32 := Scf.iv c0_i32_7 c1_i32_8 k0_t3
  let v66 : BitVec 32 := Scalar.muli c128_i32_36 arg7
  let v67 : BitVec 32 := v66
  let v68 : Index := Scalar.indexCast v67
  ![32, v68.toNat]
def k0_mult7 (k0_t3 : Fin k0_t3_loop.trips) : BitVec 32 :=
  let c128_i32_45 : BitVec 32 := 128#32
  let c0_i32_7 : BitVec 32 := 0#32
  let c1_i32_8 : BitVec 32 := 1#32
  let arg7 : BitVec 32 := Scf.iv c0_i32_7 c1_i32_8 k0_t3
  let v85 : BitVec 32 := Scalar.muli c128_i32_45 arg7
  v85
def k0_off17 (k0_t3 : Fin k0_t3_loop.trips) : Fin 2 → Nat :=
  let c48 : Index := 48#32
  let c128_i32_45 : BitVec 32 := 128#32
  let c0_i32_7 : BitVec 32 := 0#32
  let c1_i32_8 : BitVec 32 := 1#32
  let arg7 : BitVec 32 := Scf.iv c0_i32_7 c1_i32_8 k0_t3
  let v85 : BitVec 32 := Scalar.muli c128_i32_45 arg7
  let v86 : BitVec 32 := v85
  let v87 : Index := Scalar.indexCast v86
  ![48, v87.toNat]
def k0_mult8 (k0_t3 : Fin k0_t3_loop.trips) : BitVec 32 :=
  let c128_i32_54 : BitVec 32 := 128#32
  let c0_i32_7 : BitVec 32 := 0#32
  let c1_i32_8 : BitVec 32 := 1#32
  let arg7 : BitVec 32 := Scf.iv c0_i32_7 c1_i32_8 k0_t3
  let v104 : BitVec 32 := Scalar.muli c128_i32_54 arg7
  v104
def k0_off18 (k0_t3 : Fin k0_t3_loop.trips) : Fin 2 → Nat :=
  let c64 : Index := 64#32
  let c128_i32_54 : BitVec 32 := 128#32
  let c0_i32_7 : BitVec 32 := 0#32
  let c1_i32_8 : BitVec 32 := 1#32
  let arg7 : BitVec 32 := Scf.iv c0_i32_7 c1_i32_8 k0_t3
  let v104 : BitVec 32 := Scalar.muli c128_i32_54 arg7
  let v105 : BitVec 32 := v104
  let v106 : Index := Scalar.indexCast v105
  ![64, v106.toNat]
def k0_mult9 (k0_t3 : Fin k0_t3_loop.trips) : BitVec 32 :=
  let c128_i32_63 : BitVec 32 := 128#32
  let c0_i32_7 : BitVec 32 := 0#32
  let c1_i32_8 : BitVec 32 := 1#32
  let arg7 : BitVec 32 := Scf.iv c0_i32_7 c1_i32_8 k0_t3
  let v123 : BitVec 32 := Scalar.muli c128_i32_63 arg7
  v123
def k0_off19 (k0_t3 : Fin k0_t3_loop.trips) : Fin 2 → Nat :=
  let c80 : Index := 80#32
  let c128_i32_63 : BitVec 32 := 128#32
  let c0_i32_7 : BitVec 32 := 0#32
  let c1_i32_8 : BitVec 32 := 1#32
  let arg7 : BitVec 32 := Scf.iv c0_i32_7 c1_i32_8 k0_t3
  let v123 : BitVec 32 := Scalar.muli c128_i32_63 arg7
  let v124 : BitVec 32 := v123
  let v125 : Index := Scalar.indexCast v124
  ![80, v125.toNat]
def k0_mult10 (k0_t3 : Fin k0_t3_loop.trips) : BitVec 32 :=
  let c128_i32_72 : BitVec 32 := 128#32
  let c0_i32_7 : BitVec 32 := 0#32
  let c1_i32_8 : BitVec 32 := 1#32
  let arg7 : BitVec 32 := Scf.iv c0_i32_7 c1_i32_8 k0_t3
  let v142 : BitVec 32 := Scalar.muli c128_i32_72 arg7
  v142
def k0_off20 (k0_t3 : Fin k0_t3_loop.trips) : Fin 2 → Nat :=
  let c96 : Index := 96#32
  let c128_i32_72 : BitVec 32 := 128#32
  let c0_i32_7 : BitVec 32 := 0#32
  let c1_i32_8 : BitVec 32 := 1#32
  let arg7 : BitVec 32 := Scf.iv c0_i32_7 c1_i32_8 k0_t3
  let v142 : BitVec 32 := Scalar.muli c128_i32_72 arg7
  let v143 : BitVec 32 := v142
  let v144 : Index := Scalar.indexCast v143
  ![96, v144.toNat]
def k0_mult11 (k0_t3 : Fin k0_t3_loop.trips) : BitVec 32 :=
  let c128_i32_81 : BitVec 32 := 128#32
  let c0_i32_7 : BitVec 32 := 0#32
  let c1_i32_8 : BitVec 32 := 1#32
  let arg7 : BitVec 32 := Scf.iv c0_i32_7 c1_i32_8 k0_t3
  let v161 : BitVec 32 := Scalar.muli c128_i32_81 arg7
  v161
def k0_off21 (k0_t3 : Fin k0_t3_loop.trips) : Fin 2 → Nat :=
  let c112 : Index := 112#32
  let c128_i32_81 : BitVec 32 := 128#32
  let c0_i32_7 : BitVec 32 := 0#32
  let c1_i32_8 : BitVec 32 := 1#32
  let arg7 : BitVec 32 := Scf.iv c0_i32_7 c1_i32_8 k0_t3
  let v161 : BitVec 32 := Scalar.muli c128_i32_81 arg7
  let v162 : BitVec 32 := v161
  let v163 : Index := Scalar.indexCast v162
  ![112, v163.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S56x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceInIdeal.lean ====
abbrev S1536x3584 : Shape := ⟨2, ![1536, 3584]⟩
abbrev S56x56 : Shape := ⟨2, ![56, 56]⟩
abbrev S64x64 : Shape := ⟨2, ![64, 64]⟩
abbrev S1536x56x64 : Shape := ⟨3, ![1536, 56, 64]⟩
abbrev S56x1536x64 : Shape := ⟨3, ![56, 1536, 64]⟩

abbrev nBuf : Space → Nat
  | .hbm => 10
  | .vmem => 0
  | .smem => 0
  | _ => 0

abbrev bufTy : (tb : Table) → Fin (tcTables nBuf tb) → BufTy
  | .hbm, ⟨0, _⟩ => ⟨S1536x3584, .bf16⟩
  | .hbm, ⟨1, _⟩ => ⟨S56x56, .bf16⟩
  | .hbm, ⟨2, _⟩ => ⟨S64x64, .bf16⟩
  | .hbm, ⟨3, _⟩ => ⟨S1536x56x64, .bf16⟩
  | .hbm, ⟨4, _⟩ => ⟨S1536x56x64, .f32⟩
  | .hbm, ⟨5, _⟩ => ⟨S1536x56x64, .bf16⟩
  | .hbm, ⟨6, _⟩ => ⟨S56x1536x64, .f32⟩
  | .hbm, ⟨7, _⟩ => ⟨S1536x56x64, .f32⟩
  | .hbm, ⟨8, _⟩ => ⟨S1536x56x64, .bf16⟩
  | .hbm, ⟨9, _⟩ => ⟨S1536x3584, .bf16⟩
  | _, _ => ⟨S1536x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Decode.lean ====
/- What one packed word decodes to: the bits of a field, set into the pattern of a bf16 number, less the field's bias. -/
module

public import Idealize.ShloMosaic.Lib.IdealHost
public import Idealize.ShloMosaic.Lib.BitcastFour
public import Idealize.ShloMosaic.Lib.BitcastPair
public import Idealize.ShloMosaic.Lib.Pointwise

@[expose] public section

noncomputable section

namespace Cert.Decode

open Idealize.ShloMosaic

/-- Two bits of a byte: field `k`. -/
def bits (b : BitVec 8) (k : Nat) : BitVec 2 := b.extractLsb' (2 * k) 2

/-- Field `k` of a byte as a weight: its two bits read as a number, less three halves. -/
def weight (b : BitVec 8) (k : Nat) : EReal := ((((bits b k).toNat : ℝ) - 3 / 2 : ℝ) : EReal)

/-- The sixteen bits that a masked and completed word holds in half `p`: `par` chooses the byte of the half, `hi` the
    pair of fields, `fi` the field of the pair. -/
theorem half_bits (p par hi fi : Fin 2) (w : BitVec 32) (b : BitVec 8)
    (hb : ∀ q, q < 8 → w.getLsbD (8 * (2 * p.val + par.val) + q) = b.getLsbD q) :
    (((if hi = 0 then (if par = 0 then w <<< 1 else w >>> 7) else (if par = 0 then w >>> 1 else w >>> 9)) &&&
      (if hi = 0 then (if fi = 0 then 393222#32 else 1572888#32) else (if fi = 0 then 1572888#32 else 6291552#32))) |||
      (if hi = 0 then (if fi = 0 then 1115701888#32 else 1098924416#32)
        else (if fi = 0 then 1098924416#32 else 1082146944#32))).extractLsb' (16 * p.val) 16
    = (if hi = 0 then (if fi = 0 then 0x4280#16 else 0x4180#16) else (if fi = 0 then 0x4180#16 else 0x4080#16))
      ||| ((bits b (2 * hi.val + fi.val)).setWidth 16 <<< (1 + 2 * (hi.val + fi.val))) := by
  unfold bits
  apply BitVec.eq_of_getLsbD_eq
  intro i hi'
  have h0 := hb 0 (by omega); have h1 := hb 1 (by omega); have h2 := hb 2 (by omega); have h3 := hb 3 (by omega)
  have h4 := hb 4 (by omega); have h5 := hb 5 (by omega); have h6 := hb 6 (by omega); have h7 := hb 7 (by omega)
  clear hb
  fin_cases p <;> fin_cases par <;> fin_cases hi <;> fin_cases fi <;> simp at h0 h1 h2 h3 h4 h5 h6 h7 <;>
    interval_cases i <;> simp [*]

/-- Every two-bit word is one of four. -/
theorem two_bits : ∀ x : BitVec 2, x = 0#2 ∨ x = 1#2 ∨ x = 2#2 ∨ x = 3#2 := by decide

/-- The number that pattern denotes, less the bias of its field, is the two bits less three halves. -/
theorem value_bits (hi fi : Fin 2) (x : BitVec 2) :
    Ideal.ofBits .bf16 ((if hi = 0 then (if fi = 0 then 0x4280#16 else 0x4180#16) else (if fi = 0 then 0x4180#16 else 0x4080#16))
      ||| (x.setWidth 16 <<< (1 + 2 * (hi.val + fi.val))))
    - Ideal.ofBits .f32 (if hi = 0 then (if fi = 0 then 0x42830000#32 else 0x418C0000#32)
        else (if fi = 0 then 0x418C0000#32 else 0x40B00000#32))
    = (((x.toNat : ℝ) - 3 / 2 : ℝ) : EReal) := by
  rcases two_bits x with rfl | rfl | rfl | rfl <;> fin_cases hi <;> fin_cases fi <;>
    simp [Ideal.ofBits, Ideal.ieee, -EReal.coe_mul] <;> norm_num [← EReal.coe_sub] <;>
    (rw [show (1 : EReal) = ((1 : ℝ) : EReal) from rfl, ← EReal.coe_sub, ← EReal.coe_neg]; congr 1; norm_num)

/-- The reference's field: the byte widened, shifted right, masked, read as a number, less three halves. -/
theorem reference_bits : ∀ b : BitVec 8, ∀ k : Fin 4,
    (((b.setWidth 32).sshiftRight' (BitVec.ofNat 32 (2 * k.val))) &&& 3#32).toInt = (((bits b k.val).toNat : Nat) : Int) := by
  decide +kernel

end Cert.Decode

end
-- ==== Proof.Unpack.lean ====
/- The unpacked weights: what each store of one trip of the unpacking loop holds, entry by entry. -/
module

public import proofs.«01_k».proof.Proof.Gen.KernelIdeal.Value
public import proofs.«01_k».proof.Proof.Decode
public import Idealize.ShloMosaic.Lib.Pointwise
public import Idealize.ShloMosaic.Lib.BitcastFour
public import Idealize.ShloMosaic.Lib.KernelVsHost

@[expose] public section

set_option maxRecDepth 16384

noncomputable section

namespace Cert.KernelIdeal.Unpack

open Idealize.ShloMosaic Idealize.ShloMosaic.TcCoe Idealize.SL.Sem
open Cert.KernelIdeal Cert.KernelIdeal.Gen Cert.Decode

/-- Which field of a pair a lane carries: the first below lane 64, the second from there on. -/
def lane (l : Fin 128) : Fin 2 := if l.val < 64 then 0 else 1

/-- The lane mask, below lane 64. -/
theorem mask_apply (a : Fin 8) (l : Fin 128) : k0_pay25 (ix2 a l) = if l.val < 64 then 1#1 else 0#1 := by
  show IntOp.cmpi .slt (iota .tc S8x128 32 [1] iota_S8x128_d1_w32 (ix2 a l)) 64#32 = _
  rw [iota_single_apply]
  show IntOp.cmpi .slt (BitVec.ofNat 32 l.val) 64#32 = _
  revert l; decide

/-- The same mask on sixteen rows. -/
theorem mask16_apply (a : Fin 16) (l : Fin 128) : k0_pay30 (ix2 a l) = if l.val < 64 then 1#1 else 0#1 := by
  show IntOp.cmpi .slt (iota .tc S16x128 32 [1] iota_S16x128_d1_w32 (ix2 a l)) 64#32 = _
  rw [iota_single_apply]
  show IntOp.cmpi .slt (BitVec.ofNat 32 l.val) 64#32 = _
  revert l; decide

/-- A selection by the lane mask. -/
theorem select_mask {α : Type} (x y : S8x128.Idx → α) (a : Fin 8) (l : Fin 128) :
    select k0_pay25 x y (ix2 a l) = if lane l = 0 then x (ix2 a l) else y (ix2 a l) := by
  show (if k0_pay25 (ix2 a l) = 1#1 then _ else _) = _
  rw [mask_apply]; unfold lane
  by_cases h : l.val < 64 <;> simp [h]

/-- A selection by the sixteen-row lane mask. -/
theorem select_mask16 {α : Type} (x y : S16x128.Idx → α) (a : Fin 16) (l : Fin 128) :
    select k0_pay30 x y (ix2 a l) = if lane l = 0 then x (ix2 a l) else y (ix2 a l) := by
  show (if k0_pay30 (ix2 a l) = 1#1 then _ else _) = _
  rw [mask16_apply]; unfold lane
  by_cases h : l.val < 64 <;> simp [h]

/-- The words of a 32-row group, bit by bit. -/
theorem word_bit (v : Vec Ideal S32x128 .i8) (a : Fin 8) (l : Fin 128) (q : Nat) (hq : q < 32) :
    (k0_pay11 (F := Ideal) v (ix2 a l)).getLsbD q = (v (ix2 ⟨4 * a.val + q / 8, by omega⟩ l)).getLsbD (q % 8) := by
  unfold k0_pay11
  refine (bitcast_8_32_getLsbD v bitcasts_S32x128_w8_S8x128_w32 (ix2 a l) q hq).trans ?_
  refine congrArg (fun y => (v y).getLsbD (q % 8)) (funext fun c => ?_)
  match c with
  | ⟨0, _⟩ => exact Fin.ext (Shape.Bitcasts.srcIdx_row bitcasts_S32x128_w8_S8x128_w32 (ix2 a l) _ _ ⟨0, Nat.zero_lt_two⟩ rfl)
  | ⟨1, _⟩ => exact Fin.ext (Shape.Bitcasts.srcIdx_other bitcasts_S32x128_w8_S8x128_w32 (ix2 a l) _ _ ⟨1, Nat.one_lt_two⟩
      (by show ¬ 1 + 2 = 2; omega))

/-- The words rotated by half the lanes. -/
theorem rotated (v : Vec Ideal S32x128 .i8) (a : Fin 8) (l : Fin 128) :
    k0_pay12 (F := Ideal) v (ix2 a l) = k0_pay11 (F := Ideal) v (ix2 a ⟨(l.val + 64) % 128, by omega⟩) := by
  unfold k0_pay12
  rw [dynamicRotate_apply 1 64#32 _ _ _ (ix2 a ⟨(l.val + 64) % 128, by omega⟩)]
  intro b
  match b with
  | ⟨0, _⟩ => rfl
  | ⟨1, _⟩ => show (l.val + 64) % 128 = (l.val + 128 - 64) % 128; omega

/-- The words of the first column block: both halves of the lanes carry lanes 0 to 63. -/
theorem first_block (v : Vec Ideal S32x128 .i8) (a : Fin 8) (l : Fin 128) (q : Nat) (hq : q < 32) :
    (k0_pay13 (F := Ideal) k0_pay25 v (ix2 a l)).getLsbD q
      = (v (ix2 ⟨4 * a.val + q / 8, by omega⟩ ⟨l.val % 64, by omega⟩)).getLsbD (q % 8) := by
  show (select k0_pay25 (k0_pay11 (F := Ideal) v) (k0_pay12 (F := Ideal) v) (ix2 a l)).getLsbD q = _
  rw [select_mask, rotated]; unfold lane
  by_cases h : l.val < 64
  · simp only [h, if_true]
    rw [word_bit _ _ _ _ hq]
    have : l = ⟨l.val % 64, by omega⟩ := Fin.ext (by simp; omega)
    rw [← this]
  · simp only [h, if_false]
    rw [if_neg (by decide), word_bit _ _ _ _ hq]
    have : (⟨(l.val + 64) % 128, by omega⟩ : Fin 128) = ⟨l.val % 64, by omega⟩ := Fin.ext (by simp; omega)
    rw [this]

/-- The words of the second column block: both halves of the lanes carry lanes 64 to 127. -/
theorem second_block (v : Vec Ideal S32x128 .i8) (a : Fin 8) (l : Fin 128) (q : Nat) (hq : q < 32) :
    (k0_pay14 (F := Ideal) k0_pay25 v (ix2 a l)).getLsbD q
      = (v (ix2 ⟨4 * a.val + q / 8, by omega⟩ ⟨64 + l.val % 64, by omega⟩)).getLsbD (q % 8) := by
  show (select k0_pay25 (k0_pay12 (F := Ideal) v) (k0_pay11 (F := Ideal) v) (ix2 a l)).getLsbD q = _
  rw [select_mask, rotated]; unfold lane
  by_cases h : l.val < 64
  · simp only [h, if_true]
    rw [word_bit _ _ _ _ hq]
    have : (⟨(l.val + 64) % 128, by omega⟩ : Fin 128) = ⟨64 + l.val % 64, by omega⟩ := Fin.ext (by simp; omega)
    rw [this]
  · simp only [h, if_false]
    rw [if_neg (by decide), word_bit _ _ _ _ hq]
    have : l = ⟨64 + l.val % 64, by omega⟩ := Fin.ext (by simp; omega)
    rw [← this]

/-- A masked and completed word array, read at sixteen bits and taken as numbers, less the bias: the weights. -/
theorem decoded (par hi : Fin 2) (w W : IVec S8x128 32) (bias : FVec Ideal S16x128 .bf16) (v : Vec Ideal S32x128 .i8)
    (g : Fin 128 → Fin 128)
    (hw : ∀ (a : Fin 8) (l : Fin 128) (q : Nat) (hq : q < 32),
      (w (ix2 a l)).getLsbD q = (v (ix2 ⟨4 * a.val + q / 8, by omega⟩ (g l))).getLsbD (q % 8))
    (hW : ∀ (a : Fin 8) (l : Fin 128), W (ix2 a l)
      = ((if hi = 0 then (if par = 0 then w (ix2 a l) <<< 1 else w (ix2 a l) >>> 7)
            else (if par = 0 then w (ix2 a l) >>> 1 else w (ix2 a l) >>> 9)) &&&
          (if hi = 0 then (if lane l = 0 then 393222#32 else 1572888#32) else (if lane l = 0 then 1572888#32 else 6291552#32))) |||
        (if hi = 0 then (if lane l = 0 then 1115701888#32 else 1098924416#32)
          else (if lane l = 0 then 1098924416#32 else 1082146944#32)))
    (hbias : ∀ (m : Fin 16) (l : Fin 128), bias (ix2 m l)
      = Ideal.ofBits .f32 (if hi = 0 then (if lane l = 0 then 0x42830000#32 else 0x418C0000#32)
          else (if lane l = 0 then 0x418C0000#32 else 0x40B00000#32)))
    (m : Fin 16) (l : Fin 128) :
    subf (bitcastToFloat .bf16 (bitcast S16x128 16 W bitcasts_S8x128_w32_S16x128_w16)) bias (ix2 m l)
      = weight (v (ix2 ⟨2 * m.val + par.val, by omega⟩ (g l))) (2 * hi.val + (lane l).val) := by
  show Ideal.ofBits .bf16 (bitcast S16x128 16 W bitcasts_S8x128_w32_S16x128_w16 (ix2 m l)) - bias (ix2 m l) = _
  have hsrc : ∀ h, Shape.Bitcasts.srcIdx bitcasts_S8x128_w32_S16x128_w16 (ix2 m l) (m.val / 2) h
      = ix2 (⟨m.val / 2, by omega⟩ : Fin 8) l := by
    intro h
    funext c
    match c with
    | ⟨0, _⟩ => exact Fin.ext (Shape.Bitcasts.srcIdx_row bitcasts_S8x128_w32_S16x128_w16 (ix2 m l) _ h ⟨0, Nat.zero_lt_two⟩ rfl)
    | ⟨1, _⟩ => exact Fin.ext (Shape.Bitcasts.srcIdx_other bitcasts_S8x128_w32_S16x128_w16 (ix2 m l) _ h ⟨1, Nat.one_lt_two⟩
        (by show ¬ 1 + 2 = 2; omega))
  rw [bitcast_32_16]
  have hrow : Shape.row (s := S16x128) (ix2 m l) = m.val := rfl
  have hex : (W (ix2 (⟨m.val / 2, by omega⟩ : Fin 8) l)).extractLsb' (16 * (m.val % 2)) 16 = _ :=
    (congrArg (fun x => BitVec.extractLsb' (16 * (m.val % 2)) 16 x) (hW ⟨m.val / 2, by omega⟩ l)).trans
      (half_bits ⟨m.val % 2, by omega⟩ par hi (lane l) (w (ix2 ⟨m.val / 2, by omega⟩ l))
        (v (ix2 ⟨2 * m.val + par.val, by omega⟩ (g l))) (fun q hq => by
          rw [hw _ _ _ (by omega)]
          have e1 : (⟨4 * (m.val / 2) + (8 * (2 * (m.val % 2) + par.val) + q) / 8, by omega⟩ : Fin 32)
            = ⟨2 * m.val + par.val, by omega⟩ := Fin.ext (by simp; omega)
          have e2 : (8 * (2 * (m.val % 2) + par.val) + q) % 8 = q := by omega
          simp only [e1, e2]))
  refine Eq.trans ?_ (value_bits hi (lane l) (bits (v (ix2 ⟨2 * m.val + par.val, by omega⟩ (g l))) (2 * hi.val + (lane l).val)))
  rw [hbias, ← hex]
  congr 3
  exact congrArg W (hsrc _)

/-- The bias of the first two fields. -/
theorem bias01 (m : Fin 16) (l : Fin 128) : k0_pay31 (F := Ideal) (ix2 m l)
    = Ideal.ofBits .f32 (if lane l = 0 then 0x42830000#32 else 0x418C0000#32) := by
  show select k0_pay30 (broadcast S16x128 (Ideal.ofBits .f32 0x42830000#32)) (broadcast S16x128 (Ideal.ofBits .f32 0x418C0000#32)) (ix2 m l) = _
  rw [select_mask16]; split <;> rfl

/-- The bias of the last two fields. -/
theorem bias23 (m : Fin 16) (l : Fin 128) : k0_pay32 (F := Ideal) (ix2 m l)
    = Ideal.ofBits .f32 (if lane l = 0 then 0x418C0000#32 else 0x40B00000#32) := by
  show select k0_pay30 (broadcast S16x128 (Ideal.ofBits .f32 0x418C0000#32)) (broadcast S16x128 (Ideal.ofBits .f32 0x40B00000#32)) (ix2 m l) = _
  rw [select_mask16]; split <;> rfl

theorem m5 (a : Fin 8) (l : Fin 128) : k0_pay26 (ix2 a l) = if lane l = 0 then 393222#32 else 1572888#32 := select_mask _ _ a l
theorem m8 (a : Fin 8) (l : Fin 128) : k0_pay27 (ix2 a l) = if lane l = 0 then 1115701888#32 else 1098924416#32 := select_mask _ _ a l
theorem m11 (a : Fin 8) (l : Fin 128) : k0_pay28 (ix2 a l) = if lane l = 0 then 1572888#32 else 6291552#32 := select_mask _ _ a l
theorem m14 (a : Fin 8) (l : Fin 128) : k0_pay29 (ix2 a l) = if lane l = 0 then 1098924416#32 else 1082146944#32 := select_mask _ _ a l

/-- A shape cast to the same shape changes nothing. -/
theorem cast16 (x : FVec Ideal S16x128 .bf16) : shapeCast S16x128 x shapeCasts_S16x128_S16x128 = x := shapeCast_self _ _

/-! The eight stores of one trip, entry by entry. -/

theorem pay10 (v : Vec Ideal S32x128 .i8) (m : Fin 16) (l : Fin 128) :
    k0_pay15 (F := Ideal) k0_pay25 k0_pay26 k0_pay27 (k0_pay31 (F := Ideal)) v (ix2 m l)
      = weight (v (ix2 ⟨2 * m.val, by omega⟩ ⟨l.val % 64, by omega⟩)) ((lane l).val) := by
  unfold k0_pay15
  rw [cast16]
  refine (decoded 0 0 (k0_pay13 (F := Ideal) k0_pay25 v) _ _ v (fun l => ⟨l.val % 64, by omega⟩) (first_block v)
    (fun a l => ?_) bias01 m l).trans (by simp)
  simp only [ori, andi, m5, m8]; rfl

theorem pay11 (v : Vec Ideal S32x128 .i8) (m : Fin 16) (l : Fin 128) :
    k0_pay16 (F := Ideal) k0_pay25 k0_pay28 k0_pay29 (k0_pay32 (F := Ideal)) v (ix2 m l)
      = weight (v (ix2 ⟨2 * m.val, by omega⟩ ⟨l.val % 64, by omega⟩)) (2 + (lane l).val) := by
  unfold k0_pay16
  rw [cast16]
  refine (decoded 0 1 (k0_pay13 (F := Ideal) k0_pay25 v) _ _ v (fun l => ⟨l.val % 64, by omega⟩) (first_block v)
    (fun a l => ?_) bias23 m l).trans (by simp)
  simp only [ori, andi, m11, m14]; rfl

theorem pay14 (v : Vec Ideal S32x128 .i8) (m : Fin 16) (l : Fin 128) :
    k0_pay19 (F := Ideal) (k0_pay17 (F := Ideal) k0_pay25 k0_pay26 k0_pay27 (k0_pay31 (F := Ideal)) v) (ix2 m l)
      = weight (v (ix2 ⟨2 * m.val + 1, by omega⟩ ⟨l.val % 64, by omega⟩)) ((lane l).val) := by
  unfold k0_pay19 k0_pay17
  rw [cast16]
  refine (decoded 1 0 (k0_pay13 (F := Ideal) k0_pay25 v) _ _ v (fun l => ⟨l.val % 64, by omega⟩) (first_block v)
    (fun a l => ?_) bias01 m l).trans (by simp)
  simp only [ori, andi, m5, m8]; rfl

theorem pay15 (v : Vec Ideal S32x128 .i8) (m : Fin 16) (l : Fin 128) :
    k0_pay20 (F := Ideal) (k0_pay18 (F := Ideal) k0_pay25 k0_pay28 k0_pay29 (k0_pay32 (F := Ideal)) v) (ix2 m l)
      = weight (v (ix2 ⟨2 * m.val + 1, by omega⟩ ⟨l.val % 64, by omega⟩)) (2 + (lane l).val) := by
  unfold k0_pay20 k0_pay18
  rw [cast16]
  refine (decoded 1 1 (k0_pay13 (F := Ideal) k0_pay25 v) _ _ v (fun l => ⟨l.val % 64, by omega⟩) (first_block v)
    (fun a l => ?_) bias23 m l).trans (by simp)
  simp only [ori, andi, m11, m14]; rfl

theorem pay16 (v : Vec Ideal S32x128 .i8) (m : Fin 16) (l : Fin 128) :
    k0_pay21 (F := Ideal) k0_pay26 k0_pay27 (k0_pay31 (F := Ideal)) (k0_pay14 (F := Ideal) k0_pay25 v) (ix2 m l)
      = weight (v (ix2 ⟨2 * m.val, by omega⟩ ⟨64 + l.val % 64, by omega⟩)) ((lane l).val) := by
  unfold k0_pay21
  rw [cast16]
  refine (decoded 0 0 (k0_pay14 (F := Ideal) k0_pay25 v) _ _ v (fun l => ⟨64 + l.val % 64, by omega⟩) (second_block v)
    (fun a l => ?_) bias01 m l).trans (by simp)
  simp only [ori, andi, m5, m8]; rfl

theorem pay17 (v : Vec Ideal S32x128 .i8) (m : Fin 16) (l : Fin 128) :
    k0_pay22 (F := Ideal) k0_pay28 k0_pay29 (k0_pay32 (F := Ideal)) (k0_pay14 (F := Ideal) k0_pay25 v) (ix2 m l)
      = weight (v (ix2 ⟨2 * m.val, by omega⟩ ⟨64 + l.val % 64, by omega⟩)) (2 + (lane l).val) := by
  unfold k0_pay22
  rw [cast16]
  refine (decoded 0 1 (k0_pay14 (F := Ideal) k0_pay25 v) _ _ v (fun l => ⟨64 + l.val % 64, by omega⟩) (second_block v)
    (fun a l => ?_) bias23 m l).trans (by simp)
  simp only [ori, andi, m11, m14]; rfl

theorem pay19 (v : Vec Ideal S32x128 .i8) (m : Fin 16) (l : Fin 128) :
    k0_pay24 (F := Ideal) k0_pay26 k0_pay27 (k0_pay31 (F := Ideal)) (k0_pay14 (F := Ideal) k0_pay25 v) (ix2 m l)
      = weight (v (ix2 ⟨2 * m.val + 1, by omega⟩ ⟨64 + l.val % 64, by omega⟩)) ((lane l).val) := by
  unfold k0_pay24
  rw [cast16]
  refine (decoded 1 0 (k0_pay14 (F := Ideal) k0_pay25 v) _ _ v (fun l => ⟨64 + l.val % 64, by omega⟩) (second_block v)
    (fun a l => ?_) bias01 m l).trans (by simp)
  simp only [ori, andi, m5, m8]; rfl

theorem pay28 (v : Vec Ideal S32x128 .i8) (m : Fin 16) (l : Fin 128) :
    k0_pay33 (F := Ideal) (k0_pay23 (F := Ideal) k0_pay28 k0_pay29 (k0_pay32 (F := Ideal)) (k0_pay14 (F := Ideal) k0_pay25 v)) (ix2 m l)
      = weight (v (ix2 ⟨2 * m.val + 1, by omega⟩ ⟨64 + l.val % 64, by omega⟩)) (2 + (lane l).val) := by
  unfold k0_pay33 k0_pay23
  rw [cast16]
  refine (decoded 1 1 (k0_pay14 (F := Ideal) k0_pay25 v) _ _ v (fun l => ⟨64 + l.val % 64, by omega⟩) (second_block v)
    (fun a l => ?_) bias23 m l).trans (by simp)
  simp only [ori, andi, m11, m14]; rfl

end Cert.KernelIdeal.Unpack

end
-- ==== Proof.Weights.lean ====
/- The whole array of unpacked weights: the pieces the unpacking loop stores are all parts of one array. -/
module

public import proofs.«01_k».proof.Proof.Unpack
public import Idealize.ShloMosaic.Lib.Pipeline.ValueKit.Tiles

@[expose] public section

set_option maxRecDepth 16384

noncomputable section

namespace Cert.KernelIdeal.Weights

open Idealize.ShloMosaic Idealize.ShloMosaic.TcCoe Idealize.SL.Sem
open Cert.KernelIdeal Cert.KernelIdeal.Gen Cert.Decode Cert.KernelIdeal.Unpack

/-- The weights of one step: row `32 r + 16 p + m` holds row `32 r + 2 m + p` of the codes, column
    `256 c + 64 k + l` holds field `k` of column `64 c + l`. -/
def wt (x1 : Vec Ideal S3584x128 .i8) : Vec Ideal S3584x512 .bf16 := fun y =>
  weight (x1 (ix2 ⟨(y 0).val / 32 * 32 + 2 * ((y 0).val % 16) + (y 0).val % 32 / 16, by have := (y 0).isLt; have h : S3584x512.size 0 = 3584 := rfl; omega⟩
    ⟨(y 1).val / 256 * 64 + (y 1).val % 64, by have := (y 1).isLt; have h : S3584x512.size 1 = 512 := rfl; omega⟩)) ((y 1).val % 256 / 64)

/-- One store holds its part of the weights. -/
theorem piece_ok (x1 : Vec Ideal S3584x128 .i8) (k par hi c : Nat) (hk : k < 112) (hpar : par < 2) (hhi : hi < 2) (hc : c < 2)
    (off : Fin 2 → Nat) (hoff : off = ![32 * k + 16 * par, 256 * c + 128 * hi]) (inb : ∀ a, off a + S16x128.size a ≤ S3584x512.size a)
    (off1 : Fin 2 → Nat) (hoff1 : off1 = ![32 * k, 0]) (inb1 : ∀ a, off1 a + S32x128.size a ≤ S3584x128.size a)
    (P : S16x128.Idx → EReal) (r : Fin 16 → Fin 32) (g : Fin 128 → Fin 128) (f : Fin 128 → Nat)
    (hr : ∀ m, (r m).val = 2 * m.val + par) (hg : ∀ l, (g l).val = 64 * c + l.val % 64) (hf : ∀ l, f l = 2 * hi + (lane l).val)
    (hP : ∀ m l, P (ix2 m l) = weight (View.ld x1 (Rect.unit (s := S3584x128) off1 S32x128.size inb1) (ix2 (r m) (g l))) (f l))
    (x : S16x128.Idx) : P x = wt x1 ((Rect.unit (s := S3584x512) off S16x128.size inb).emb x) := by
  subst hoff hoff1
  obtain ⟨a, b, rfl⟩ : ∃ (a : Fin 16) (b : Fin 128), x = ix2 a b := ⟨x 0, x 1, eq_ix2 x⟩
  have hl : (lane b).val = b.val / 64 := by
    unfold lane; split <;> (simp; omega)
  refine (hP a b).trans ?_
  unfold wt
  have e0 : (((Rect.unit (s := S3584x512) ![32 * k + 16 * par, 256 * c + 128 * hi] S16x128.size inb).emb (ix2 a b)) 0).val
      = 32 * k + 16 * par + a.val := Rect.idx_unit_val _ _ _ _ _
  have e1 : (((Rect.unit (s := S3584x512) ![32 * k + 16 * par, 256 * c + 128 * hi] S16x128.size inb).emb (ix2 a b)) 1).val
      = 256 * c + 128 * hi + b.val := Rect.idx_unit_val _ _ _ _ _
  generalize ((Rect.unit (s := S3584x512) ![32 * k + 16 * par, 256 * c + 128 * hi] S16x128.size inb).emb (ix2 a b)) = y at e0 e1 ⊢
  refine congrArg₂ weight (View.ld_unit_apply_of _ _ _ _ _ _ fun d => ?_) ?_
  · match d with
    | ⟨0, _⟩ =>
      show (y 0).val / 32 * 32 + 2 * ((y 0).val % 16) + (y 0).val % 32 / 16 = 32 * k + (r a).val
      rw [e0, hr]; omega
    | ⟨1, _⟩ =>
      show (y 1).val / 256 * 64 + (y 1).val % 64 = 0 + (g b).val
      rw [e1, hg]; omega
  · rw [hf, hl, e1]; omega

section Loop

variable (𝒱 : Variants) (c : Dev nD) (bd : Option 𝒱.V) (i : grid0.Coords) (arg2 : Memref sig .tc .vmem S768x3584 .bf16) (harg2 : arg2.IsWhole) (arg3 : Memref sig .tc .vmem S3584x128 .i8) (harg3 : arg3.IsWhole) (arg4 : Memref sig .tc .vmem S1x1x512 .f32) (harg4 : arg4.IsWhole) (arg5 : Memref sig .tc .vmem S256x256 .bf16) (harg5 : arg5.IsWhole) (arg6 : Memref sig .tc .vmem S80x80 .bf16) (harg6 : arg6.IsWhole) (arg7 : Memref sig .tc .vmem S64x18944 .bf16) (harg7 : arg7.IsWhole) (arg8 : Memref sig .tc .vmem S3584x512 .bf16) (harg8 : arg8.IsWhole) (arg9 : Memref sig .tc .vmem S768x40x2x128 .bf16) (harg9 : arg9.IsWhole) (arg10 : Memref sig .tc .vmem S768x40x2x128 .bf16) (harg10 : arg10.IsWhole) (arg11 : Memref sig .tc .vmem S2816x2x128 .bf16) (harg11 : arg11.IsWhole) (arg12 : Memref sig .tc .vmem S2816x2x128 .bf16) (harg12 : arg12.IsWhole) (k0_h2 : k0_cond2 i = 1#1) (x1 : Vec Ideal S3584x128 .i8)

/-- What trip `k` loads. -/
abbrev rowsOf (k : Fin k0_t1_loop.trips) : Vec Ideal S32x128 .i8 :=
  View.ld x1 (Rect.unit (s := S3584x128) (k0_off1 k) S32x128.size (Gen.k0_off1_inb i k k0_h2))

/-- The eight stores of trip `k`, last first. -/
theorem trip_eq (k : Fin k0_t1_loop.trips) :
    tripL_k0_t1 (F := Ideal) 𝒱 c bd i arg2 harg2 arg3 harg3 arg4 harg4 arg5 harg5 arg6 harg6 arg7 harg7 arg8 harg8 arg9 harg9 arg10 harg10 arg11 harg11 arg12 harg12 k0_h2 (harg3.unread x1) k =
    [⟨Rect.unit (s := S3584x512) (k0_off5 k 16#32) S16x128.size (Gen.k0_off5_inb i k k0_h2 1), k0_pay33 (F := Ideal) (k0_pay23 (F := Ideal) k0_pay28 k0_pay29 k0_pay32 (k0_pay14 (F := Ideal) k0_pay25 (rowsOf i k0_h2 x1 k)))⟩,
     ⟨Rect.unit (s := S3584x512) (k0_off4 k 16#32) S16x128.size (Gen.k0_off4_inb i k k0_h2 1), k0_pay24 (F := Ideal) k0_pay26 k0_pay27 k0_pay31 (k0_pay14 (F := Ideal) k0_pay25 (rowsOf i k0_h2 x1 k))⟩,
     ⟨Rect.unit (s := S3584x512) (k0_off5 k 0#32) S16x128.size (Gen.k0_off5_inb i k k0_h2 0), k0_pay22 (F := Ideal) k0_pay28 k0_pay29 k0_pay32 (k0_pay14 (F := Ideal) k0_pay25 (rowsOf i k0_h2 x1 k))⟩,
     ⟨Rect.unit (s := S3584x512) (k0_off4 k 0#32) S16x128.size (Gen.k0_off4_inb i k k0_h2 0), k0_pay21 (F := Ideal) k0_pay26 k0_pay27 k0_pay31 (k0_pay14 (F := Ideal) k0_pay25 (rowsOf i k0_h2 x1 k))⟩,
     ⟨Rect.unit (s := S3584x512) (k0_off3 k 16#32) S16x128.size (Gen.k0_off3_inb i k k0_h2 1), k0_pay20 (F := Ideal) (k0_pay18 (F := Ideal) k0_pay25 k0_pay28 k0_pay29 k0_pay32 (rowsOf i k0_h2 x1 k))⟩,
     ⟨Rect.unit (s := S3584x512) (k0_off2 k 16#32) S16x128.size (Gen.k0_off2_inb i k k0_h2 1), k0_pay19 (F := Ideal) (k0_pay17 (F := Ideal) k0_pay25 k0_pay26 k0_pay27 k0_pay31 (rowsOf i k0_h2 x1 k))⟩,
     ⟨Rect.unit (s := S3584x512) (k0_off3 k 0#32) S16x128.size (Gen.k0_off3_inb i k k0_h2 0), k0_pay16 (F := Ideal) k0_pay25 k0_pay28 k0_pay29 k0_pay32 (rowsOf i k0_h2 x1 k)⟩,
     ⟨Rect.unit (s := S3584x512) (k0_off2 k 0#32) S16x128.size (Gen.k0_off2_inb i k k0_h2 0), k0_pay15 (F := Ideal) k0_pay25 k0_pay26 k0_pay27 k0_pay31 (rowsOf i k0_h2 x1 k)⟩] := by
  unfold tripL_k0_t1 trip_k0_t1
  dsimp only
  sl_unfold_words
  simp only [View.readAt_eq_ld, harg3.read_unread]
  rfl

theorem trip_pieces (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 arg11 harg11 arg12 harg12 k0_h2 (harg3.unread x1) k,
      ∀ x : p.1.shape.Idx, p.2 x = wt x1 (p.1.emb x) := by
  have hk : k.val < 112 := Nat.lt_of_lt_of_le k.isLt k0_t1_abs.2.1
  rw [trip_eq]
  simp only [List.forall_mem_cons, List.not_mem_nil, false_imp_iff, implies_true, and_true]
  refine ⟨?_, ?_, ?_, ?_, ?_, ?_, ?_, ?_⟩
  · exact piece_ok x1 k 1 1 1 hk (by decide) (by decide) (by decide) _ (k0_off5_eq k 1) _ _ (k0_off1_eq k) _ _ _ _ _ (fun _ => rfl) (fun _ => rfl) (fun _ => rfl) (pay28 _)
  · exact piece_ok x1 k 1 0 1 hk (by decide) (by decide) (by decide) _ (k0_off4_eq k 1) _ _ (k0_off1_eq k) _ _ _ _ _ (fun _ => rfl) (fun _ => rfl) (fun _ => (Nat.zero_add _).symm) (pay19 _)
  · exact piece_ok x1 k 0 1 1 hk (by decide) (by decide) (by decide) _ (k0_off5_eq k 0) _ _ (k0_off1_eq k) _ _ _ _ _ (fun _ => rfl) (fun _ => rfl) (fun _ => rfl) (pay17 _)
  · exact piece_ok x1 k 0 0 1 hk (by decide) (by decide) (by decide) _ (k0_off4_eq k 0) _ _ (k0_off1_eq k) _ _ _ _ _ (fun _ => rfl) (fun _ => rfl) (fun _ => (Nat.zero_add _).symm) (pay16 _)
  · exact piece_ok x1 k 1 1 0 hk (by decide) (by decide) (by decide) _ (k0_off3_eq k 1) _ _ (k0_off1_eq k) _ _ _ _ _ (fun _ => rfl) (fun _ => (Nat.zero_add _).symm) (fun _ => rfl) (pay15 _)
  · exact piece_ok x1 k 1 0 0 hk (by decide) (by decide) (by decide) _ (k0_off2_eq k 1) _ _ (k0_off1_eq k) _ _ _ _ _ (fun _ => rfl) (fun _ => (Nat.zero_add _).symm) (fun _ => (Nat.zero_add _).symm) (pay14 _)
  · exact piece_ok x1 k 0 1 0 hk (by decide) (by decide) (by decide) _ (k0_off3_eq k 0) _ _ (k0_off1_eq k) _ _ _ _ _ (fun _ => rfl) (fun _ => (Nat.zero_add _).symm) (fun _ => rfl) (pay11 _)
  · exact piece_ok x1 k 0 0 0 hk (by decide) (by decide) (by decide) _ (k0_off2_eq k 0) _ _ (k0_off1_eq k) _ _ _ _ _ (fun _ => rfl) (fun _ => (Nat.zero_add _).symm) (fun _ => (Nat.zero_add _).symm) (pay10 _)

/-- An entry of the sixteen rows and 128 columns of a store is in its rectangle. -/
theorem mem_piece (y : S3584x512.Idx) (a b : Nat) (off : Fin 2 → Nat) (hoff : off = ![a, b])
    (inb : ∀ a, off a + S16x128.size a ≤ S3584x512.size a) (h0 : a ≤ (y 0).val) (h0' : (y 0).val < a + 16)
    (h1 : b ≤ (y 1).val) (h1' : (y 1).val < b + 128) : y ∈ (Rect.unit (s := S3584x512) off S16x128.size inb).set := by
  subst hoff
  rw [Rect.mem_set_unit]
  intro d
  match d with
  | ⟨0, _⟩ => exact ⟨h0, h0'⟩
  | ⟨1, _⟩ => exact ⟨h1, h1'⟩

/-- Trip `k` stores every entry of its 32 rows. -/
theorem trip_cover (k : Fin k0_t1_loop.trips) (y : S3584x512.Idx) (hy : (y 0).val / 32 = k.val) :
    ∃ p ∈ tripL_k0_t1 (F := Ideal) 𝒱 c bd i arg2 harg2 arg3 harg3 arg4 harg4 arg5 harg5 arg6 harg6 arg7 harg7 arg8 harg8 arg9 harg9 arg10 harg10 arg11 harg11 arg12 harg12 k0_h2 (harg3.unread x1) k,
      y ∈ p.1.set := by
  have h1 : (y 1).val < 512 := (y 1).isLt
  have o2 := k0_off2_eq k; have o3 := k0_off3_eq k; have o4 := k0_off4_eq k; have o5 := k0_off5_eq k
  rw [trip_eq]
  simp only [List.mem_cons, List.not_mem_nil, or_false, exists_eq_or_imp, exists_eq_left]
  rcases Nat.lt_or_ge ((y 0).val % 32) 16 with hp | hp
  · rcases Nat.lt_or_ge (y 1).val 128 with h2 | h2
    · have h := mem_piece y _ _ _ (o2 0) (Gen.k0_off2_inb i k k0_h2 0) (by simp; omega) (by simp; omega) (by omega) (by omega)
      exact Or.inr (Or.inr (Or.inr (Or.inr (Or.inr (Or.inr (Or.inr (h)))))))
    rcases Nat.lt_or_ge (y 1).val 256 with h3 | h3
    · have h := mem_piece y _ _ _ (o3 0) (Gen.k0_off3_inb i k k0_h2 0) (by simp; omega) (by simp; omega) (by omega) (by omega)
      exact Or.inr (Or.inr (Or.inr (Or.inr (Or.inr (Or.inr (Or.inl h))))))
    rcases Nat.lt_or_ge (y 1).val 384 with h4 | h4
    · have h := mem_piece y _ _ _ (o4 0) (Gen.k0_off4_inb i k k0_h2 0) (by simp; omega) (by simp; omega) (by omega) (by omega)
      exact Or.inr (Or.inr (Or.inr (Or.inl h)))
    have h := mem_piece y _ _ _ (o5 0) (Gen.k0_off5_inb i k k0_h2 0) (by simp; omega) (by simp; omega) (by omega) (by omega)
    exact Or.inr (Or.inr (Or.inl h))
  · rcases Nat.lt_or_ge (y 1).val 128 with h2 | h2
    · have h := mem_piece y _ _ _ (o2 1) (Gen.k0_off2_inb i k k0_h2 1) (by simp; omega) (by simp; omega) (by omega) (by omega)
      exact Or.inr (Or.inr (Or.inr (Or.inr (Or.inr (Or.inl h)))))
    rcases Nat.lt_or_ge (y 1).val 256 with h3 | h3
    · have h := mem_piece y _ _ _ (o3 1) (Gen.k0_off3_inb i k k0_h2 1) (by simp; omega) (by simp; omega) (by omega) (by omega)
      exact Or.inr (Or.inr (Or.inr (Or.inr (Or.inl h))))
    rcases Nat.lt_or_ge (y 1).val 384 with h4 | h4
    · have h := mem_piece y _ _ _ (o4 1) (Gen.k0_off4_inb i k k0_h2 1) (by simp; omega) (by simp; omega) (by omega) (by omega)
      exact Or.inr (Or.inl h)
    have h := mem_piece y _ _ _ (o5 1) (Gen.k0_off5_inb i k k0_h2 1) (by simp; omega) (by simp; omega) (by omega) (by omega)
    exact Or.inl h

/-- The pieces of the trips before `n`. -/
abbrev pieces (n : Nat) := pb_k0_t1 (F := Ideal) 𝒱 c bd i arg2 harg2 arg3 harg3 arg4 harg4 arg5 harg5 arg6 harg6 arg7 harg7 arg8 harg8 arg9 harg9 arg10 harg10 arg11 harg11 arg12 harg12 k0_h2 (harg3.unread x1) n

theorem loop_pieces : ∀ n : Nat, n ≤ k0_t1_loop.trips →
    ∀ p ∈ pieces 𝒱 c bd i arg2 harg2 arg3 harg3 arg4 harg4 arg5 harg5 arg6 harg6 arg7 harg7 arg8 harg8 arg9 harg9 arg10 harg10 arg11 harg11 arg12 harg12 k0_h2 x1 n,
      ∀ x : p.1.shape.Idx, p.2 x = wt x1 (p.1.emb x)
  | 0, _, p, hp => absurd hp (by unfold pieces pb_k0_t1; exact List.not_mem_nil)
  | n + 1, hn, p, hp => by
    have e := pb_k0_t1_succ (F := Ideal) 𝒱 c bd i arg2 harg2 arg3 harg3 arg4 harg4 arg5 harg5 arg6 harg6 arg7 harg7 arg8 harg8 arg9 harg9 arg10 harg10 arg11 harg11 arg12 harg12 k0_h2 (harg3.unread x1) ⟨n, hn⟩
    rw [show pieces 𝒱 c bd i arg2 harg2 arg3 harg3 arg4 harg4 arg5 harg5 arg6 harg6 arg7 harg7 arg8 harg8 arg9 harg9 arg10 harg10 arg11 harg11 arg12 harg12 k0_h2 x1 (n + 1) = _ from e] at hp
    rcases List.mem_append.mp hp with h | h
    · exact trip_pieces 𝒱 c bd i arg2 harg2 arg3 harg3 arg4 harg4 arg5 harg5 arg6 harg6 arg7 harg7 arg8 harg8 arg9 harg9 arg10 harg10 arg11 harg11 arg12 harg12 k0_h2 x1 _ p h
    · exact loop_pieces n (by omega) p h

theorem loop_cover (y : S3584x512.Idx) : ∀ n : Nat, n ≤ k0_t1_loop.trips → (y 0).val / 32 < n →
    ∃ p ∈ pieces 𝒱 c bd i arg2 harg2 arg3 harg3 arg4 harg4 arg5 harg5 arg6 harg6 arg7 harg7 arg8 harg8 arg9 harg9 arg10 harg10 arg11 harg11 arg12 harg12 k0_h2 x1 n, y ∈ p.1.set
  | 0, _, h => absurd h (by omega)
  | n + 1, hn, h => by
    have e := pb_k0_t1_succ (F := Ideal) 𝒱 c bd i arg2 harg2 arg3 harg3 arg4 harg4 arg5 harg5 arg6 harg6 arg7 harg7 arg8 harg8 arg9 harg9 arg10 harg10 arg11 harg11 arg12 harg12 k0_h2 (harg3.unread x1) ⟨n, hn⟩
    by_cases hy : (y 0).val / 32 = n
    · obtain ⟨p, hp, hm⟩ := trip_cover 𝒱 c bd i arg2 harg2 arg3 harg3 arg4 harg4 arg5 harg5 arg6 harg6 arg7 harg7 arg8 harg8 arg9 harg9 arg10 harg10 arg11 harg11 arg12 harg12 k0_h2 x1 ⟨n, hn⟩ y hy
      exact ⟨p, by rw [show pieces 𝒱 c bd i arg2 harg2 arg3 harg3 arg4 harg4 arg5 harg5 arg6 harg6 arg7 harg7 arg8 harg8 arg9 harg9 arg10 harg10 arg11 harg11 arg12 harg12 k0_h2 x1 (n + 1) = _ from e]; exact List.mem_append_left _ hp, hm⟩
    · obtain ⟨p, hp, hm⟩ := loop_cover y n (by omega) (by omega)
      exact ⟨p, by rw [show pieces 𝒱 c bd i arg2 harg2 arg3 harg3 arg4 harg4 arg5 harg5 arg6 harg6 arg7 harg7 arg8 harg8 arg9 harg9 arg10 harg10 arg11 harg11 arg12 harg12 k0_h2 x1 (n + 1) = _ from e]; exact List.mem_append_right _ hp, hm⟩

/-- The load of the whole scratch array after the loop is the weights. -/
theorem unpacked (inb : ∀ a, (![0, 0] : Fin 2 → Nat) a + S3584x512.size a ≤ S3584x512.size a) :
    arg8.view.readCov (pb_k0_t1 (F := Ideal) 𝒱 c bd i arg2 harg2 arg3 harg3 arg4 harg4 arg5 harg5 arg6 harg6 arg7 harg7 arg8 harg8 arg9 harg9 arg10 harg10 arg11 harg11 arg12 harg12 k0_h2 (harg3.unread x1)
      (Scf.trips (0#32) (Scalar.addi 0#32 112#32) 1#32)) (Rect.unit (s := S3584x512) ![0, 0] S3584x512.size inb).toLoadRect = wt x1 := by
  have ht : Scf.trips (0#32) (Scalar.addi 0#32 112#32) 1#32 = k0_t1_loop.trips := by decide +kernel
  have ht' : k0_t1_loop.trips = 112 := by decide +kernel
  have hc : ∀ y : S3584x512.Idx, ∃ p ∈ pieces 𝒱 c bd i arg2 harg2 arg3 harg3 arg4 harg4 arg5 harg5 arg6 harg6 arg7 harg7 arg8 harg8 arg9 harg9 arg10 harg10 arg11 harg11 arg12 harg12 k0_h2 x1 k0_t1_loop.trips, y ∈ p.1.set :=
    fun y => loop_cover 𝒱 c bd i arg2 harg2 arg3 harg3 arg4 harg4 arg5 harg5 arg6 harg6 arg7 harg7 arg8 harg8 arg9 harg9 arg10 harg10 arg11 harg11 arg12 harg12 k0_h2 x1 y _ le_rfl (by
      have hy : (y 0).val < 3584 := (y 0).isLt
      omega)
  rw [ht, View.readCov_eq_canon_ld _ _ _ hc, View.ld_unit_zero (by funext a; fin_cases a <;> rfl)]
  exact funext fun y => View.canon_apply_of_pieces (wt x1) _ (loop_pieces 𝒱 c bd i arg2 harg2 arg3 harg3 arg4 harg4 arg5 harg5 arg6 harg6 arg7 harg7 arg8 harg8 arg9 harg9 arg10 harg10 arg11 harg11 arg12 harg12 k0_h2 x1 _ le_rfl) y (hc y)

end Loop

end Cert.KernelIdeal.Weights

end
-- ==== Proof.Block.lean ====
/- What one product step of the kernel writes to the two scratch arrays of rotated rows, as one function of the step's input blocks. -/
module

public import proofs.«01_k».proof.Proof.Gen.KernelIdeal.Frame
public import proofs.«01_k».proof.Proof.Weights

@[expose] public section

set_option maxRecDepth 16384

noncomputable section

namespace Cert.KernelIdeal.Block

open Idealize.ShloMosaic Idealize.ShloMosaic.TcCoe Idealize.SL.Sem
open Cert.KernelIdeal Cert.KernelIdeal.Gen Cert.Decode Cert.KernelIdeal.Weights

/-- Column `256 q + j` of the 512 columns of a step. -/
abbrev col (q : Nat) (hq : q < 2) (j : Fin 256) : Fin 512 := ⟨256 * q + j.val, by have := j.isLt; omega⟩

/-- The element at row `a`, column `256 q + b` of a step's product: the activations times the unpacked weights,
    scaled column by column, times the second matrix. -/
def el (x0 : Vec Ideal S768x3584 .bf16) (w : Vec Ideal S3584x512 .bf16) (x2 : Vec Ideal S1x1x512 .f32) (x3 : Vec Ideal S256x256 .bf16)
    (a : Fin 768) (q : Nat) (hq : q < 2) (b : Fin 256) : EReal :=
  ∑ j : Fin 256, (∑ d : Fin 3584, x0 (ix2 a d) * w (ix2 d (col q hq j))) * x2 (ix3 0 0 (col q hq j)) * x3 (ix2 j b)

theorem el_congr (x0 : Vec Ideal S768x3584 .bf16) (w : Vec Ideal S3584x512 .bf16) (x2 : Vec Ideal S1x1x512 .f32) (x3 : Vec Ideal S256x256 .bf16)
    {a a' : Fin 768} (ha : a = a') {q q' : Nat} (hq : q < 2) (hq' : q' < 2) (h : q = q') {b b' : Fin 256} (hb : b = b') :
    el x0 w x2 x3 a q hq b = el x0 w x2 x3 a' q' hq' b' := by
  subst ha h hb; rfl

/-- Column `128 h + l` of the 256 columns of a group. -/
abbrev lane (h : Nat) (hh : h < 2) (l : Fin 128) : Fin 256 := ⟨128 * h + l.val, by have := l.isLt; omega⟩

/-- The rows a step leaves in scratch `h`: at a row of the activations, a parity and a lane. -/
def row (h : Nat) (hh : h < 2) (x0 : Vec Ideal S768x3584 .bf16) (w : Vec Ideal S3584x512 .bf16) (x2 : Vec Ideal S1x1x512 .f32) (x3 : Vec Ideal S256x256 .bf16) :
    S768x40x2x128.Idx → EReal := fun y => el x0 w x2 x3 (y 0) (y 2).val (y 2).isLt (lane h hh (y 3))

/-- A store of 256 rows at row `r` that holds the step's elements is a part of the rows. -/
theorem piece_ok (h : Nat) (hh : h < 2) (x0 : Vec Ideal S768x3584 .bf16) (w : Vec Ideal S3584x512 .bf16) (x2 : Vec Ideal S1x1x512 .f32) (x3 : Vec Ideal S256x256 .bf16)
    (r s : Nat) (hr : r + 256 ≤ 768) (off : Fin 4 → Nat) (hoff : off = ![r, s, 0, 0])
    (inb : ∀ a, off a + S256x1x2x128.size a ≤ S768x40x2x128.size a) (P : S256x1x2x128.Idx → EReal)
    (hP : ∀ (a : Fin 256) (q : Fin 2) (l : Fin 128), P (ix4 a 0 q l) = el x0 w x2 x3 ⟨r + a.val, by have := a.isLt; omega⟩ q.val q.isLt (lane h hh l))
    (x : S256x1x2x128.Idx) : P x = row h hh x0 w x2 x3 ((Rect.unit (s := S768x40x2x128) off S256x1x2x128.size inb).emb x) := by
  subst hoff
  obtain ⟨a, z, q, l, rfl⟩ : ∃ (a : Fin 256) (z : Fin 1) (q : Fin 2) (l : Fin 128), x = ix4 a z q l := ⟨x 0, x 1, x 2, x 3, eq_ix4 x⟩
  obtain rfl : z = 0 := Subsingleton.elim _ _
  refine (hP a q l).trans ?_
  unfold row
  have e0 : (((Rect.unit (s := S768x40x2x128) ![r, s, 0, 0] S256x1x2x128.size inb).emb (ix4 a 0 q l)) 0).val = r + a.val := Rect.idx_unit_val _ _ _ _ _
  have e2 : (((Rect.unit (s := S768x40x2x128) ![r, s, 0, 0] S256x1x2x128.size inb).emb (ix4 a 0 q l)) 2).val = 0 + q.val := Rect.idx_unit_val _ _ _ _ _
  have e3 : (((Rect.unit (s := S768x40x2x128) ![r, s, 0, 0] S256x1x2x128.size inb).emb (ix4 a 0 q l)) 3).val = 0 + l.val := Rect.idx_unit_val _ _ _ _ _
  exact el_congr x0 w x2 x3 (Fin.ext e0.symm) _ _ (by rw [e2]; omega) (Fin.ext (by show 128 * h + l.val = 128 * h + _; rw [e3]; omega))

/-- An entry of word row `s` and rows `r` to `r + 255` is in the store's rectangle, -/
theorem mem_piece (y : S768x40x2x128.Idx) (r s : Nat) (off : Fin 4 → Nat) (hoff : off = ![r, s, 0, 0])
    (inb : ∀ a, off a + S256x1x2x128.size a ≤ S768x40x2x128.size a) (h0 : r ≤ (y 0).val) (h0' : (y 0).val < r + 256)
    (h1 : (y 1).val = s) : y ∈ (Rect.unit (s := S768x40x2x128) off S256x1x2x128.size inb).set := by
  subst hoff
  rw [Rect.mem_set_unit]
  intro d
  match d with
  | ⟨0, _⟩ => exact ⟨h0, h0'⟩
  | ⟨1, _⟩ => exact ⟨h1.ge, by show (y 1).val < s + 1; omega⟩
  | ⟨2, _⟩ => exact ⟨Nat.zero_le _, by show (y 2).val < 0 + 2; have h : (y 2).val < 2 := (y 2).isLt; omega⟩
  | ⟨3, _⟩ => exact ⟨Nat.zero_le _, by show (y 3).val < 0 + 128; have h : (y 3).val < 128 := (y 3).isLt; omega⟩

/-- and an entry of another word row is not. -/
theorem not_mem_piece (y : S768x40x2x128.Idx) (r s : Nat) (off : Fin 4 → Nat) (hoff : off = ![r, s, 0, 0])
    (inb : ∀ a, off a + S256x1x2x128.size a ≤ S768x40x2x128.size a) (h1 : (y 1).val ≠ s) :
    y ∉ (Rect.unit (s := S768x40x2x128) off S256x1x2x128.size inb).set := by
  subst hoff
  rw [Rect.mem_set_unit]
  intro h
  have a : s ≤ (y 1).val := (h 1).1
  have b : (y 1).val < s + 1 := (h 1).2
  omega

section Three
variable (v : View sig .tc .vmem S768x40x2x128 .bf16) (i : grid0.Coords)
  (inb6 : ∀ a, (k0_off6 i) a + S256x1x2x128.size a ≤ S768x40x2x128.size a)
  (inb7 : ∀ a, (k0_off7 i) a + S256x1x2x128.size a ≤ S768x40x2x128.size a)
  (inb8 : ∀ a, (k0_off8 i) a + S256x1x2x128.size a ≤ S768x40x2x128.size a)

/-- The step's three stores, last first. -/
abbrev three (P6 P7 P8 : S256x1x2x128.Idx → EReal) : List (View.Piece (Elt Ideal) S768x40x2x128 .bf16) :=
  [⟨Rect.unit (k0_off8 i) S256x1x2x128.size inb8, P8⟩, ⟨Rect.unit (k0_off7 i) S256x1x2x128.size inb7, P7⟩, ⟨Rect.unit (k0_off6 i) S256x1x2x128.size inb6, P6⟩]

/-- After the step's three stores the step's word row holds what they stored, -/
theorem three_mem (f : v.ty.Contents (Elt Ideal)) (P6 P7 P8 : S256x1x2x128.Idx → EReal) (G : S768x40x2x128.Idx → EReal)
    (h6 : ∀ x, P6 x = G ((Rect.unit (s := S768x40x2x128) (k0_off6 i) S256x1x2x128.size inb6).emb x))
    (h7 : ∀ x, P7 x = G ((Rect.unit (s := S768x40x2x128) (k0_off7 i) S256x1x2x128.size inb7).emb x))
    (h8 : ∀ x, P8 x = G ((Rect.unit (s := S768x40x2x128) (k0_off8 i) S256x1x2x128.size inb8).emb x))
    (y : S768x40x2x128.Idx) (hy : (y 1).val = (i 1).val) :
    v.read (Elt Ideal) (v.writes (Elt Ideal) f (three i inb6 inb7 inb8 P6 P7 P8)) y = G y := by
  have h0 : (y 0).val < 768 := (y 0).isLt
  refine View.read_writes_apply_of_pieces v f G _ ?_ y ?_
  · simp only [List.forall_mem_cons]
    exact ⟨h8, h7, h6, fun _ h => absurd h List.not_mem_nil⟩
  · by_cases h : (y 0).val < 256
    · exact ⟨_, List.mem_cons_of_mem _ (List.mem_cons_of_mem _ List.mem_cons_self), mem_piece y 0 _ _ (k0_off6_eq i) inb6 (Nat.zero_le _) (by omega) hy⟩
    by_cases h' : (y 0).val < 512
    · exact ⟨_, List.mem_cons_of_mem _ List.mem_cons_self, mem_piece y 256 _ _ (k0_off7_eq i) inb7 (by omega) (by omega) hy⟩
    · exact ⟨_, List.mem_cons_self, mem_piece y 512 _ _ (k0_off8_eq i) inb8 (by omega) (by omega) hy⟩

/-- and every other word row what it held. -/
theorem three_not_mem (f : v.ty.Contents (Elt Ideal)) (P6 P7 P8 : S256x1x2x128.Idx → EReal)
    (y : S768x40x2x128.Idx) (hy : (y 1).val ≠ (i 1).val) :
    v.read (Elt Ideal) (v.writes (Elt Ideal) f (three i inb6 inb7 inb8 P6 P7 P8)) y = v.read (Elt Ideal) f y := by
  refine View.read_writes_apply_of_forall_not_mem v f y _ ?_
  simp only [List.forall_mem_cons]
  exact ⟨not_mem_piece y 512 _ _ (k0_off8_eq i) _ hy, not_mem_piece y 256 _ _ (k0_off7_eq i) _ hy, not_mem_piece y 0 _ _ (k0_off6_eq i) _ hy,
    fun _ h => absurd h List.not_mem_nil⟩
end Three

/-- The rows of the activations from row `r` on. -/
theorem rows_apply (x0 : Vec Ideal S768x3584 .bf16) (r : Nat) (off : Fin 2 → Nat) (hoff : off = ![r, 0])
    (inb : ∀ a, off a + S256x3584.size a ≤ S768x3584.size a) (a : Fin 256) (d : Fin 3584) (h : r + a.val < 768) :
    View.ld x0 (Rect.unit (s := S768x3584) off S256x3584.size inb) (ix2 a d) = x0 (ix2 ⟨r + a.val, h⟩ d) := by
  subst hoff
  refine View.ld_unit_apply_of x0 ![r, 0] S256x3584.size inb _ _ ?_
  intro k; fin_cases k
  · rfl
  · show d.val = 0 + d.val; omega

section Pieces
variable (z : Vec Ideal S256x3584 .bf16) (w : Vec Ideal S3584x512 .bf16) (s : Vec Ideal S1x1x512 .f32) (u : Vec Ideal S256x256 .bf16) (a b : Fin 256)

/-- The element a 256 × 256 store holds, from its rows of the activations. -/
def part (q : Nat) (hq : q < 2) : EReal :=
  ∑ j : Fin 256, (∑ d : Fin 3584, z (ix2 a d) * w (ix2 d (col q hq j))) * s (ix3 0 0 (col q hq j)) * u (ix2 j b)

theorem col_zero (j : Fin 256) (h : j.val < 512) : (⟨j.val, h⟩ : Fin 512) = col 0 (by decide) j := Fin.ext (by show j.val = 256 * 0 + j.val; omega)

/-- A stored element at a parity: the even entry of the pair is group 0's, the odd one group 1's. -/
theorem parity (q : Fin 2) (h : Nat) (hh : h < 2) (l : Fin 128) (P : S256x1x2x128.Idx → EReal)
    (h0 : P (ix4 a 0 0 l) = part z w s u a (lane h hh l) 0 (by decide)) (h1 : P (ix4 a 0 1 l) = part z w s u a (lane h hh l) 1 (by decide)) :
    P (ix4 a 0 q l) = part z w s u a (lane h hh l) q.val q.isLt := by
  match q with
  | ⟨0, _⟩ => exact h0
  | ⟨1, _⟩ => exact h1

variable (l : Fin 128)
theorem lane_zero (h : l.val < 256) : (⟨l.val, h⟩ : Fin 256) = lane 0 (by decide) l := Fin.ext (by show l.val = 128 * 0 + l.val; omega)

theorem pay39_0 : k0_pay39 (F := Ideal) (k0_pay34 z w) (k0_pay35 s) u u (ix4 a 0 0 l) = part z w s u a (lane 0 (by decide) l) 0 (by decide) := by
  pointwise [k0_pay39, k0_pay37, k0_pay38, k0_pay36, k0_pay35, k0_pay34]
  simp only [col_zero, lane_zero]; rfl
theorem pay39_1 : k0_pay39 (F := Ideal) (k0_pay34 z w) (k0_pay35 s) u u (ix4 a 0 1 l) = part z w s u a (lane 0 (by decide) l) 1 (by decide) := by
  pointwise [k0_pay39, k0_pay37, k0_pay38, k0_pay36, k0_pay35, k0_pay34]
  simp only [lane_zero]; rfl
theorem pay39 (q : Fin 2) : k0_pay39 (F := Ideal) (k0_pay34 z w) (k0_pay35 s) u u (ix4 a 0 q l) = part z w s u a (lane 0 (by decide) l) q.val q.isLt :=
  parity z w s u a q 0 (by decide) l _ (pay39_0 z w s u a l) (pay39_1 z w s u a l)
theorem pay40_0 : k0_pay40 (F := Ideal) (k0_pay34 z w) (k0_pay35 s) u u (ix4 a 0 0 l) = part z w s u a (lane 1 (by decide) l) 0 (by decide) := by
  pointwise [k0_pay40, k0_pay37, k0_pay38, k0_pay36, k0_pay35, k0_pay34]
  simp only [col_zero]; rfl
theorem pay40_1 : k0_pay40 (F := Ideal) (k0_pay34 z w) (k0_pay35 s) u u (ix4 a 0 1 l) = part z w s u a (lane 1 (by decide) l) 1 (by decide) := by
  pointwise [k0_pay40, k0_pay37, k0_pay38, k0_pay36, k0_pay35, k0_pay34]
  rfl
theorem pay40 (q : Fin 2) : k0_pay40 (F := Ideal) (k0_pay34 z w) (k0_pay35 s) u u (ix4 a 0 q l) = part z w s u a (lane 1 (by decide) l) q.val q.isLt :=
  parity z w s u a q 1 (by decide) l _ (pay40_0 z w s u a l) (pay40_1 z w s u a l)
theorem pay45_0 : k0_pay45 (F := Ideal) (k0_pay41 z w) s u u (ix4 a 0 0 l) = part z w s u a (lane 0 (by decide) l) 0 (by decide) := by
  pointwise [k0_pay45, k0_pay43, k0_pay44, k0_pay42, k0_pay41]
  simp only [col_zero, lane_zero]; rfl
theorem pay45_1 : k0_pay45 (F := Ideal) (k0_pay41 z w) s u u (ix4 a 0 1 l) = part z w s u a (lane 0 (by decide) l) 1 (by decide) := by
  pointwise [k0_pay45, k0_pay43, k0_pay44, k0_pay42, k0_pay41]
  simp only [lane_zero]; rfl
theorem pay45 (q : Fin 2) : k0_pay45 (F := Ideal) (k0_pay41 z w) s u u (ix4 a 0 q l) = part z w s u a (lane 0 (by decide) l) q.val q.isLt :=
  parity z w s u a q 0 (by decide) l _ (pay45_0 z w s u a l) (pay45_1 z w s u a l)
theorem pay46_0 : k0_pay46 (F := Ideal) (k0_pay41 z w) s u u (ix4 a 0 0 l) = part z w s u a (lane 1 (by decide) l) 0 (by decide) := by
  pointwise [k0_pay46, k0_pay43, k0_pay44, k0_pay42, k0_pay41]
  simp only [col_zero]; rfl
theorem pay46_1 : k0_pay46 (F := Ideal) (k0_pay41 z w) s u u (ix4 a 0 1 l) = part z w s u a (lane 1 (by decide) l) 1 (by decide) := by
  pointwise [k0_pay46, k0_pay43, k0_pay44, k0_pay42, k0_pay41]
  rfl
theorem pay46 (q : Fin 2) : k0_pay46 (F := Ideal) (k0_pay41 z w) s u u (ix4 a 0 q l) = part z w s u a (lane 1 (by decide) l) q.val q.isLt :=
  parity z w s u a q 1 (by decide) l _ (pay46_0 z w s u a l) (pay46_1 z w s u a l)
theorem pay4_0 : k0_pay4 (F := Ideal) (k0_pay47 z w) s u u (ix4 a 0 0 l) = part z w s u a (lane 0 (by decide) l) 0 (by decide) := by
  pointwise [k0_pay4, k0_pay2, k0_pay3, k0_pay1, k0_pay47]
  simp only [col_zero, lane_zero]; rfl
theorem pay4_1 : k0_pay4 (F := Ideal) (k0_pay47 z w) s u u (ix4 a 0 1 l) = part z w s u a (lane 0 (by decide) l) 1 (by decide) := by
  pointwise [k0_pay4, k0_pay2, k0_pay3, k0_pay1, k0_pay47]
  simp only [lane_zero]; rfl
theorem pay4 (q : Fin 2) : k0_pay4 (F := Ideal) (k0_pay47 z w) s u u (ix4 a 0 q l) = part z w s u a (lane 0 (by decide) l) q.val q.isLt :=
  parity z w s u a q 0 (by decide) l _ (pay4_0 z w s u a l) (pay4_1 z w s u a l)
theorem pay5_0 : k0_pay5 (F := Ideal) (k0_pay47 z w) s u u (ix4 a 0 0 l) = part z w s u a (lane 1 (by decide) l) 0 (by decide) := by
  pointwise [k0_pay5, k0_pay2, k0_pay3, k0_pay1, k0_pay47]
  simp only [col_zero]; rfl
theorem pay5_1 : k0_pay5 (F := Ideal) (k0_pay47 z w) s u u (ix4 a 0 1 l) = part z w s u a (lane 1 (by decide) l) 1 (by decide) := by
  pointwise [k0_pay5, k0_pay2, k0_pay3, k0_pay1, k0_pay47]
  rfl
theorem pay5 (q : Fin 2) : k0_pay5 (F := Ideal) (k0_pay47 z w) s u u (ix4 a 0 q l) = part z w s u a (lane 1 (by decide) l) q.val q.isLt :=
  parity z w s u a q 1 (by decide) l _ (pay5_0 z w s u a l) (pay5_1 z w s u a l)
end Pieces

/-- From the rows of the activations at row `r`, the stored element is the block's. -/
theorem part_rows (x0 : Vec Ideal S768x3584 .bf16) (w w' : Vec Ideal S3584x512 .bf16) (x2 x2' : Vec Ideal S1x1x512 .f32) (x3 x3' : Vec Ideal S256x256 .bf16)
    (r : Nat) (off : Fin 2 → Nat) (hoff : off = ![r, 0])
    (inb : ∀ a, off a + S256x3584.size a ≤ S768x3584.size a) (hw : w' = w) (h2 : x2' = x2) (h3 : x3' = x3)
    (q : Nat) (hq : q < 2) (a b : Fin 256) (h : r + a.val < 768) :
    part (View.ld x0 (Rect.unit (s := S768x3584) off S256x3584.size inb)) w' x2' x3' a b q hq = el x0 w x2 x3 ⟨r + a.val, h⟩ q hq b := by
  subst hw h2 h3
  unfold part el
  simp only [rows_apply x0 r off hoff inb a _ h]

section Step
variable (c : Dev nD) (i : grid0.Coords) (arg2 : Memref sig .tc .vmem S768x3584 .bf16) (harg2 : arg2.IsWhole) (arg3 : Memref sig .tc .vmem S3584x128 .i8) (harg3 : arg3.IsWhole) (arg4 : Memref sig .tc .vmem S1x1x512 .f32) (harg4 : arg4.IsWhole) (arg5 : Memref sig .tc .vmem S256x256 .bf16) (harg5 : arg5.IsWhole) (arg6 : Memref sig .tc .vmem S80x80 .bf16) (harg6 : arg6.IsWhole) (arg7 : Memref sig .tc .vmem S64x18944 .bf16) (harg7 : arg7.IsWhole) (arg8 : Memref sig .tc .vmem S3584x512 .bf16) (harg8 : arg8.IsWhole) (arg9 : Memref sig .tc .vmem S768x40x2x128 .bf16) (harg9 : arg9.IsWhole) (arg10 : Memref sig .tc .vmem S768x40x2x128 .bf16) (harg10 : arg10.IsWhole) (arg11 : Memref sig .tc .vmem S2816x2x128 .bf16) (harg11 : arg11.IsWhole) (arg12 : Memref sig .tc .vmem S2816x2x128 .bf16) (harg12 : arg12.IsWhole)
  (x0 : Vec Ideal S768x3584 .bf16) (x1 : Vec Ideal S3584x128 .i8) (x2 : Vec Ideal S1x1x512 .f32) (x3 : Vec Ideal S256x256 .bf16) (x4 : Vec Ideal S80x80 .bf16)

/-- Case B leaves the step's rows in scratch `arg9` and keeps its other rows. -/
theorem soutB_1 (hc0 : ¬cond0_0 i) (hc1 : cond0_1 i) (hc2 : ¬cond0_2 i) (xs3 xs4 : Vec Ideal S2816x2x128 .bf16) (xs : Vec Ideal S768x40x2x128 .bf16) (y : S768x40x2x128.Idx) :
    (sout0_B_1 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 xs3 xs4 xs y : EReal)
      = if (y 1).val = (i 1).val then row 0 (by decide) x0 (wt x1) x2 x3 y else xs y := by
  have hw := unpacked Variants.none c none i arg2 harg2 arg3 harg3 arg4 harg4 arg5 harg5 arg6 harg6 arg7 harg7 arg8 harg8 arg9 harg9 arg10 harg10 arg11 harg11 arg12 harg12 hc1 x1 inb_S3584x512_S3584x512_0_0
  have h2 : View.ld x2 (Rect.unit (s := S1x1x512) ![0, 0, 0] S1x1x512.size inb_S1x1x512_S1x1x512_0_0_0) = x2 :=
    View.ld_unit_zero (by funext a; fin_cases a <;> rfl) _ _
  have h3 : View.ld x3 (Rect.unit (s := S256x256) ![0, 0] S256x256.size inb_S256x256_S256x256_0_0) = x3 :=
    View.ld_unit_zero (by funext a; fin_cases a <;> rfl) _ _
  unfold sout0_B_1 kernelRun0_B
  dsimp only
  sl_unfold_words
  simp only [View.readAt_eq_ld, harg2.read_unread, harg3.read_unread, harg4.read_unread, harg5.read_unread]
  by_cases hy : (y 1).val = (i 1).val
  · rw [if_pos hy]
    exact three_mem _ i (Gen.k0_off6_inb i hc1) (Gen.k0_off7_inb i hc1) (Gen.k0_off8_inb i hc1) _ _ _ _ (row 0 (by decide) x0 (wt x1) x2 x3)
      (piece_ok 0 (by decide) x0 (wt x1) x2 x3 0 _ (by decide) _ (k0_off6_eq i) _ _ fun a q l =>
        (pay39 _ _ _ _ a l q).trans (part_rows x0 (wt x1) _ x2 _ x3 _ 0 _ rfl inb_S768x3584_S256x3584_0_0 hw h2 h3 q.val q.isLt a _ _))
      (piece_ok 0 (by decide) x0 (wt x1) x2 x3 256 _ (by decide) _ (k0_off7_eq i) _ _ fun a q l =>
        (pay45 _ _ _ _ a l q).trans (part_rows x0 (wt x1) _ x2 _ x3 _ 256 _ rfl inb_S768x3584_S256x3584_256_0 hw h2 h3 q.val q.isLt a _ _))
      (piece_ok 0 (by decide) x0 (wt x1) x2 x3 512 _ (by decide) _ (k0_off8_eq i) _ _ fun a q l =>
        (pay4 _ _ _ _ a l q).trans (part_rows x0 (wt x1) _ x2 _ x3 _ 512 _ rfl inb_S768x3584_S256x3584_512_0 hw h2 h3 q.val q.isLt a _ _)) y hy
  · rw [if_neg hy]
    exact (three_not_mem _ i (Gen.k0_off6_inb i hc1) (Gen.k0_off7_inb i hc1) (Gen.k0_off8_inb i hc1) _ _ _ _ y hy).trans (congrFun (harg9.read_unread xs) y)

/-- Case A leaves the step's rows in scratch `arg9`. -/
theorem soutA_1 (hc0 : cond0_0 i) (hc1 : cond0_1 i) (hc2 : ¬cond0_2 i) (y : S768x40x2x128.Idx) (hy : (y 1).val = (i 1).val) :
    (sout0_A_1 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 y : EReal) = row 0 (by decide) x0 (wt x1) x2 x3 y := by
  have hw := unpacked Variants.none c none i arg2 harg2 arg3 harg3 arg4 harg4 arg5 harg5 arg6 harg6 arg7 harg7 arg8 harg8 arg9 harg9 arg10 harg10 arg11 harg11 arg12 harg12 hc1 x1 inb_S3584x512_S3584x512_0_0
  have h2 : View.ld x2 (Rect.unit (s := S1x1x512) ![0, 0, 0] S1x1x512.size inb_S1x1x512_S1x1x512_0_0_0) = x2 :=
    View.ld_unit_zero (by funext a; fin_cases a <;> rfl) _ _
  have h3 : View.ld x3 (Rect.unit (s := S256x256) ![0, 0] S256x256.size inb_S256x256_S256x256_0_0) = x3 :=
    View.ld_unit_zero (by funext a; fin_cases a <;> rfl) _ _
  unfold sout0_A_1 kernelRun0_A
  dsimp only
  sl_unfold_words
  simp only [View.readAt_eq_ld, harg2.read_unread, harg3.read_unread, harg4.read_unread, harg5.read_unread]
  exact three_mem _ i (Gen.k0_off6_inb i hc1) (Gen.k0_off7_inb i hc1) (Gen.k0_off8_inb i hc1) (View.writes _ _ _ [_]) _ _ _ (row 0 (by decide) x0 (wt x1) x2 x3)
    (piece_ok 0 (by decide) x0 (wt x1) x2 x3 0 _ (by decide) _ (k0_off6_eq i) _ _ fun a q l =>
      (pay39 _ _ _ _ a l q).trans (part_rows x0 (wt x1) _ x2 _ x3 _ 0 _ rfl inb_S768x3584_S256x3584_0_0 hw h2 h3 q.val q.isLt a _ _))
    (piece_ok 0 (by decide) x0 (wt x1) x2 x3 256 _ (by decide) _ (k0_off7_eq i) _ _ fun a q l =>
      (pay45 _ _ _ _ a l q).trans (part_rows x0 (wt x1) _ x2 _ x3 _ 256 _ rfl inb_S768x3584_S256x3584_256_0 hw h2 h3 q.val q.isLt a _ _))
    (piece_ok 0 (by decide) x0 (wt x1) x2 x3 512 _ (by decide) _ (k0_off8_eq i) _ _ fun a q l =>
      (pay4 _ _ _ _ a l q).trans (part_rows x0 (wt x1) _ x2 _ x3 _ 512 _ rfl inb_S768x3584_S256x3584_512_0 hw h2 h3 q.val q.isLt a _ _)) y hy

/-- Case B leaves the step's rows in scratch `arg10` and keeps its other rows. -/
theorem soutB_2 (hc0 : ¬cond0_0 i) (hc1 : cond0_1 i) (hc2 : ¬cond0_2 i) (xs3 xs4 : Vec Ideal S2816x2x128 .bf16) (xs : Vec Ideal S768x40x2x128 .bf16) (y : S768x40x2x128.Idx) :
    (sout0_B_2 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 xs3 xs4 xs y : EReal)
      = if (y 1).val = (i 1).val then row 1 (by decide) x0 (wt x1) x2 x3 y else xs y := by
  have hw := unpacked Variants.none c none i arg2 harg2 arg3 harg3 arg4 harg4 arg5 harg5 arg6 harg6 arg7 harg7 arg8 harg8 arg9 harg9 arg10 harg10 arg11 harg11 arg12 harg12 hc1 x1 inb_S3584x512_S3584x512_0_0
  have h2 : View.ld x2 (Rect.unit (s := S1x1x512) ![0, 0, 0] S1x1x512.size inb_S1x1x512_S1x1x512_0_0_0) = x2 :=
    View.ld_unit_zero (by funext a; fin_cases a <;> rfl) _ _
  have h3 : View.ld x3 (Rect.unit (s := S256x256) ![0, 0] S256x256.size inb_S256x256_S256x256_0_0) = x3 :=
    View.ld_unit_zero (by funext a; fin_cases a <;> rfl) _ _
  unfold sout0_B_2 kernelRun0_B
  dsimp only
  sl_unfold_words
  simp only [View.readAt_eq_ld, harg2.read_unread, harg3.read_unread, harg4.read_unread, harg5.read_unread]
  by_cases hy : (y 1).val = (i 1).val
  · rw [if_pos hy]
    exact three_mem _ i (Gen.k0_off6_inb i hc1) (Gen.k0_off7_inb i hc1) (Gen.k0_off8_inb i hc1) _ _ _ _ (row 1 (by decide) x0 (wt x1) x2 x3)
      (piece_ok 1 (by decide) x0 (wt x1) x2 x3 0 _ (by decide) _ (k0_off6_eq i) _ _ fun a q l =>
        (pay40 _ _ _ _ a l q).trans (part_rows x0 (wt x1) _ x2 _ x3 _ 0 _ rfl inb_S768x3584_S256x3584_0_0 hw h2 h3 q.val q.isLt a _ _))
      (piece_ok 1 (by decide) x0 (wt x1) x2 x3 256 _ (by decide) _ (k0_off7_eq i) _ _ fun a q l =>
        (pay46 _ _ _ _ a l q).trans (part_rows x0 (wt x1) _ x2 _ x3 _ 256 _ rfl inb_S768x3584_S256x3584_256_0 hw h2 h3 q.val q.isLt a _ _))
      (piece_ok 1 (by decide) x0 (wt x1) x2 x3 512 _ (by decide) _ (k0_off8_eq i) _ _ fun a q l =>
        (pay5 _ _ _ _ a l q).trans (part_rows x0 (wt x1) _ x2 _ x3 _ 512 _ rfl inb_S768x3584_S256x3584_512_0 hw h2 h3 q.val q.isLt a _ _)) y hy
  · rw [if_neg hy]
    exact (three_not_mem _ i (Gen.k0_off6_inb i hc1) (Gen.k0_off7_inb i hc1) (Gen.k0_off8_inb i hc1) _ _ _ _ y hy).trans (congrFun (harg10.read_unread xs) y)

/-- Case A leaves the step's rows in scratch `arg10`. -/
theorem soutA_2 (hc0 : cond0_0 i) (hc1 : cond0_1 i) (hc2 : ¬cond0_2 i) (y : S768x40x2x128.Idx) (hy : (y 1).val = (i 1).val) :
    (sout0_A_2 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 y : EReal) = row 1 (by decide) x0 (wt x1) x2 x3 y := by
  have hw := unpacked Variants.none c none i arg2 harg2 arg3 harg3 arg4 harg4 arg5 harg5 arg6 harg6 arg7 harg7 arg8 harg8 arg9 harg9 arg10 harg10 arg11 harg11 arg12 harg12 hc1 x1 inb_S3584x512_S3584x512_0_0
  have h2 : View.ld x2 (Rect.unit (s := S1x1x512) ![0, 0, 0] S1x1x512.size inb_S1x1x512_S1x1x512_0_0_0) = x2 :=
    View.ld_unit_zero (by funext a; fin_cases a <;> rfl) _ _
  have h3 : View.ld x3 (Rect.unit (s := S256x256) ![0, 0] S256x256.size inb_S256x256_S256x256_0_0) = x3 :=
    View.ld_unit_zero (by funext a; fin_cases a <;> rfl) _ _
  unfold sout0_A_2 kernelRun0_A
  dsimp only
  sl_unfold_words
  simp only [View.readAt_eq_ld, harg2.read_unread, harg3.read_unread, harg4.read_unread, harg5.read_unread]
  exact three_mem _ i (Gen.k0_off6_inb i hc1) (Gen.k0_off7_inb i hc1) (Gen.k0_off8_inb i hc1) (View.writes _ _ _ [_]) _ _ _ (row 1 (by decide) x0 (wt x1) x2 x3)
    (piece_ok 1 (by decide) x0 (wt x1) x2 x3 0 _ (by decide) _ (k0_off6_eq i) _ _ fun a q l =>
      (pay40 _ _ _ _ a l q).trans (part_rows x0 (wt x1) _ x2 _ x3 _ 0 _ rfl inb_S768x3584_S256x3584_0_0 hw h2 h3 q.val q.isLt a _ _))
    (piece_ok 1 (by decide) x0 (wt x1) x2 x3 256 _ (by decide) _ (k0_off7_eq i) _ _ fun a q l =>
      (pay46 _ _ _ _ a l q).trans (part_rows x0 (wt x1) _ x2 _ x3 _ 256 _ rfl inb_S768x3584_S256x3584_256_0 hw h2 h3 q.val q.isLt a _ _))
    (piece_ok 1 (by decide) x0 (wt x1) x2 x3 512 _ (by decide) _ (k0_off8_eq i) _ _ fun a q l =>
      (pay5 _ _ _ _ a l q).trans (part_rows x0 (wt x1) _ x2 _ x3 _ 512 _ rfl inb_S768x3584_S256x3584_512_0 hw h2 h3 q.val q.isLt a _ _)) y hy

end Step

end Cert.KernelIdeal.Block

end
-- ==== Proof.Equation.lean ====
/- One step's output element, with the step's blocks read off the arguments, is the reference's sum: the two sums run over
   the same terms in two orders. -/
module

public import proofs.«01_k».proof.Proof.Block

@[expose] public section

set_option maxRecDepth 16384

noncomputable section

namespace Cert.Equation

open Idealize.ShloMosaic
open Cert.KernelIdeal Cert.Decode Cert.KernelIdeal.Weights Cert.KernelIdeal.Block

theorem row_parts (d : Nat) : ∃ r p m, p < 2 ∧ m < 16 ∧ d = 32 * r + 16 * p + m ∧ d / 32 = r ∧ d / 16 % 2 = p ∧ d % 32 / 16 = p ∧ d % 16 = m :=
  ⟨d / 32, d / 16 % 2, d % 16, by omega, by omega, by omega, rfl, rfl, by omega, rfl⟩
theorem row_parts' (e : Nat) : ∃ r p m, p < 2 ∧ m < 16 ∧ e = 32 * r + 2 * m + p ∧ e / 32 = r ∧ e % 2 = p ∧ e % 32 / 2 = m :=
  ⟨e / 32, e % 2, e % 32 / 2, by omega, by omega, by omega, rfl, rfl, rfl⟩

theorem pair_parts (r p m : Nat) (hp : p < 2) (hm : m < 16) :
    (r * 32 + m * 2 + p) / 32 = r ∧ (r * 32 + m * 2 + p) % 2 = p ∧ (r * 32 + m * 2 + p) % 32 / 2 = m := by
  have h1 : (r * 32 + m * 2 + p) / 32 = r := by omega
  have h2 : (r * 32 + m * 2 + p) % 32 = m * 2 + p := by omega
  exact ⟨h1, by omega, by rw [h2]; omega⟩
theorem half_parts (r p m : Nat) (hp : p < 2) (hm : m < 16) :
    (r * 32 + p * 16 + m) / 32 = r ∧ (r * 32 + p * 16 + m) / 16 % 2 = p ∧ (r * 32 + p * 16 + m) % 16 = m := by
  have h1 : (r * 32 + p * 16 + m) / 16 = 2 * r + p := by omega
  exact ⟨by omega, by rw [h1]; omega, by omega⟩

/-- The order in which the kernel's rows stand: within 32 rows the even ones, then the odd ones. -/
def rowOrder : Fin 3584 ≃ Fin 3584 where
  toFun d := ⟨d.val / 32 * 32 + d.val % 16 * 2 + d.val / 16 % 2, by have := d.isLt; omega⟩
  invFun e := ⟨e.val / 32 * 32 + e.val % 2 * 16 + e.val % 32 / 2, by have := e.isLt; omega⟩
  left_inv d := Fin.ext (by
    obtain ⟨r, p, m, hp, hm, e, e1, e2, -, e3⟩ := row_parts d.val
    simp only [e1, e2, e3]
    obtain ⟨h1, h2, h3⟩ := pair_parts r p m hp hm
    rw [h1, h2, h3]
    omega)
  right_inv e := Fin.ext (by
    obtain ⟨r, p, m, hp, hm, e, e1, e2, e3⟩ := row_parts' e.val
    simp only [e1, e2, e3]
    obtain ⟨h1, h2, h3⟩ := half_parts r p m hp hm
    rw [h1, h2, h3]
    omega)

/-- The order in which the kernel's columns stand: within 256 columns field 0 of every code, then field 1, and so on. -/
def colOrder : Fin 256 ≃ Fin 256 where
  toFun j := ⟨j.val % 64 * 4 + j.val / 64, by have := j.isLt; omega⟩
  invFun n := ⟨n.val % 4 * 64 + n.val / 4, by have := n.isLt; omega⟩
  left_inv j := Fin.ext (by have := j.isLt; simp only; omega)
  right_inv n := Fin.ext (by have := n.isLt; simp only; omega)

/-- The element `b` of group `g` at row `t` before the groups are mixed, as the reference computes it: `z` the activations, `p` the
    packed codes, `s` the column scales, `u` the second matrix. -/
def result (z : Vec Ideal S1536x3584 .bf16) (p : Vec Ideal S3584x4736 .i8) (s : Vec Ideal S18944 .f32) (u : Vec Ideal S256x256 .bf16)
    (t : Fin 1536) (g : Nat) (hg : g < 74) (b : Fin 256) : EReal :=
  ∑ n : Fin 256, (∑ d : Fin 3584, z (ix2 t d) * weight (p (ix2 d ⟨64 * g + n.val / 4, by have := n.isLt; omega⟩)) (n.val % 4))
    * s (ix1 ⟨256 * g + n.val, by have := n.isLt; omega⟩) * u (ix2 b n)

theorem result_congr (z : Vec Ideal S1536x3584 .bf16) (p : Vec Ideal S3584x4736 .i8) (s : Vec Ideal S18944 .f32) (u : Vec Ideal S256x256 .bf16)
    {t t' : Fin 1536} (ht : t = t') {g g' : Nat} (hg : g < 74) (hg' : g' < 74) (h : g = g') {b b' : Fin 256} (hb : b = b') :
    result z p s u t g hg b = result z p s u t' g' hg' b' := by
  subst ht h hb; rfl

/-- The whole result's element at row `t`, column `256 a + b`: the groups mixed by the matrix `v`. -/
def total (z : Vec Ideal S1536x3584 .bf16) (p : Vec Ideal S3584x4736 .i8) (s : Vec Ideal S18944 .f32) (v : Vec Ideal S74x74 .bf16)
    (u : Vec Ideal S256x256 .bf16) (t : Fin 1536) (a : Fin 74) (b : Fin 256) : EReal :=
  ∑ q : Fin 74, v (ix2 a q) * result z p s u t q.val q.isLt b

/-- The unpacked weight at a row and a column, in the reference's order. -/
theorem wt_apply (p : Vec Ideal S3584x4736 .i8) (x1 : Vec Ideal S3584x128 .i8) (σ : Nat) (hσ : σ < 37)
    (h1 : ∀ (d : Fin 3584) (e : Fin 128), x1 (ix2 d e) = p (ix2 d ⟨128 * σ + e.val, by have := e.isLt; omega⟩))
    (q : Nat) (hq : q < 2) (j : Fin 256) (d : Fin 3584) :
    wt x1 (ix2 d (col q hq j)) = weight (p (ix2 (rowOrder d) ⟨64 * (2 * σ + q) + (colOrder j).val / 4, by have := (colOrder j).isLt; omega⟩))
      ((colOrder j).val % 4) := by
  have hj := j.isLt
  have hd := d.isLt
  unfold wt
  rw [h1]
  have c1 : (256 * q + j.val) / 256 = q := by omega
  have c2 : (256 * q + j.val) % 64 = j.val % 64 := by omega
  have c3 : (256 * q + j.val) % 256 = j.val := by omega
  have c4 : (colOrder j).val / 4 = j.val % 64 := by show (j.val % 64 * 4 + j.val / 64) / 4 = _; omega
  have c5 : (colOrder j).val % 4 = j.val / 64 := by show (j.val % 64 * 4 + j.val / 64) % 4 = _; omega
  have e : (256 * q + j.val) % 256 / 64 = (colOrder j).val % 4 := by rw [c3, c5]
  have e1 : 128 * σ + ((256 * q + j.val) / 256 * 64 + (256 * q + j.val) % 64) = 64 * (2 * σ + q) + (colOrder j).val / 4 := by
    rw [c1, c2, c4]; omega
  have e0 : d.val / 32 * 32 + 2 * (d.val % 16) + d.val % 32 / 16 = (rowOrder d).val := by
    show _ = d.val / 32 * 32 + d.val % 16 * 2 + d.val / 16 % 2
    obtain ⟨r, p, m, hp, hm, e, e1, e2, e4, e3⟩ := row_parts d.val
    rw [e1, e2, e3, e4]; omega
  refine (congrArg (fun k => weight _ k) e).trans (congrArg (fun x => weight (p x) _) ?_)
  exact congr (congrArg ix2 (Fin.ext e0)) (Fin.ext e1)

theorem el_eq (z : Vec Ideal S1536x3584 .bf16) (p : Vec Ideal S3584x4736 .i8) (s : Vec Ideal S18944 .f32) (u : Vec Ideal S256x256 .bf16)
    (x0 : Vec Ideal S768x3584 .bf16) (x1 : Vec Ideal S3584x128 .i8) (x2 : Vec Ideal S1x1x512 .f32) (x3 : Vec Ideal S256x256 .bf16)
    (ρ : Nat) (hρ : ρ < 2) (σ : Nat) (hσ : σ < 37)
    (h0 : ∀ (a : Fin 768) (d : Fin 3584), x0 (ix2 a d) = z (ix2 ⟨768 * ρ + a.val, by have := a.isLt; omega⟩ (rowOrder d)))
    (h1 : ∀ (d : Fin 3584) (e : Fin 128), x1 (ix2 d e) = p (ix2 d ⟨128 * σ + e.val, by have := e.isLt; omega⟩))
    (h2 : ∀ (q : Nat) (hq : q < 2) (j : Fin 256), x2 (ix3 0 0 (col q hq j)) = s (ix1 ⟨256 * (2 * σ + q) + (colOrder j).val, by have := (colOrder j).isLt; omega⟩))
    (h3 : ∀ j b : Fin 256, x3 (ix2 j b) = u (ix2 b (colOrder j)))
    (a : Fin 768) (q : Nat) (hq : q < 2) (b : Fin 256) :
    el x0 (wt x1) x2 x3 a q hq b = result z p s u ⟨768 * ρ + a.val, by have := a.isLt; omega⟩ (2 * σ + q) (by omega) b := by
  unfold el result
  refine Fintype.sum_equiv colOrder _ _ fun j => ?_
  rw [h2, h3]
  congr 2
  refine Fintype.sum_equiv rowOrder _ _ fun d => ?_
  rw [h0, wt_apply p x1 σ hσ h1 q hq j d]

end Cert.Equation

end
-- ==== Proof.Inputs.lean ====
/- What the kernel's input blocks hold at every step, read off the arguments. -/
module

public import proofs.«01_k».proof.Proof.Gen.KernelIdeal.Value
public import proofs.«01_k».proof.Proof.Equation
public import Idealize.ShloMosaic.Lib.Pipeline.ValueKit
public import Idealize.ShloMosaic.Lib.KernelVsHost

@[expose] public section

set_option maxRecDepth 16384

noncomputable section

namespace Cert.KernelIdeal.Inputs

open Idealize.ShloMosaic Idealize.ShloMosaic.TcCoe Idealize.SL.Sem
open Cert.KernelIdeal Cert.KernelIdeal.Gen Cert.KernelIdeal.Block Cert.KernelIdeal.Weights Cert.Equation

variable (m : (ℓ : Loc nD τ sig) → Buf (Elt Ideal) ℓ) (c : Dev nD)

/-- The arguments. -/
abbrev z : Vec Ideal S1536x3584 .bf16 := m ((c : Thread nD τ).loc main_arg0)
abbrev p : Vec Ideal S3584x4736 .i8 := m ((c : Thread nD τ).loc main_arg1)
abbrev s : Vec Ideal S18944 .f32 := m ((c : Thread nD τ).loc main_arg2)
abbrev v : Vec Ideal S74x74 .bf16 := m ((c : Thread nD τ).loc main_arg3)
abbrev u : Vec Ideal S256x256 .bf16 := m ((c : Thread nD τ).loc main_arg4)

/-- The activations as the kernel reads them. -/
theorem activations (t : Fin 1536) (d : Fin 3584) : (V m c main_v2 : Vec Ideal S1536x3584 .bf16) (ix2 t d) = z m c (ix2 t (rowOrder d)) := by
  have e : (V m c main_v2 : Vec Ideal S1536x3584 .bf16) = shapeCast S1536x3584 (transpose S1536x112x2x16 [0, 1, 3, 2] (shapeCast S1536x112x16x2 (z m c) shapeCasts_S1536x3584_S1536x112x16x2) transposes_S1536x112x16x2_S1536x112x2x16_0_1_3_2) shapeCasts_S1536x112x2x16_S1536x3584 := by
    show StableHlo.after (List.flatten [hostOps0, hostOps0_1]) _ (Proc.devRef .tc main_v2) = _
    after_results
    rfl
  rw [e]
  generalize z m c = y
  pointwise []
  rfl

/-- The second matrix as the kernel reads it. -/
theorem second (j b : Fin 256) : (V m c main_v6 : Vec Ideal S256x256 .bf16) (ix2 j b) = u m c (ix2 b (colOrder j)) := by
  have e : (V m c main_v6 : Vec Ideal S256x256 .bf16) = shapeCast S256x256 (transpose S4x64x256 [1, 0, 2] (shapeCast S64x4x256 (transpose S256x256 [1, 0] (u m c) transposes_S256x256_S256x256_1_0) shapeCasts_S256x256_S64x4x256) transposes_S64x4x256_S4x64x256_1_0_2) shapeCasts_S4x64x256_S256x256 := by
    show StableHlo.after (List.flatten [hostOps0, hostOps0_1]) _ (Proc.devRef .tc main_v6) = _
    after_results
    rfl
  rw [e]
  generalize u m c = y
  pointwise []
  rfl

/-- The column scales as the kernel reads them. -/
theorem scales (σ : Fin 37) (q : Nat) (hq : q < 2) (j : Fin 256) :
    (V m c main_v9 : Vec Ideal S37x1x512 .f32) (ix3 σ 0 (col q hq j))
      = s m c (ix1 ⟨256 * (2 * σ.val + q) + (colOrder j).val, by have := (colOrder j).isLt; have := σ.isLt; omega⟩) := by
  have e : (V m c main_v9 : Vec Ideal S37x1x512 .f32) = shapeCast S37x1x512 (transpose S74x4x64 [0, 2, 1] (shapeCast S74x64x4 (s m c) shapeCasts_S18944_S74x64x4) transposes_S74x64x4_S74x4x64_0_2_1) shapeCasts_S74x4x64_S37x1x512 := by
    show StableHlo.after (List.flatten [hostOps0, hostOps0_1]) _ (Proc.devRef .tc main_v9) = _
    after_results
    rfl
  rw [e]
  generalize s m c = y
  pointwise []
  refine congrArg (fun n => y (ix1 n)) (Fin.ext ?_)
  have hj := j.isLt
  have c1 : (256 * q + j.val) / 256 = q := by omega
  have c2 : (256 * q + j.val) % 64 = j.val % 64 := by omega
  have c3 : (256 * q + j.val) / 64 % 4 = j.val / 64 := by omega
  show (σ.val * 2 + (256 * q + j.val) / 256) * 256 + (256 * q + j.val) % 64 * 4 + (256 * q + j.val) / 64 % 4 = 256 * (2 * σ.val + q) + (j.val % 64 * 4 + j.val / 64)
  rw [c1, c2, c3]
  omega

/-- The matrix that mixes the groups as the kernel reads it: the argument with rows and columns of zeros after it. -/
theorem mixing_eq : (V m c main_v10 : Vec Ideal S80x80 .bf16)
    = pad S80x80 ![0, 0] ![6, 6] ![0, 0] (v m c) (sitofp (F := Ideal) .bf16 (constantI S_ 32 0#32)) pads_S74x74_S80x80_060_060 h_S_ := by
  show StableHlo.after (List.flatten [hostOps0, hostOps0_1]) _ (Proc.devRef .tc main_v10) = _
  simp only [hostOps0, hostOps0_1, List.flatten_cons, List.flatten_nil, List.append_nil, List.cons_append, List.nil_append]
  after_results
  rfl

theorem mixing (a q : Fin 80) (ha : a.val < 74) (hq : q.val < 74) : (V m c main_v10 : Vec Ideal S80x80 .bf16) (ix2 a q) = v m c (ix2 ⟨a.val, ha⟩ ⟨q.val, hq⟩) := by
  rw [mixing_eq]
  refine pad_apply_of_inside _ _ _ _ _ _ _ _ (ix2 ⟨a.val, ha⟩ ⟨q.val, hq⟩) fun k => ?_
  fin_cases k
  · show a.val = 0 + a.val * (0 + 1); omega
  · show q.val = 0 + q.val * (0 + 1); omega

theorem mixing_zero (a q : Fin 80) (hq : 74 ≤ q.val) : (V m c main_v10 : Vec Ideal S80x80 .bf16) (ix2 a q) = (0 : EReal) := by
  rw [mixing_eq]
  refine (pad_apply_of_not_inside _ _ _ _ _ _ _ _ 1 fun h => ?_).trans ?_
  · have h' : (q.val - 0) / (0 + 1) < 74 := h.2.2
    omega
  · show (((0#32 : BitVec 32).toInt : ℝ) : EReal) = 0
    norm_num

/-- Where each window's block lies at a point. -/
theorem coord0 : ∀ t : Fin cfg0.N, (grid0.coords t 0).val = t.val / 49 := by decide +kernel
theorem coord1 : ∀ t : Fin cfg0.N, (grid0.coords t 1).val = t.val % 49 := by decide +kernel
theorem index0 : ∀ t : Fin cfg0.N, win0_0.index t 0 = t.val / 49 ∧ win0_0.index t 1 = 0 := by decide +kernel
theorem index1 : ∀ t : Fin cfg0.N, t.val % 49 ≤ 36 → win0_1.index t 0 = 0 ∧ win0_1.index t 1 = t.val % 49 := by decide +kernel
theorem index2 : ∀ t : Fin cfg0.N, t.val % 49 ≤ 36 → win0_2.index t 0 = t.val % 49 ∧ win0_2.index t 1 = 0 ∧ win0_2.index t 2 = 0 := by decide +kernel
theorem index3 : ∀ t : Fin cfg0.N, win0_3.index t 0 = 0 ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = 12 * (t.val / 49) + (t.val % 49 - 37) ∧ win0_5.index t 1 = 0 := by decide +kernel

/-- The points that write the output back are the points of the second phase. -/
theorem flushes : ∀ t : Fin cfg0.N, (cfg0.win 5).flush t = true → 37 ≤ t.val % 49 := by decide +kernel

theorem points (t : Fin cfg0.N) : t.val < 98 := t.isLt.trans_eq N_0

theorem block0 (t : Fin cfg0.N) (a : Fin 768) (d : Fin 3584) :
    (iblk m c 0 t : Vec Ideal S768x3584 .bf16) (ix2 a d)
      = (V m c main_v2 : Vec Ideal S1536x3584 .bf16) (ix2 ⟨768 * (t.val / 49) + a.val, by have := points t; have := a.isLt; omega⟩ d) := by
  blk_ext [iblk, (index0 t).1, (index0 t).2]
theorem block1 (t : Fin cfg0.N) (ht : t.val % 49 ≤ 36) (d : Fin 3584) (e : Fin 128) :
    (iblk m c 1 t : Vec Ideal S3584x128 .i8) (ix2 d e)
      = (V m c main_arg1 : Vec Ideal S3584x4736 .i8) (ix2 d ⟨128 * (t.val % 49) + e.val, by have := e.isLt; omega⟩) := by
  blk_ext [iblk, (index1 t ht).1, (index1 t ht).2]
theorem block2 (t : Fin cfg0.N) (ht : t.val % 49 ≤ 36) (n : Fin 512) :
    (iblk m c 2 t : Vec Ideal S1x1x512 .f32) (ix3 0 0 n) = (V m c main_v9 : Vec Ideal S37x1x512 .f32) (ix3 ⟨t.val % 49, by omega⟩ 0 n) := by
  blk_ext [iblk, (index2 t ht).1, (index2 t ht).2.1, (index2 t ht).2.2]
theorem block3 (t : Fin cfg0.N) (j b : Fin 256) :
    (iblk m c 3 t : Vec Ideal S256x256 .bf16) (ix2 j b) = (V m c main_v6 : Vec Ideal S256x256 .bf16) (ix2 j b) := by
  blk_ext [iblk, (index3 t).1, (index3 t).2]
theorem block4 (t : Fin cfg0.N) (a q : Fin 80) :
    (iblk m c 4 t : Vec Ideal S80x80 .bf16) (ix2 a q) = (V m c main_v10 : Vec Ideal S80x80 .bf16) (ix2 a q) := by
  blk_ext [iblk, (index4 t).1, (index4 t).2]

/-- An element of a product step, read off the arguments. -/
theorem el_apply (t : Fin cfg0.N) (ht : t.val % 49 ≤ 36) (a : Fin 768) (q : Nat) (hq : q < 2) (b : Fin 256) :
    el (iblk m c 0 t : Vec Ideal S768x3584 .bf16) (wt (iblk m c 1 t : Vec Ideal S3584x128 .i8)) (iblk m c 2 t : Vec Ideal S1x1x512 .f32) (iblk m c 3 t : Vec Ideal S256x256 .bf16) a q hq b
      = result (z m c) (p m c) (s m c) (u m c) ⟨768 * (t.val / 49) + a.val, by have := points t; have := a.isLt; omega⟩ (2 * (t.val % 49) + q) (by omega) b :=
  el_eq (z m c) (p m c) (s m c) (u m c) _ _ _ _ (t.val / 49) (by have := points t; omega) (t.val % 49) (by omega)
    (fun a d => (block0 m c t a d).trans (activations m c _ d))
    (fun d e => (block1 m c t ht d e).trans (congrFun (V_main_arg1 m c) _))
    (fun q hq j => (block2 m c t ht _).trans (scales m c _ q hq j))
    (fun j b => (block3 m c t j b).trans (second m c j b)) a q hq b

end Cert.KernelIdeal.Inputs

end
-- ==== Proof.Rotate.lean ====
/- What the second rotation's loop leaves in the two scratch arrays of rotated tokens. -/
module

public import proofs.«01_k».proof.Proof.Gen.KernelIdeal.Frame
public import Idealize.ShloMosaic.Lib.Pipeline.Value
public import Idealize.ShloMosaic.Lib.Pipeline.ValueKit
public import Idealize.ShloMosaic.Lib.KernelVsHost

@[expose] public section

set_option maxRecDepth 16384

noncomputable section

namespace Cert.KernelIdeal.Rotate

open Idealize.ShloMosaic Idealize.ShloMosaic.TcCoe Idealize.SL.Sem
open Cert.KernelIdeal Cert.KernelIdeal.Gen

/-- Word row `q / 2` and parity `q % 2` of the group `q`, at a token and a lane. -/
abbrev pos {n : Nat} (t : Fin n) (q : Fin 80) (l : Fin 128) : (⟨4, ![n, 40, 2, 128]⟩ : Shape).Idx :=
  ix4 t ⟨q.val / 2, by have := q.isLt; omega⟩ ⟨q.val % 2, Nat.mod_lt _ (by decide)⟩ l

/-- The first matrix applied to a token's 80 groups, at group `a` and lane `l`. -/
def rot (u : Vec Ideal S80x80 .bf16) (xs : Vec Ideal S768x40x2x128 .bf16) (t a : Nat) (l : Fin 128) : EReal :=
  ∑ q : Fin 80, u (ix2 ⟨a % 80, Nat.mod_lt _ (by decide)⟩ q) * xs (pos ⟨t % 768, Nat.mod_lt _ (by decide)⟩ q l)

section Payloads
variable (A B A' B' : Vec Ideal S1x40x2x128 .bf16) (u : Vec Ideal S80x80 .bf16)

theorem pick (q : Fin 80) (l : Fin 128) : (if q.val % 2 = 0 then A (ix4 0 ⟨q.val / 2, by have := q.isLt; omega⟩ 0 l) else A (ix4 0 ⟨q.val / 2, by have := q.isLt; omega⟩ 1 l)) = A (pos 0 q l) := by
  split
  · next h => exact congrArg (fun p => A (ix4 0 _ p l)) (Fin.ext (by show 0 = q.val % 2; omega))
  · next h => exact congrArg (fun p => A (ix4 0 _ p l)) (Fin.ext (by show 1 = q.val % 2; omega))

/-- A token's words unpacked into its 80 groups, for the first half of the lanes, -/
theorem groups_left (q : Fin 80) (l : Fin 128) : (k0_pay49 (F := Ideal) A B (ix2 q ⟨l.val, by have := l.isLt; omega⟩) : EReal) = A (pos 0 q l) := by
  unfold k0_pay49
  refine (concatenate_pair_apply_left (α := EReal) (t := S80x256) (s₁ := S80x128) (s₂ := S80x128) 1 _ _ concatenates_S80x128_S80x128_S80x256_d1 (ix2 q ⟨l.val, by have := l.isLt; omega⟩) rfl (ix2 q l) (fun b => by match b with | ⟨0, _⟩ => rfl | ⟨1, _⟩ => rfl)).trans ?_
  pointwise []
  exact pick A q l
/-- and for the second. -/
theorem groups_right (q : Fin 80) (l : Fin 128) : (k0_pay49 (F := Ideal) A B (ix2 q ⟨128 + l.val, by have := l.isLt; omega⟩) : EReal) = B (pos 0 q l) := by
  unfold k0_pay49
  refine (concatenate_pair_apply_right (α := EReal) (t := S80x256) (s₁ := S80x128) (s₂ := S80x128) 1 _ _ concatenates_S80x128_S80x128_S80x256_d1 (ix2 q ⟨128 + l.val, by have := l.isLt; omega⟩) rfl rfl (ix2 q l) (fun b hb => by match b with | ⟨0, _⟩ => rfl | ⟨1, _⟩ => exact absurd rfl hb) (by show l.val + 128 = 128 + l.val; omega)).trans ?_
  pointwise []
  exact pick B q l

theorem pay48_eq : k0_pay48 (F := Ideal) A B u = matmul dot_S80x80_S80x256_S80x256_1_0_0_1_n_n none (k0_pay50 u) (k0_pay49 A B) (constant S80x256 .f32 0x00000000#32) := rfl

theorem pay8_0 (a : Fin 80) (l : Fin 128) : (k0_pay8 (F := Ideal) (k0_pay48 A B u) (k0_pay49 A' B') (k0_pay50 u) (constant S80x256 .f32 0x00000000#32) (ix3 a 0 l) : EReal) = ∑ q : Fin 80, u (ix2 a q) * A (pos 0 q l) := by
  rw [pay48_eq]
  refine Eq.trans ?_ (Finset.sum_congr rfl fun q _ => congrArg (u (ix2 a q) * ·) (groups_left A B q l))
  generalize hG : k0_pay49 (F := Ideal) A B = G
  generalize hG' : k0_pay49 (F := Ideal) A' B' = G'
  pointwise [k0_pay8, k0_pay6, k0_pay7, k0_pay50]
theorem pay8_1 (a : Fin 80) (l : Fin 128) : (k0_pay8 (F := Ideal) (k0_pay48 A B u) (k0_pay49 A' B') (k0_pay50 u) (constant S80x256 .f32 0x00000000#32) (ix3 a 1 l) : EReal) = ∑ q : Fin 80, u (ix2 a q) * A' (pos 0 q l) := by
  rw [pay48_eq]
  refine Eq.trans ?_ (Finset.sum_congr rfl fun q _ => congrArg (u (ix2 a q) * ·) (groups_left A' B' q l))
  generalize hG : k0_pay49 (F := Ideal) A B = G
  generalize hG' : k0_pay49 (F := Ideal) A' B' = G'
  pointwise [k0_pay8, k0_pay6, k0_pay7, k0_pay50]
theorem pay9_0 (a : Fin 80) (l : Fin 128) : (k0_pay9 (F := Ideal) (k0_pay48 A B u) (k0_pay49 A' B') (k0_pay50 u) (constant S80x256 .f32 0x00000000#32) (ix3 a 0 l) : EReal) = ∑ q : Fin 80, u (ix2 a q) * B (pos 0 q l) := by
  rw [pay48_eq]
  refine Eq.trans ?_ (Finset.sum_congr rfl fun q _ => congrArg (u (ix2 a q) * ·) (groups_right A B q l))
  generalize hG : k0_pay49 (F := Ideal) A B = G
  generalize hG' : k0_pay49 (F := Ideal) A' B' = G'
  pointwise [k0_pay9, k0_pay6, k0_pay7, k0_pay50]
theorem pay9_1 (a : Fin 80) (l : Fin 128) : (k0_pay9 (F := Ideal) (k0_pay48 A B u) (k0_pay49 A' B') (k0_pay50 u) (constant S80x256 .f32 0x00000000#32) (ix3 a 1 l) : EReal) = ∑ q : Fin 80, u (ix2 a q) * B' (pos 0 q l) := by
  rw [pay48_eq]
  refine Eq.trans ?_ (Finset.sum_congr rfl fun q _ => congrArg (u (ix2 a q) * ·) (groups_right A' B' q l))
  generalize hG : k0_pay49 (F := Ideal) A B = G
  generalize hG' : k0_pay49 (F := Ideal) A' B' = G'
  pointwise [k0_pay9, k0_pay6, k0_pay7, k0_pay50]
end Payloads

theorem off9_eq : ∀ (i : grid0.Coords) (k : Fin k0_t2_loop.trips), k0_cond3 i = 1#1 → k0_off9 i k = ![64 * ((i 1).val - 37) + 2 * k.val, 0, 0, 0] := by decide +kernel
theorem off10_eq : ∀ (i : grid0.Coords) (k : Fin k0_t2_loop.trips), k0_cond3 i = 1#1 → k0_off10 i k = ![64 * ((i 1).val - 37) + 2 * k.val + 1, 0, 0, 0] := by decide +kernel

theorem t2_lt (k : Fin k0_t2_loop.trips) : k.val < 32 := Nat.lt_of_lt_of_le k.isLt k0_t2_abs.2.1
theorem step_lt (i : grid0.Coords) : (i 1).val < 49 := (i 1).isLt

/-- The first token of the step's 64, within the tile. -/
abbrev base (i : grid0.Coords) : Nat := 64 * ((i 1).val - 37)

/-- The token's words, loaded. -/
theorem token_apply (xs : Vec Ideal S768x40x2x128 .bf16) (off : Fin 4 → Nat) (t : Nat) (ht : t < 768) (hoff : off = ![t, 0, 0, 0])
    (inb : ∀ a, off a + S1x40x2x128.size a ≤ S768x40x2x128.size a) (q : Fin 80) (l : Fin 128) :
    View.ld xs (Rect.unit (s := S768x40x2x128) off S1x40x2x128.size inb) (pos 0 q l) = xs (pos ⟨t, ht⟩ q l) := by
  subst hoff
  refine View.ld_unit_apply_of xs ![t, 0, 0, 0] S1x40x2x128.size inb _ _ ?_
  intro k; fin_cases k
  · rfl
  · exact (Nat.zero_add _).symm
  · exact (Nat.zero_add _).symm
  · exact (Nat.zero_add _).symm

/-- The rotated tokens a step leaves in a scratch array: word row `88 k + a`, parity, lane. -/
def tokens (i : grid0.Coords) (u : Vec Ideal S80x80 .bf16) (xs : Vec Ideal S768x40x2x128 .bf16) : S2816x2x128.Idx → EReal := fun y =>
  rot u xs (base i + 2 * ((y 0).val / 88) + (y 1).val) ((y 0).val % 88) (y 2)

/-- The store of two tokens is a part of the rotated tokens. -/
theorem piece_ok (i : grid0.Coords) (u : Vec Ideal S80x80 .bf16) (xs : Vec Ideal S768x40x2x128 .bf16) (k : Nat) (hk : k < 32)
    (off : Fin 3 → Nat) (hoff : off = ![88 * k, 0, 0]) (inb : ∀ a, off a + S80x2x128.size a ≤ S2816x2x128.size a)
    (P : S80x2x128.Idx → EReal) (R R' : Vec Ideal S1x40x2x128 .bf16)
    (h0 : ∀ (a : Fin 80) (l : Fin 128), P (ix3 a 0 l) = ∑ q : Fin 80, u (ix2 a q) * R (pos 0 q l))
    (h1 : ∀ (a : Fin 80) (l : Fin 128), P (ix3 a 1 l) = ∑ q : Fin 80, u (ix2 a q) * R' (pos 0 q l))
    (hlt : base i + 2 * k + 1 < 768)
    (hR : ∀ (q : Fin 80) (l : Fin 128), R (pos 0 q l) = xs (pos ⟨base i + 2 * k, by omega⟩ q l))
    (hR' : ∀ (q : Fin 80) (l : Fin 128), R' (pos 0 q l) = xs (pos ⟨base i + 2 * k + 1, hlt⟩ q l))
    (x : S80x2x128.Idx) : P x = tokens i u xs ((Rect.unit (s := S2816x2x128) off S80x2x128.size inb).emb x) := by
  subst hoff
  obtain ⟨a, p, l, rfl⟩ : ∃ (a : Fin 80) (p : Fin 2) (l : Fin 128), x = ix3 a p l := ⟨x 0, x 1, x 2, eq_ix3 x⟩
  have ha := a.isLt
  have e0 : (((Rect.unit (s := S2816x2x128) ![88 * k, 0, 0] S80x2x128.size inb).emb (ix3 a p l)) 0).val = 88 * k + a.val := Rect.idx_unit_val _ _ _ _ _
  have e1 : (((Rect.unit (s := S2816x2x128) ![88 * k, 0, 0] S80x2x128.size inb).emb (ix3 a p l)) 1).val = 0 + p.val := Rect.idx_unit_val _ _ _ _ _
  have e2 : (((Rect.unit (s := S2816x2x128) ![88 * k, 0, 0] S80x2x128.size inb).emb (ix3 a p l)) 2) = l :=
    Fin.ext ((Rect.idx_unit_val _ _ _ _ _).trans (Nat.zero_add _))
  unfold tokens
  rw [e0, e1, e2, show (88 * k + a.val) / 88 = k by omega, show (88 * k + a.val) % 88 = a.val by omega]
  unfold rot
  have ea : (⟨a.val % 80, Nat.mod_lt _ (by decide)⟩ : Fin 80) = a := Fin.ext (Nat.mod_eq_of_lt ha)
  rw [ea]
  match p with
  | ⟨0, _⟩ =>
    refine (h0 a l).trans (Finset.sum_congr rfl fun q _ => congrArg (u (ix2 a q) * ·) ((hR q l).trans (congrArg (fun t => xs (pos t q l)) (Fin.ext ?_))))
    show base i + 2 * k = (base i + 2 * k + (0 + 0)) % 768
    rw [Nat.mod_eq_of_lt (by omega)]
    omega
  | ⟨1, _⟩ =>
    refine (h1 a l).trans (Finset.sum_congr rfl fun q _ => congrArg (u (ix2 a q) * ·) ((hR' q l).trans (congrArg (fun t => xs (pos t q l)) (Fin.ext ?_))))
    show base i + 2 * k + 1 = (base i + 2 * k + (0 + 1)) % 768
    rw [Nat.mod_eq_of_lt (by omega)]

/-- An entry of the first 80 word rows of trip `k` is in the store's rectangle. -/
theorem mem_piece (y : S2816x2x128.Idx) (k : Nat) (off : Fin 3 → Nat) (hoff : off = ![88 * k, 0, 0])
    (inb : ∀ a, off a + S80x2x128.size a ≤ S2816x2x128.size a) (h0 : (y 0).val / 88 = k) (h1 : (y 0).val % 88 < 80) :
    y ∈ (Rect.unit (s := S2816x2x128) off S80x2x128.size inb).set := by
  subst hoff
  rw [Rect.mem_set_unit]
  intro d
  match d with
  | ⟨0, _⟩ => exact ⟨by show 88 * k ≤ (y 0).val; omega, by show (y 0).val < 88 * k + 80; omega⟩
  | ⟨1, _⟩ => exact ⟨Nat.zero_le _, by show (y 1).val < 0 + 2; have h : (y 1).val < 2 := (y 1).isLt; omega⟩
  | ⟨2, _⟩ => exact ⟨Nat.zero_le _, by show (y 2).val < 0 + 128; have h : (y 2).val < 128 := (y 2).isLt; omega⟩

section Loop
variable (𝒱 : Variants) (c : Dev nD) (bd : Option 𝒱.V) (i : grid0.Coords) (arg2 : Memref sig .tc .vmem S768x3584 .bf16) (harg2 : arg2.IsWhole) (arg3 : Memref sig .tc .vmem S3584x128 .i8) (harg3 : arg3.IsWhole) (arg4 : Memref sig .tc .vmem S1x1x512 .f32) (harg4 : arg4.IsWhole) (arg5 : Memref sig .tc .vmem S256x256 .bf16) (harg5 : arg5.IsWhole) (arg6 : Memref sig .tc .vmem S80x80 .bf16) (harg6 : arg6.IsWhole) (arg7 : Memref sig .tc .vmem S64x18944 .bf16) (harg7 : arg7.IsWhole) (arg8 : Memref sig .tc .vmem S3584x512 .bf16) (harg8 : arg8.IsWhole) (arg9 : Memref sig .tc .vmem S768x40x2x128 .bf16) (harg9 : arg9.IsWhole) (arg10 : Memref sig .tc .vmem S768x40x2x128 .bf16) (harg10 : arg10.IsWhole) (arg11 : Memref sig .tc .vmem S2816x2x128 .bf16) (harg11 : arg11.IsWhole) (arg12 : Memref sig .tc .vmem S2816x2x128 .bf16) (harg12 : arg12.IsWhole) (k0_h3 : k0_cond3 i = 1#1) (v12 : BitVec 32)
  (x4 : Vec Ideal S80x80 .bf16) (xs1 xs2 : Vec Ideal S768x40x2x128 .bf16)

theorem base_lt (k : Fin k0_t2_loop.trips) : base i + 2 * k.val + 1 < 768 := by
  have h := t2_lt k
  have h' := step_lt i
  unfold base
  omega

/-- Both stores of trip `k` are parts of the rotated tokens. -/
theorem trip_pieces (k : Fin k0_t2_loop.trips) :
    (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 k0_h3 v12 (harg6.unread x4) (harg9.unread xs1) (harg10.unread xs2) k).1,
      ∀ x : p.1.shape.Idx, p.2 x = tokens i x4 xs1 (p.1.emb x))
    ∧ (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 k0_h3 v12 (harg6.unread x4) (harg9.unread xs1) (harg10.unread xs2) k).2,
      ∀ x : p.1.shape.Idx, p.2 x = tokens i x4 xs2 (p.1.emb x)) := by
  have h4 : View.ld x4 (Rect.unit (s := S80x80) ![0, 0] S80x80.size inb_S80x80_S80x80_0_0) = x4 :=
    View.ld_unit_zero (by funext a; fin_cases a <;> rfl) _ _
  have hb := base_lt i k
  unfold tripL_k0_t2 trip_k0_t2
  dsimp only
  sl_unfold_words
  simp only [View.readAt_eq_ld, harg6.read_unread, harg9.read_unread, harg10.read_unread]
  rw [h4]
  simp only [List.forall_mem_cons]
  refine ⟨⟨?_, fun _ h => absurd h List.not_mem_nil⟩, ⟨?_, fun _ h => absurd h List.not_mem_nil⟩⟩
  · exact piece_ok i x4 xs1 k.val (t2_lt k) _ (k0_off11_eq k) _ _ _ _ (pay8_0 _ _ _ _ x4) (pay8_1 _ _ _ _ x4) hb
      (token_apply xs1 _ _ _ (off9_eq i k k0_h3) _) (token_apply xs1 _ _ _ (off10_eq i k k0_h3) _)
  · exact piece_ok i x4 xs2 k.val (t2_lt k) _ (k0_off11_eq k) _ _ _ _ (pay9_0 _ _ _ _ x4) (pay9_1 _ _ _ _ x4) hb
      (token_apply xs2 _ _ _ (off9_eq i k k0_h3) _) (token_apply xs2 _ _ _ (off10_eq i k k0_h3) _)

/-- Trip `k` stores every entry of its 80 word rows, in both scratch arrays. -/
theorem trip_cover (k : Fin k0_t2_loop.trips) (y : S2816x2x128.Idx) (hy : (y 0).val / 88 = k.val) (h1 : (y 0).val % 88 < 80) :
    (∃ p ∈ (tripL_k0_t2 (F := Ideal) 𝒱 c bd i arg2 harg2 arg3 harg3 arg4 harg4 arg5 harg5 arg6 harg6 arg7 harg7 arg8 harg8 arg9 harg9 arg10 harg10 arg11 harg11 arg12 harg12 k0_h3 v12 (harg6.unread x4) (harg9.unread xs1) (harg10.unread xs2) k).1, y ∈ p.1.set)
    ∧ (∃ p ∈ (tripL_k0_t2 (F := Ideal) 𝒱 c bd i arg2 harg2 arg3 harg3 arg4 harg4 arg5 harg5 arg6 harg6 arg7 harg7 arg8 harg8 arg9 harg9 arg10 harg10 arg11 harg11 arg12 harg12 k0_h3 v12 (harg6.unread x4) (harg9.unread xs1) (harg10.unread xs2) k).2, y ∈ p.1.set) := by
  unfold tripL_k0_t2 trip_k0_t2
  dsimp only
  exact ⟨⟨_, List.mem_cons_self, mem_piece y k.val _ (k0_off11_eq k) (Gen.k0_off11_inb i k k0_h3) hy h1⟩,
    ⟨_, List.mem_cons_self, mem_piece y k.val _ (k0_off11_eq k) (Gen.k0_off11_inb i k k0_h3) hy h1⟩⟩

/-- The stores of the first `n` trips. -/
abbrev pieces (n : Nat) := pb_k0_t2 (F := Ideal) 𝒱 c bd i arg2 harg2 arg3 harg3 arg4 harg4 arg5 harg5 arg6 harg6 arg7 harg7 arg8 harg8 arg9 harg9 arg10 harg10 arg11 harg11 arg12 harg12 k0_h3 v12 (harg6.unread x4) (harg9.unread xs1) (harg10.unread xs2) n

theorem pieces_succ (n : Nat) (hn : n < k0_t2_loop.trips) :
    pieces 𝒱 c bd i arg2 harg2 arg3 harg3 arg4 harg4 arg5 harg5 arg6 harg6 arg7 harg7 arg8 harg8 arg9 harg9 arg10 harg10 arg11 harg11 arg12 harg12 k0_h3 v12 x4 xs1 xs2 (n + 1)
      = ((tripL_k0_t2 (F := Ideal) 𝒱 c bd i arg2 harg2 arg3 harg3 arg4 harg4 arg5 harg5 arg6 harg6 arg7 harg7 arg8 harg8 arg9 harg9 arg10 harg10 arg11 harg11 arg12 harg12 k0_h3 v12 (harg6.unread x4) (harg9.unread xs1) (harg10.unread xs2) ⟨n, hn⟩).1 ++ (pieces 𝒱 c bd i arg2 harg2 arg3 harg3 arg4 harg4 arg5 harg5 arg6 harg6 arg7 harg7 arg8 harg8 arg9 harg9 arg10 harg10 arg11 harg11 arg12 harg12 k0_h3 v12 x4 xs1 xs2 n).1,
         (tripL_k0_t2 (F := Ideal) 𝒱 c bd i arg2 harg2 arg3 harg3 arg4 harg4 arg5 harg5 arg6 harg6 arg7 harg7 arg8 harg8 arg9 harg9 arg10 harg10 arg11 harg11 arg12 harg12 k0_h3 v12 (harg6.unread x4) (harg9.unread xs1) (harg10.unread xs2) ⟨n, hn⟩).2 ++ (pieces 𝒱 c bd i arg2 harg2 arg3 harg3 arg4 harg4 arg5 harg5 arg6 harg6 arg7 harg7 arg8 harg8 arg9 harg9 arg10 harg10 arg11 harg11 arg12 harg12 k0_h3 v12 x4 xs1 xs2 n).2) :=
  pb_k0_t2_succ (F := Ideal) 𝒱 c bd i arg2 harg2 arg3 harg3 arg4 harg4 arg5 harg5 arg6 harg6 arg7 harg7 arg8 harg8 arg9 harg9 arg10 harg10 arg11 harg11 arg12 harg12 k0_h3 v12 (harg6.unread x4) (harg9.unread xs1) (harg10.unread xs2) ⟨n, hn⟩

theorem loop_pieces : ∀ n : Nat, n ≤ k0_t2_loop.trips →
    (∀ p ∈ (pieces 𝒱 c bd i arg2 harg2 arg3 harg3 arg4 harg4 arg5 harg5 arg6 harg6 arg7 harg7 arg8 harg8 arg9 harg9 arg10 harg10 arg11 harg11 arg12 harg12 k0_h3 v12 x4 xs1 xs2 n).1, ∀ x : p.1.shape.Idx, p.2 x = tokens i x4 xs1 (p.1.emb x))
    ∧ (∀ p ∈ (pieces 𝒱 c bd i arg2 harg2 arg3 harg3 arg4 harg4 arg5 harg5 arg6 harg6 arg7 harg7 arg8 harg8 arg9 harg9 arg10 harg10 arg11 harg11 arg12 harg12 k0_h3 v12 x4 xs1 xs2 n).2, ∀ x : p.1.shape.Idx, p.2 x = tokens i x4 xs2 (p.1.emb x))
  | 0, _ => by
    unfold pieces pb_k0_t2
    exact ⟨fun _ h => absurd h List.not_mem_nil, fun _ h => absurd h List.not_mem_nil⟩
  | n + 1, hn => by
    have ih := loop_pieces n (by omega)
    have ht := trip_pieces 𝒱 c bd i arg2 harg2 arg3 harg3 arg4 harg4 arg5 harg5 arg6 harg6 arg7 harg7 arg8 harg8 arg9 harg9 arg10 harg10 arg11 harg11 arg12 harg12 k0_h3 v12 x4 xs1 xs2 ⟨n, hn⟩
    rw [pieces_succ 𝒱 c bd i arg2 harg2 arg3 harg3 arg4 harg4 arg5 harg5 arg6 harg6 arg7 harg7 arg8 harg8 arg9 harg9 arg10 harg10 arg11 harg11 arg12 harg12 k0_h3 v12 x4 xs1 xs2 n hn]
    exact ⟨fun p hp => (List.mem_append.mp hp).elim (ht.1 p) (ih.1 p), fun p hp => (List.mem_append.mp hp).elim (ht.2 p) (ih.2 p)⟩

theorem loop_cover (y : S2816x2x128.Idx) (h1 : (y 0).val % 88 < 80) : ∀ n : Nat, n ≤ k0_t2_loop.trips → (y 0).val / 88 < n →
    (∃ p ∈ (pieces 𝒱 c bd i arg2 harg2 arg3 harg3 arg4 harg4 arg5 harg5 arg6 harg6 arg7 harg7 arg8 harg8 arg9 harg9 arg10 harg10 arg11 harg11 arg12 harg12 k0_h3 v12 x4 xs1 xs2 n).1, y ∈ p.1.set)
    ∧ (∃ p ∈ (pieces 𝒱 c bd i arg2 harg2 arg3 harg3 arg4 harg4 arg5 harg5 arg6 harg6 arg7 harg7 arg8 harg8 arg9 harg9 arg10 harg10 arg11 harg11 arg12 harg12 k0_h3 v12 x4 xs1 xs2 n).2, y ∈ p.1.set)
  | 0, _, h => absurd h (by omega)
  | n + 1, hn, h => by
    rw [pieces_succ 𝒱 c bd i arg2 harg2 arg3 harg3 arg4 harg4 arg5 harg5 arg6 harg6 arg7 harg7 arg8 harg8 arg9 harg9 arg10 harg10 arg11 harg11 arg12 harg12 k0_h3 v12 x4 xs1 xs2 n hn]
    by_cases hy : (y 0).val / 88 = n
    · obtain ⟨⟨p, hp, hm⟩, ⟨p', hp', hm'⟩⟩ := trip_cover 𝒱 c bd i arg2 harg2 arg3 harg3 arg4 harg4 arg5 harg5 arg6 harg6 arg7 harg7 arg8 harg8 arg9 harg9 arg10 harg10 arg11 harg11 arg12 harg12 k0_h3 v12 x4 xs1 xs2 ⟨n, hn⟩ y hy h1
      exact ⟨⟨p, List.mem_append_left _ hp, hm⟩, ⟨p', List.mem_append_left _ hp', hm'⟩⟩
    · obtain ⟨⟨p, hp, hm⟩, ⟨p', hp', hm'⟩⟩ := loop_cover y h1 n (by omega) (by omega)
      exact ⟨⟨p, List.mem_append_right _ hp, hm⟩, ⟨p', List.mem_append_right _ hp', hm'⟩⟩

/-- After the loop the scratch arrays hold the rotated tokens, whatever they held before. -/
theorem rotated (f : arg11.view.ty.Contents (Elt Ideal)) (f' : arg12.view.ty.Contents (Elt Ideal)) (y : S2816x2x128.Idx) (h1 : (y 0).val % 88 < 80) :
    (arg11.view.read (Elt Ideal) (arg11.view.writes (Elt Ideal) f (pieces 𝒱 c bd i arg2 harg2 arg3 harg3 arg4 harg4 arg5 harg5 arg6 harg6 arg7 harg7 arg8 harg8 arg9 harg9 arg10 harg10 arg11 harg11 arg12 harg12 k0_h3 v12 x4 xs1 xs2 k0_t2_loop.trips).1) y : EReal) = tokens i x4 xs1 y
    ∧ (arg12.view.read (Elt Ideal) (arg12.view.writes (Elt Ideal) f' (pieces 𝒱 c bd i arg2 harg2 arg3 harg3 arg4 harg4 arg5 harg5 arg6 harg6 arg7 harg7 arg8 harg8 arg9 harg9 arg10 harg10 arg11 harg11 arg12 harg12 k0_h3 v12 x4 xs1 xs2 k0_t2_loop.trips).2) y : EReal) = tokens i x4 xs2 y := by
  have ht : k0_t2_loop.trips = 32 := by decide +kernel
  have hp := loop_pieces 𝒱 c bd i arg2 harg2 arg3 harg3 arg4 harg4 arg5 harg5 arg6 harg6 arg7 harg7 arg8 harg8 arg9 harg9 arg10 harg10 arg11 harg11 arg12 harg12 k0_h3 v12 x4 xs1 xs2 _ le_rfl
  have hc := loop_cover 𝒱 c bd i arg2 harg2 arg3 harg3 arg4 harg4 arg5 harg5 arg6 harg6 arg7 harg7 arg8 harg8 arg9 harg9 arg10 harg10 arg11 harg11 arg12 harg12 k0_h3 v12 x4 xs1 xs2 y h1 _ le_rfl (by
    have hy : (y 0).val < 2816 := (y 0).isLt
    omega)
  exact ⟨View.read_writes_apply_of_pieces _ _ (tokens i x4 xs1) _ hp.1 y hc.1, View.read_writes_apply_of_pieces _ _ (tokens i x4 xs2) _ hp.2 y hc.2⟩

end Loop

end Cert.KernelIdeal.Rotate

end
-- ==== Proof.Emit.lean ====
/- What a step of the second rotation writes to its output block, from what the scratch arrays hold. -/
module

public import proofs.«01_k».proof.Proof.Rotate

@[expose] public section

set_option maxRecDepth 16384

noncomputable section

namespace Cert.KernelIdeal.Emit

open Idealize.ShloMosaic Idealize.ShloMosaic.TcCoe Idealize.SL.Sem
open Cert.KernelIdeal Cert.KernelIdeal.Gen Cert.KernelIdeal.Rotate

/-- The output block of a step: row `b` is the step's token `b`, column `256 a + 128 h + l` is group `a`, half `h`, lane `l`. -/
def out (i : grid0.Coords) (u : Vec Ideal S80x80 .bf16) (xs1 xs2 : Vec Ideal S768x40x2x128 .bf16) : S64x18944.Idx → EReal := fun y =>
  rot u (if (y 1).val / 128 % 2 = 0 then xs1 else xs2) (base i + (y 0).val) ((y 1).val / 256) ⟨(y 1).val % 128, Nat.mod_lt _ (by decide)⟩

section Payloads
variable (R : Vec Ideal S8x2x128 .bf16)

theorem pick (b : Fin 16) (l : Fin 128) : (if b.val % 2 = 0 then R (ix3 ⟨b.val / 2, by have := b.isLt; omega⟩ 0 l) else R (ix3 ⟨b.val / 2, by have := b.isLt; omega⟩ 1 l))
    = R (ix3 ⟨b.val / 2, by have := b.isLt; omega⟩ ⟨b.val % 2, Nat.mod_lt _ (by decide)⟩ l) := by
  split
  · next h => exact congrArg (fun p => R (ix3 _ p l)) (Fin.ext (by show 0 = b.val % 2; omega))
  · next h => exact congrArg (fun p => R (ix3 _ p l)) (Fin.ext (by show 1 = b.val % 2; omega))

/-- Eight rows of token pairs unpacked into sixteen tokens. -/
theorem pay51 (b : Fin 16) (l : Fin 128) : (k0_pay51 (F := Ideal) R (ix2 b l) : EReal) = R (ix3 ⟨b.val / 2, by have := b.isLt; omega⟩ ⟨b.val % 2, Nat.mod_lt _ (by decide)⟩ l) := by
  pointwise [k0_pay51]
  exact pick R b l
end Payloads

/-- A strided load of a group's word rows of eight token pairs. -/
theorem load_apply (v : View sig .tc .vmem S2816x2x128 .bf16) (f : v.ty.Contents (Elt Ideal)) (off : Fin 3 → Nat) (g a : Nat) (ha : a < 74)
    (hoff : off = ![704 * g + a, 0, 0]) (inb : ∀ d, S8x2x128.size d = 0 ∨ off d + (![88, 1, 1] : Fin 3 → Nat) d * (S8x2x128.size d - 1) < S2816x2x128.size d)
    (T : S2816x2x128.Idx → EReal) (hT : ∀ y : S2816x2x128.Idx, (y 0).val % 88 < 80 → (v.read (Elt Ideal) f y : EReal) = T y)
    (j : Fin 8) (p : Fin 2) (l : Fin 128) (hlt : 704 * g + a + 88 * j.val < 2816) :
    (View.readAt (Elt Ideal) v (⟨off, S8x2x128.size, ![88, 1, 1], inb⟩ : LoadRect S2816x2x128) f (ix3 j p l) : EReal)
      = T (ix3 ⟨704 * g + a + 88 * j.val, hlt⟩ p l) := by
  subst hoff
  rw [View.readAt_apply]
  have e : ((⟨![704 * g + a, 0, 0], S8x2x128.size, ![88, 1, 1], inb⟩ : LoadRect S2816x2x128).idx (ix3 j p l) : S2816x2x128.Idx)
      = ix3 ⟨704 * g + a + 88 * j.val, hlt⟩ p l := by
    funext d
    match d with
    | ⟨0, _⟩ => rfl
    | ⟨1, _⟩ => exact Fin.ext (by show 0 + 1 * p.val = p.val; omega)
    | ⟨2, _⟩ => exact Fin.ext (by show 0 + 1 * l.val = l.val; omega)
  rw [e]
  exact hT _ (by show (704 * g + a + 88 * j.val) % 88 < 80; omega)

/-- A store of sixteen tokens of a group and a half is a part of the output block. -/
theorem piece_ok (i : grid0.Coords) (u : Vec Ideal S80x80 .bf16) (xs1 xs2 : Vec Ideal S768x40x2x128 .bf16) (g a h : Nat) (hg : g < 4) (ha : a < 74) (hh : h < 2)
    (xs : Vec Ideal S768x40x2x128 .bf16) (hxs : xs = if h = 0 then xs1 else xs2)
    (off : Fin 2 → Nat) (hoff : off = ![16 * g, 256 * a + 128 * h]) (inb : ∀ a, off a + S16x128.size a ≤ S64x18944.size a)
    (P : S16x128.Idx → EReal) (R : Vec Ideal S8x2x128 .bf16) (hP : P = k0_pay51 (F := Ideal) R)
    (hR : ∀ (j : Fin 8) (p : Fin 2) (l : Fin 128) (hlt : 704 * g + a + 88 * j.val < 2816), R (ix3 j p l) = tokens i u xs (ix3 ⟨704 * g + a + 88 * j.val, hlt⟩ p l))
    (x : S16x128.Idx) : P x = out i u xs1 xs2 ((Rect.unit (s := S64x18944) off S16x128.size inb).emb x) := by
  subst hoff hP
  obtain ⟨b, l, rfl⟩ : ∃ (b : Fin 16) (l : Fin 128), x = ix2 b l := ⟨x 0, x 1, eq_ix2 x⟩
  have hb := b.isLt
  have hl := l.isLt
  have e0 : (((Rect.unit (s := S64x18944) ![16 * g, 256 * a + 128 * h] S16x128.size inb).emb (ix2 b l)) 0).val = 16 * g + b.val := Rect.idx_unit_val _ _ _ _ _
  have e1 : (((Rect.unit (s := S64x18944) ![16 * g, 256 * a + 128 * h] S16x128.size inb).emb (ix2 b l)) 1).val = 256 * a + 128 * h + l.val := Rect.idx_unit_val _ _ _ _ _
  refine (pay51 R b l).trans ((hR _ _ l (by show 704 * g + a + 88 * (b.val / 2) < 2816; omega)).trans ?_)
  unfold tokens out
  have c0 : (704 * g + a + 88 * (b.val / 2)) / 88 = 8 * g + b.val / 2 := by omega
  have c1 : (704 * g + a + 88 * (b.val / 2)) % 88 = a := by omega
  have c2 : (256 * a + 128 * h + l.val) / 128 % 2 = h := by omega
  have c3 : (256 * a + 128 * h + l.val) / 256 = a := by omega
  have c4 : (256 * a + 128 * h + l.val) % 128 = l.val := by omega
  show rot u xs (base i + 2 * ((704 * g + a + 88 * (b.val / 2)) / 88) + b.val % 2) ((704 * g + a + 88 * (b.val / 2)) % 88) l = _
  simp only [e0, e1, c0, c1, c2, c3, c4, ← hxs]
  congr 1
  omega

theorem t3_lt (k : Fin k0_t3_loop.trips) : k.val < 74 := Nat.lt_of_lt_of_le k.isLt k0_t3_abs.2.1

section Loop
variable (𝒱 : Variants) (c : Dev nD) (bd : Option 𝒱.V) (i : grid0.Coords) (arg2 : Memref sig .tc .vmem S768x3584 .bf16) (harg2 : arg2.IsWhole) (arg3 : Memref sig .tc .vmem S3584x128 .i8) (harg3 : arg3.IsWhole) (arg4 : Memref sig .tc .vmem S1x1x512 .f32) (harg4 : arg4.IsWhole) (arg5 : Memref sig .tc .vmem S256x256 .bf16) (harg5 : arg5.IsWhole) (arg6 : Memref sig .tc .vmem S80x80 .bf16) (harg6 : arg6.IsWhole) (arg7 : Memref sig .tc .vmem S64x18944 .bf16) (harg7 : arg7.IsWhole) (arg8 : Memref sig .tc .vmem S3584x512 .bf16) (harg8 : arg8.IsWhole) (arg9 : Memref sig .tc .vmem S768x40x2x128 .bf16) (harg9 : arg9.IsWhole) (arg10 : Memref sig .tc .vmem S768x40x2x128 .bf16) (harg10 : arg10.IsWhole) (arg11 : Memref sig .tc .vmem S2816x2x128 .bf16) (harg11 : arg11.IsWhole) (arg12 : Memref sig .tc .vmem S2816x2x128 .bf16) (harg12 : arg12.IsWhole) (k0_h3 : k0_cond3 i = 1#1)
  (u : Vec Ideal S80x80 .bf16) (xs1 xs2 : Vec Ideal S768x40x2x128 .bf16)
  (f : arg11.view.ty.Contents (Elt Ideal)) (f' : arg12.view.ty.Contents (Elt Ideal))
  (hf : ∀ y : S2816x2x128.Idx, (y 0).val % 88 < 80 → (arg11.view.read (Elt Ideal) f y : EReal) = tokens i u xs1 y)
  (hf' : ∀ y : S2816x2x128.Idx, (y 0).val % 88 < 80 → (arg12.view.read (Elt Ideal) f' y : EReal) = tokens i u xs2 y)

include hf hf' in
/-- Every store of trip `k` is a part of the output block. -/
theorem trip_pieces (k : Fin k0_t3_loop.trips) :
    ∀ p ∈ tripL_k0_t3 (F := Ideal) 𝒱 c bd i arg2 harg2 arg3 harg3 arg4 harg4 arg5 harg5 arg6 harg6 arg7 harg7 arg8 harg8 arg9 harg9 arg10 harg10 arg11 harg11 arg12 harg12 k0_h3 f f' k,
      ∀ x : p.1.shape.Idx, p.2 x = out i u xs1 xs2 (p.1.emb x) := by
  have hk := t3_lt k
  unfold tripL_k0_t3 trip_k0_t3
  dsimp only
  sl_unfold_words
  simp only [List.forall_mem_cons]
  refine ⟨?_, ?_, ?_, ?_, ?_, ?_, ?_, ?_, ?_⟩
  · exact piece_ok i u xs1 xs2 3 k.val 1 (by decide) hk (by decide) xs2 rfl _ (k0_off16_eq k 1) _ _ _ rfl
      fun j p l hlt => load_apply _ _ _ 3 k.val hk (k0_off12_eq k 3) _ _ hf' j p l hlt
  · exact piece_ok i u xs1 xs2 3 k.val 0 (by decide) hk (by decide) xs1 rfl _ (k0_off16_eq k 0) _ _ _ rfl
      fun j p l hlt => load_apply _ _ _ 3 k.val hk (k0_off12_eq k 3) _ _ hf j p l hlt
  · exact piece_ok i u xs1 xs2 2 k.val 1 (by decide) hk (by decide) xs2 rfl _ (k0_off15_eq k 1) _ _ _ rfl
      fun j p l hlt => load_apply _ _ _ 2 k.val hk (k0_off12_eq k 2) _ _ hf' j p l hlt
  · exact piece_ok i u xs1 xs2 2 k.val 0 (by decide) hk (by decide) xs1 rfl _ (k0_off15_eq k 0) _ _ _ rfl
      fun j p l hlt => load_apply _ _ _ 2 k.val hk (k0_off12_eq k 2) _ _ hf j p l hlt
  · exact piece_ok i u xs1 xs2 1 k.val 1 (by decide) hk (by decide) xs2 rfl _ (k0_off14_eq k 1) _ _ _ rfl
      fun j p l hlt => load_apply _ _ _ 1 k.val hk (k0_off12_eq k 1) _ _ hf' j p l hlt
  · exact piece_ok i u xs1 xs2 1 k.val 0 (by decide) hk (by decide) xs1 rfl _ (k0_off14_eq k 0) _ _ _ rfl
      fun j p l hlt => load_apply _ _ _ 1 k.val hk (k0_off12_eq k 1) _ _ hf j p l hlt
  · exact piece_ok i u xs1 xs2 0 k.val 1 (by decide) hk (by decide) xs2 rfl _ (k0_off13_eq k 1) _ _ _ rfl
      fun j p l hlt => load_apply _ _ _ 0 k.val hk (k0_off12_eq k 0) _ _ hf' j p l hlt
  · exact piece_ok i u xs1 xs2 0 k.val 0 (by decide) hk (by decide) xs1 rfl _ (k0_off13_eq k 0) _ _ _ rfl
      fun j p l hlt => load_apply _ _ _ 0 k.val hk (k0_off12_eq k 0) _ _ hf j p l hlt
  · exact fun _ h => absurd h List.not_mem_nil

abbrev pieces (n : Nat) := pb_k0_t3 (F := Ideal) 𝒱 c bd i arg2 harg2 arg3 harg3 arg4 harg4 arg5 harg5 arg6 harg6 arg7 harg7 arg8 harg8 arg9 harg9 arg10 harg10 arg11 harg11 arg12 harg12 k0_h3 f f' n

include hf hf' in
theorem loop_pieces : ∀ n : Nat, n ≤ k0_t3_loop.trips →
    ∀ p ∈ pieces 𝒱 c bd i arg2 harg2 arg3 harg3 arg4 harg4 arg5 harg5 arg6 harg6 arg7 harg7 arg8 harg8 arg9 harg9 arg10 harg10 arg11 harg11 arg12 harg12 k0_h3 f f' n, ∀ x : p.1.shape.Idx, p.2 x = out i u xs1 xs2 (p.1.emb x)
  | 0, _, p, hp => absurd hp (by unfold pieces pb_k0_t3; exact List.not_mem_nil)
  | n + 1, hn, p, hp => by
    have e := pb_k0_t3_succ (F := Ideal) 𝒱 c bd i arg2 harg2 arg3 harg3 arg4 harg4 arg5 harg5 arg6 harg6 arg7 harg7 arg8 harg8 arg9 harg9 arg10 harg10 arg11 harg11 arg12 harg12 k0_h3 f f' ⟨n, hn⟩
    rw [show pieces 𝒱 c bd i arg2 harg2 arg3 harg3 arg4 harg4 arg5 harg5 arg6 harg6 arg7 harg7 arg8 harg8 arg9 harg9 arg10 harg10 arg11 harg11 arg12 harg12 k0_h3 f f' (n + 1) = _ from e] at hp
    rcases List.mem_append.mp hp with h | h
    · exact trip_pieces 𝒱 c bd i arg2 harg2 arg3 harg3 arg4 harg4 arg5 harg5 arg6 harg6 arg7 harg7 arg8 harg8 arg9 harg9 arg10 harg10 arg11 harg11 arg12 harg12 k0_h3 u xs1 xs2 f f' hf hf' _ p h
    · exact loop_pieces n (by omega) p h

end Loop

section Step
variable (c : Dev nD) (i : grid0.Coords) (arg2 : Memref sig .tc .vmem S768x3584 .bf16) (harg2 : arg2.IsWhole) (arg3 : Memref sig .tc .vmem S3584x128 .i8) (harg3 : arg3.IsWhole) (arg4 : Memref sig .tc .vmem S1x1x512 .f32) (harg4 : arg4.IsWhole) (arg5 : Memref sig .tc .vmem S256x256 .bf16) (harg5 : arg5.IsWhole) (arg6 : Memref sig .tc .vmem S80x80 .bf16) (harg6 : arg6.IsWhole) (arg7 : Memref sig .tc .vmem S64x18944 .bf16) (harg7 : arg7.IsWhole) (arg8 : Memref sig .tc .vmem S3584x512 .bf16) (harg8 : arg8.IsWhole) (arg9 : Memref sig .tc .vmem S768x40x2x128 .bf16) (harg9 : arg9.IsWhole) (arg10 : Memref sig .tc .vmem S768x40x2x128 .bf16) (harg10 : arg10.IsWhole) (arg11 : Memref sig .tc .vmem S2816x2x128 .bf16) (harg11 : arg11.IsWhole) (arg12 : Memref sig .tc .vmem S2816x2x128 .bf16) (harg12 : arg12.IsWhole)
  (x0 : Vec Ideal S768x3584 .bf16) (x1 : Vec Ideal S3584x128 .i8) (x2 : Vec Ideal S1x1x512 .f32) (x3 : Vec Ideal S256x256 .bf16) (x4 : Vec Ideal S80x80 .bf16)

/-- What a step of case C leaves in its output block. -/
theorem out_eq (hc0 : ¬cond0_0 i) (hc1 : ¬cond0_1 i) (hc2 : cond0_2 i) (xs1 xs2 : Vec Ideal S768x40x2x128 .bf16) (xs3 xs4 : Vec Ideal S2816x2x128 .bf16) :
    (out0_C_5 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 xs1 xs2 xs3 xs4 : S64x18944.Idx → EReal) = out i x4 xs1 xs2 := by
  have hc := cover0_C_5 (F := Ideal) c i arg2 harg2 arg3 harg3 arg4 harg4 arg5 harg5 arg6 harg6 arg7 harg7 arg8 harg8 arg9 harg9 arg10 harg10 arg11 harg11 arg12 harg12 hc0 hc1 hc2 x0 x1 x2 x3 x4 xs1 xs2 xs3 xs4
  have ht2 : Scf.trips (0#32) (Scalar.addi 0#32 32#32) 1#32 = k0_t2_loop.trips := by decide +kernel
  have ht3 : Scf.trips (0#32) (Scalar.addi 0#32 74#32) 1#32 = k0_t3_loop.trips := by decide +kernel
  funext y
  unfold out0_C_5
  refine View.read_writes_apply_of_pieces _ _ (out i x4 xs1 xs2) _ ?_ y (hc y)
  unfold kernelRun0_C
  dsimp only
  rw [ht3, ht2]
  exact loop_pieces Variants.none c none i arg2 harg2 arg3 harg3 arg4 harg4 arg5 harg5 arg6 harg6 arg7 harg7 arg8 harg8 arg9 harg9 arg10 harg10 arg11 harg11 arg12 harg12 hc2 x4 xs1 xs2 _ _
    (fun y h => (rotated Variants.none c none i arg2 harg2 arg3 harg3 arg4 harg4 arg5 harg5 arg6 harg6 arg7 harg7 arg8 harg8 arg9 harg9 arg10 harg10 arg11 harg11 arg12 harg12 hc2 _ x4 xs1 xs2 (harg11.unread xs3) (harg12.unread xs4) y h).1)
    (fun y h => (rotated Variants.none c none i arg2 harg2 arg3 harg3 arg4 harg4 arg5 harg5 arg6 harg6 arg7 harg7 arg8 harg8 arg9 harg9 arg10 harg10 arg11 harg11 arg12 harg12 hc2 _ x4 xs1 xs2 (harg11.unread xs3) (harg12.unread xs4) y h).2)
    _ le_rfl

end Step

end Cert.KernelIdeal.Emit

end
-- ==== Proof.Array.lean ====
/- The kernel's result array: what the scratch arrays hold after every step of a tile's first phase, and with it every
   block that the second phase writes. -/
module

public import proofs.«01_k».proof.Proof.Inputs
public import proofs.«01_k».proof.Proof.Emit

@[expose] public section

set_option maxRecDepth 16384

noncomputable section

namespace Cert.KernelIdeal.Array

open Idealize.ShloMosaic Idealize.ShloMosaic.TcCoe Idealize.SL.Sem
open Cert.KernelIdeal Cert.KernelIdeal.Gen Cert.KernelIdeal.Block Cert.KernelIdeal.Weights Cert.KernelIdeal.Inputs Cert.KernelIdeal.Rotate Cert.Equation

variable (m : (ℓ : Loc nD τ sig) → Buf (Elt Ideal) ℓ) (c : Dev nD)

/-- What half `h` of the scratch holds in tile `ρ`: token `y 0`, group `2 (y 1) + y 2`, element `128 h + y 3`. -/
def held (h : Nat) (hh : h < 2) (ρ : Nat) (y : S768x40x2x128.Idx) : EReal :=
  result (z m c) (p m c) (s m c) (u m c) ⟨(768 * ρ + (y 0).val) % 1536, Nat.mod_lt _ (by decide)⟩ ((2 * (y 1).val + (y 2).val) % 74) (Nat.mod_lt _ (by decide)) (lane h hh (y 3))

theorem token_lt (y : S768x40x2x128.Idx) : (y 0).val < 768 := (y 0).isLt
theorem parity_lt (y : S768x40x2x128.Idx) : (y 2).val < 2 := (y 2).isLt

/-- What a product step writes is what the scratch is to hold. -/
theorem row_held (t : Fin cfg0.N) (ht : t.val % 49 ≤ 36) (h : Nat) (hh : h < 2) (y : S768x40x2x128.Idx) (hy : (y 1).val = t.val % 49) :
    row h hh (iblk m c 0 t : Vec Ideal S768x3584 .bf16) (wt (iblk m c 1 t : Vec Ideal S3584x128 .i8)) (iblk m c 2 t : Vec Ideal S1x1x512 .f32) (iblk m c 3 t : Vec Ideal S256x256 .bf16) y
      = held m c h hh (t.val / 49) y := by
  have h0 := token_lt y
  have h2 := parity_lt y
  have hp := points t
  unfold row
  refine (el_apply m c t ht (y 0) (y 2).val (y 2).isLt (lane h hh (y 3))).trans ?_
  unfold held
  refine result_congr _ _ _ _ (Fin.ext ?_) _ _ ?_ rfl
  · show 768 * (t.val / 49) + (y 0).val = (768 * (t.val / 49) + (y 0).val) % 1536
    omega
  · rw [hy]; omega

/-- What every point leaves in the scratch arrays and, in the second phase, in its output block. -/
theorem stepA_1 (t : Fin cfg0.N) (h0 : t.val % 98 = 0) (h1 : t.val % 49 ≤ 36) (h2 : ¬37 ≤ t.val % 49) (y : S768x40x2x128.Idx) (hy : (y 1).val = t.val % 49) :
    ((outsAt0 m c t.val t.isLt).2.1 y : EReal) = held m c 0 (by decide) (t.val / 49) y := by
  rw [outsAt0_A m c t h0 h1 h2]
  have e := (soutA_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) ((hcond0_0 t).mpr h0) ((hcond0_1 t).mpr h1) (fun h => h2 ((hcond0_2 t).mp h)) y (hy.trans (coord1 t).symm)).trans (row_held m c t h1 0 (by decide) y hy)
  dsimp only
  exact e
theorem stepA_2 (t : Fin cfg0.N) (h0 : t.val % 98 = 0) (h1 : t.val % 49 ≤ 36) (h2 : ¬37 ≤ t.val % 49) (y : S768x40x2x128.Idx) (hy : (y 1).val = t.val % 49) :
    ((outsAt0 m c t.val t.isLt).2.2.1 y : EReal) = held m c 1 (by decide) (t.val / 49) y := by
  rw [outsAt0_A m c t h0 h1 h2]
  have e := (soutA_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) ((hcond0_0 t).mpr h0) ((hcond0_1 t).mpr h1) (fun h => h2 ((hcond0_2 t).mp h)) y (hy.trans (coord1 t).symm)).trans (row_held m c t h1 1 (by decide) y hy)
  dsimp only
  exact e
theorem stepB_1 (t : Fin cfg0.N) (h0 : ¬t.val % 98 = 0) (h1 : t.val % 49 ≤ 36) (h2 : ¬37 ≤ t.val % 49) (y : S768x40x2x128.Idx) :
    ((outsAt0 m c t.val t.isLt).2.1 y : EReal) = if (y 1).val = t.val % 49 then held m c 0 (by decide) (t.val / 49) y else (outsAt0 m c (t.val - 1) (Nat.lt_of_le_of_lt (Nat.sub_le _ _) t.isLt)).2.1 y := by
  rw [outsAt0_B m c t h0 h1 h2]
  have e := soutB_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (fun h => h0 ((hcond0_0 t).mp h)) ((hcond0_1 t).mpr h1) (fun h => h2 ((hcond0_2 t).mp h)) (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.1 y
  dsimp only
  rw [e, coord1]
  by_cases hy : (y 1).val = t.val % 49
  · rw [if_pos hy, if_pos hy]
    exact row_held m c t h1 0 (by decide) y hy
  · rw [if_neg hy, if_neg hy]
theorem stepB_2 (t : Fin cfg0.N) (h0 : ¬t.val % 98 = 0) (h1 : t.val % 49 ≤ 36) (h2 : ¬37 ≤ t.val % 49) (y : S768x40x2x128.Idx) :
    ((outsAt0 m c t.val t.isLt).2.2.1 y : EReal) = if (y 1).val = t.val % 49 then held m c 1 (by decide) (t.val / 49) y else (outsAt0 m c (t.val - 1) (Nat.lt_of_le_of_lt (Nat.sub_le _ _) t.isLt)).2.2.1 y := by
  rw [outsAt0_B m c t h0 h1 h2]
  have e := soutB_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (fun h => h0 ((hcond0_0 t).mp h)) ((hcond0_1 t).mpr h1) (fun h => h2 ((hcond0_2 t).mp h)) (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.2.1 y
  dsimp only
  rw [e, coord1]
  by_cases hy : (y 1).val = t.val % 49
  · rw [if_pos hy, if_pos hy]
    exact row_held m c t h1 1 (by decide) y hy
  · rw [if_neg hy, if_neg hy]
theorem stepC_1 (t : Fin cfg0.N) (h0 : ¬t.val % 98 = 0) (h1 : ¬t.val % 49 ≤ 36) (h2 : 37 ≤ t.val % 49) :
    (outsAt0 m c t.val t.isLt).2.1 = (outsAt0 m c (t.val - 1) (Nat.lt_of_le_of_lt (Nat.sub_le _ _) t.isLt)).2.1 := by
  rw [outsAt0_C m c t h0 h1 h2]
  rfl
theorem stepC_2 (t : Fin cfg0.N) (h0 : ¬t.val % 98 = 0) (h1 : ¬t.val % 49 ≤ 36) (h2 : 37 ≤ t.val % 49) :
    (outsAt0 m c t.val t.isLt).2.2.1 = (outsAt0 m c (t.val - 1) (Nat.lt_of_le_of_lt (Nat.sub_le _ _) t.isLt)).2.2.1 := by
  rw [outsAt0_C m c t h0 h1 h2]
  rfl
theorem stepC_out (t : Fin cfg0.N) (h0 : ¬t.val % 98 = 0) (h1 : ¬t.val % 49 ≤ 36) (h2 : 37 ≤ t.val % 49) :
    ((outsAt0 m c t.val t.isLt).1 : S64x18944.Idx → EReal) = Emit.out (grid0.coords t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 := by
  rw [outsAt0_C m c t h0 h1 h2]
  exact Emit.out_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (fun h => h0 ((hcond0_0 t).mp h)) (fun h => h1 ((hcond0_1 t).mp h)) ((hcond0_2 t).mpr h2) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

theorem before (n : Nat) (h : n % 49 ≠ 0) : (n - 1) % 49 = n % 49 - 1 ∧ (n - 1) / 49 = n / 49 := by omega

/-- After every point, the rows of the steps done so far hold what they are to hold. -/
theorem scratch : ∀ (n : Nat) (t : Fin cfg0.N), t.val = n → ∀ y : S768x40x2x128.Idx, (y 1).val ≤ min (t.val % 49) 36 →
    ((outsAt0 m c t.val t.isLt).2.1 y : EReal) = held m c 0 (by decide) (t.val / 49) y ∧ ((outsAt0 m c t.val t.isLt).2.2.1 y : EReal) = held m c 1 (by decide) (t.val / 49) y := by
  intro n
  induction n with
  | zero =>
    intro t ht y hy
    have h0 : t.val % 98 = 0 := by omega
    have h1 : t.val % 49 ≤ 36 := by omega
    have h2 : ¬37 ≤ t.val % 49 := by omega
    have hy1 : (y 1).val = t.val % 49 := by omega
    exact ⟨stepA_1 m c t h0 h1 h2 y hy1, stepA_2 m c t h0 h1 h2 y hy1⟩
  | succ n ih =>
    intro t ht y hy
    have hp := points t
    have h0 : ¬t.val % 98 = 0 := by omega
    have ih' := ih ⟨t.val - 1, Nat.lt_of_le_of_lt (Nat.sub_le _ _) t.isLt⟩ (by show t.val - 1 = n; omega) y
    dsimp only at ih'
    by_cases h1 : t.val % 49 ≤ 36
    · have h2 : ¬37 ≤ t.val % 49 := by omega
      rw [stepB_1 m c t h0 h1 h2, stepB_2 m c t h0 h1 h2]
      by_cases hy1 : (y 1).val = t.val % 49
      · rw [if_pos hy1, if_pos hy1]
        exact ⟨rfl, rfl⟩
      · rw [if_neg hy1, if_neg hy1]
        have hb := before t.val (by omega)
        rw [hb.1, hb.2] at ih'
        exact ih' (by omega)
    · have h2 : 37 ≤ t.val % 49 := by omega
      have hb := before t.val (by omega)
      rw [hb.1, hb.2] at ih'
      rw [stepC_1 m c t h0 h1 h2, stepC_2 m c t h0 h1 h2]
      exact ih' (by omega)

/-- The kernel's sum over the 80 padded groups is the sum over the 74 groups. -/
theorem rot_apply (t : Fin cfg0.N) (xs : Vec Ideal S768x40x2x128 .bf16) (h : Nat) (hh : h < 2)
    (hxs : ∀ y : S768x40x2x128.Idx, (y 1).val ≤ 36 → (xs y : EReal) = held m c h hh (t.val / 49) y)
    (b a : Nat) (hb : b < 768) (ha : a < 74) (l : Fin 128) :
    rot (iblk m c 4 t : Vec Ideal S80x80 .bf16) xs b a l
      = total (z m c) (p m c) (s m c) (v m c) (u m c) ⟨768 * (t.val / 49) + b, by have := points t; omega⟩ ⟨a, ha⟩ (lane h hh l) := by
  have hp := points t
  have hzero : ∀ q : Fin 80, 74 ≤ q.val → (iblk m c 4 t : Vec Ideal S80x80 .bf16) (ix2 ⟨a % 80, Nat.mod_lt _ (by decide)⟩ q) = (0 : EReal) := fun q hq =>
    (block4 m c t _ q).trans (mixing_zero m c _ q hq)
  have hval : ∀ q : Fin 74, ((iblk m c 4 t : Vec Ideal S80x80 .bf16) (ix2 ⟨a % 80, Nat.mod_lt _ (by decide)⟩ ⟨q.val, by have := q.isLt; omega⟩) : EReal) = v m c (ix2 ⟨a, ha⟩ q) := fun q => by
    refine (block4 m c t _ _).trans ((mixing m c _ _ (by show a % 80 < 74; omega) q.isLt).trans ?_)
    exact congrArg (fun x : Fin 74 => v m c (ix2 x q)) (Fin.ext (by show a % 80 = a; omega))
  unfold rot total
  refine (Fin.sum_univ_add (a := 74) (b := 6) _).trans ?_
  refine (congr (congrArg _ (Finset.sum_congr rfl fun q _ => ?_)) (Finset.sum_eq_zero fun q _ => ?_)).trans (add_zero _)
  · have hq := q.isLt
    refine congr (congrArg _ (hval q)) ?_
    refine (hxs _ (by show q.val / 2 ≤ 36; omega)).trans ?_
    unfold held
    refine result_congr _ _ _ _ (Fin.ext ?_) _ _ ?_ rfl
    · show (768 * (t.val / 49) + b % 768) % 1536 = 768 * (t.val / 49) + b
      omega
    · show (2 * (q.val / 2) + q.val % 2) % 74 = q.val
      omega
  · refine (congrArg (fun x : EReal => x * _) (hzero _ (by show 74 ≤ 74 + q.val; omega))).trans (zero_mul _)

/-- The whole result array, from the arguments. -/
def whole : Vec Ideal S1536x18944 .bf16 := fun y =>
  total (z m c) (p m c) (s m c) (v m c) (u m c) (y 0) ⟨(y 1).val / 256, by have : (y 1).val < 18944 := (y 1).isLt; omega⟩ ⟨(y 1).val % 256, Nat.mod_lt _ (by decide)⟩

theorem total_congr {z : Vec Ideal S1536x3584 .bf16} {p : Vec Ideal S3584x4736 .i8} {s : Vec Ideal S18944 .f32} {v : Vec Ideal S74x74 .bf16} {u : Vec Ideal S256x256 .bf16}
    {t t' : Fin 1536} (ht : t = t') {a a' : Fin 74} (ha : a = a') {b b' : Fin 256} (hb : b = b') : total z p s v u t a b = total z p s v u t' a' b' := by
  subst ht ha hb; rfl

theorem column_parts (n : Nat) : n % 256 = 128 * (n / 128 % 2) + n % 128 := by omega

/-- What a point of the second phase leaves in the output's block is its part of the whole array. -/
theorem block5 (t : Fin cfg0.N) (h2 : 37 ≤ t.val % 49) (a : Fin 64) (n : Fin 18944) (j : S1536x18944.Idx)
    (hj0 : (j 0).val = (12 * (t.val / 49) + (t.val % 49 - 37)) * 64 + a.val) (hj1 : (j 1).val = n.val) :
    ((outsAt0 m c t.val t.isLt).1 (ix2 a n) : EReal) = whole m c j := by
  have hn := n.isLt
  have ha := a.isLt
  have hp := points t
  have hlt : t.val % 49 < 49 := Nat.mod_lt _ (by decide)
  have h0 : ¬t.val % 98 = 0 := by omega
  have h1 : ¬t.val % 49 ≤ 36 := by omega
  have hb := before t.val (by omega)
  have hs : ∀ y : S768x40x2x128.Idx, (y 1).val ≤ 36 → ((outsAt0 m c (t.val - 1) (Nat.lt_of_le_of_lt (Nat.sub_le _ _) t.isLt)).2.1 y : EReal) = held m c 0 (by decide) (t.val / 49) y ∧ ((outsAt0 m c (t.val - 1) (Nat.lt_of_le_of_lt (Nat.sub_le _ _) t.isLt)).2.2.1 y : EReal) = held m c 1 (by decide) (t.val / 49) y := fun y hy => by
    have h := scratch m c (t.val - 1) ⟨t.val - 1, Nat.lt_of_le_of_lt (Nat.sub_le _ _) t.isLt⟩ rfl y
    dsimp only at h
    rw [hb.1, hb.2] at h
    exact h (by omega)
  rw [stepC_out m c t h0 h1 h2]
  have hbase : base (grid0.coords t) = 64 * (t.val % 49 - 37) := by unfold base; rw [coord1]
  have hc := column_parts n.val
  unfold Emit.out whole
  show rot _ (if n.val / 128 % 2 = 0 then _ else _) (base (grid0.coords t) + a.val) (n.val / 256) ⟨n.val % 128, _⟩ = _
  rw [hbase]
  split
  · next hz =>
    refine (rot_apply m c t _ 0 (by decide) (fun y hy => (hs y hy).1) (64 * (t.val % 49 - 37) + a.val) (n.val / 256) (by omega) (by omega) _).trans ?_
    refine total_congr (Fin.ext ?_) (Fin.ext ?_) (Fin.ext ?_)
    · show 768 * (t.val / 49) + (64 * (t.val % 49 - 37) + a.val) = (j 0).val
      omega
    · show n.val / 256 = (j 1).val / 256
      rw [hj1]
    · show 128 * 0 + n.val % 128 = (j 1).val % 256
      rw [hj1, hc, hz]
  · next hz =>
    have ho : n.val / 128 % 2 = 1 := by omega
    refine (rot_apply m c t _ 1 (by decide) (fun y hy => (hs y hy).2) (64 * (t.val % 49 - 37) + a.val) (n.val / 256) (by omega) (by omega) _).trans ?_
    refine total_congr (Fin.ext ?_) (Fin.ext ?_) (Fin.ext ?_)
    · show 768 * (t.val / 49) + (64 * (t.val % 49 - 37) + a.val) = (j 0).val
      omega
    · show n.val / 256 = (j 1).val / 256
      rw [hj1]
    · show 128 * 1 + n.val % 128 = (j 1).val % 256
      rw [hj1, hc, ho]

/-- The kernel's result array. -/
theorem final : (dats m 0 c).arrAt 5 cfg0.N = whole m c := by
  refine (dats m 0 c).arrAt_eq_of_covers 5 _ (by decide +kernel) fun t hf y => ?_
  blk_simp
  rw [after0_5]
  obtain ⟨a, n, rfl⟩ : ∃ (a : Fin 64) (n : Fin 18944), y = ix2 a n := ⟨y 0, y 1, eq_ix2 y⟩
  refine block5 m c t (flushes t hf) a n _ ?_ ?_
  · exact (Pipeline.Window.rect_emb_val win0_5 t (ix2 a n) 0).trans (by rw [(index5 t).1]; rfl)
  · exact (Pipeline.Window.rect_emb_val win0_5 t (ix2 a n) 1).trans (by rw [(index5 t).2]; show 0 * 18944 + n.val = n.val; omega)

end Cert.KernelIdeal.Array

end
-- ==== Proof.Result.lean ====
/- The reference's result at an index. -/
module

public import proofs.«01_k».proof.Proof.Gen.ReferenceIdeal.Read
public import proofs.«01_k».proof.Proof.Equation
public import Idealize.ShloMosaic.Lib.Pipeline.ValueKit
public import Idealize.ShloMosaic.Lib.KernelVsHost

@[expose] public section

set_option maxRecDepth 16384

noncomputable section

namespace Cert.ReferenceIdeal.Result

open Idealize.ShloMosaic Idealize.ShloMosaic.TcCoe Idealize.SL.Sem
open Cert.ReferenceIdeal Cert.ReferenceIdeal.Gen Cert.ReferenceIdeal.Read Cert.Decode Cert.Equation

/-- The bfloat16 constant the reference subtracts is 3/2. -/
theorem three_halves : (FloatOps.ofBits (F := Ideal) .bf16 0x3FC0#16) = (((3 / 2 : ℝ)) : EReal) := by
  show Ideal.ofBits _ _ = _
  simp [Ideal.ofBits, Ideal.ieee, -EReal.coe_mul]; norm_num

/-- The reference's decoding of field `k` of a code. -/
theorem field (b : BitVec 8) (k : Fin 4) (w : BitVec 32) (hw : w = BitVec.ofNat 32 (2 * k.val)) :
    (FloatOps.subf (FloatOps.sitofp (F := Ideal) .bf16 (IntOp.andi (IntOp.shrsi .host (b.setWidth 32) w) 3#32)) (FloatOps.ofBits .bf16 0x3FC0#16) : EReal)
      = weight b k.val := by
  subst hw
  have hs : IntOp.shrsi .host (b.setWidth 32) (BitVec.ofNat 32 (2 * k.val)) = (b.setWidth 32).sshiftRight' (BitVec.ofNat 32 (2 * k.val)) := by
    unfold IntOp.shrsi
    rw [if_pos (by fin_cases k <;> decide)]
  rw [hs, three_halves]
  unfold weight
  show (((((b.setWidth 32).sshiftRight' (BitVec.ofNat 32 (2 * k.val))) &&& 3#32).toInt : ℝ) : EReal) - ((3 / 2 : ℝ) : EReal) = _
  rw [reference_bits b k, ← EReal.coe_sub]
  norm_num

variable (x0 : (⟨S1536x3584, .bf16⟩ : BufTy).Contents (Elt Ideal)) (x1 : (⟨S3584x4736, .i8⟩ : BufTy).Contents (Elt Ideal)) (x2 : (⟨S18944, .f32⟩ : BufTy).Contents (Elt Ideal)) (x3 : (⟨S74x74, .bf16⟩ : BufTy).Contents (Elt Ideal)) (x4 : (⟨S256x256, .bf16⟩ : BufTy).Contents (Elt Ideal))

theorem field0 (d : Fin 3584) (e : Fin 4736) : (val_main_v8 (F := Ideal) x1 (ix2 d e) : EReal) = weight (x1 (ix2 d e)) 0 := field (x1 (ix2 d e)) 0 _ rfl
theorem field1 (d : Fin 3584) (e : Fin 4736) : (val_main_v21 (F := Ideal) x1 (ix2 d e) : EReal) = weight (x1 (ix2 d e)) 1 := field (x1 (ix2 d e)) 1 _ rfl
theorem field2 (d : Fin 3584) (e : Fin 4736) : (val_main_v34 (F := Ideal) x1 (ix2 d e) : EReal) = weight (x1 (ix2 d e)) 2 := field (x1 (ix2 d e)) 2 _ rfl
theorem field3 (d : Fin 3584) (e : Fin 4736) : (val_main_v47 (F := Ideal) x1 (ix2 d e) : EReal) = weight (x1 (ix2 d e)) 3 := field (x1 (ix2 d e)) 3 _ rfl

/-- The scaled product at row `t` for field `k` of code column `e`. -/
def scaled (t : Fin 1536) (e : Fin 4736) (k : Nat) (hk : k < 4) : EReal :=
  (∑ d : Fin 3584, x0 (ix2 t d) * weight (x1 (ix2 d e)) k) * x2 (ix1 ⟨4 * e.val + k, by have := e.isLt; omega⟩)

theorem scaled_congr (t : Fin 1536) {e e' : Fin 4736} (he : e = e') {k k' : Nat} (hk : k < 4) (hk' : k' < 4) (h : k = k') :
    scaled x0 x1 x2 t e k hk = scaled x0 x1 x2 t e' k' hk' := by
  subst he h; rfl

theorem lidx9 (t : Fin 1536) (e : Fin 4736) (d : Fin 3584) : lidx_main_v9 (ix2 t e) d = ix2 t d := by
  funext a; fin_cases a <;> rfl
theorem ridx9 (t : Fin 1536) (e : Fin 4736) (d : Fin 3584) : ridx_main_v9 (ix2 t e) d = ix2 d e := by
  funext a; fin_cases a <;> rfl
theorem lidx22 (t : Fin 1536) (e : Fin 4736) (d : Fin 3584) : lidx_main_v22 (ix2 t e) d = ix2 t d := by
  funext a; fin_cases a <;> rfl
theorem ridx22 (t : Fin 1536) (e : Fin 4736) (d : Fin 3584) : ridx_main_v22 (ix2 t e) d = ix2 d e := by
  funext a; fin_cases a <;> rfl
theorem lidx35 (t : Fin 1536) (e : Fin 4736) (d : Fin 3584) : lidx_main_v35 (ix2 t e) d = ix2 t d := by
  funext a; fin_cases a <;> rfl
theorem ridx35 (t : Fin 1536) (e : Fin 4736) (d : Fin 3584) : ridx_main_v35 (ix2 t e) d = ix2 d e := by
  funext a; fin_cases a <;> rfl
theorem lidx48 (t : Fin 1536) (e : Fin 4736) (d : Fin 3584) : lidx_main_v48 (ix2 t e) d = ix2 t d := by
  funext a; fin_cases a <;> rfl
theorem ridx48 (t : Fin 1536) (e : Fin 4736) (d : Fin 3584) : ridx_main_v48 (ix2 t e) d = ix2 d e := by
  funext a; fin_cases a <;> rfl

/-- A column scale read at two spellings of one column. -/
theorem scale_congr {n n' : Fin 18944} (h : n.val = n'.val) : x2 (ix1 n) = x2 (ix1 n') := by rw [Fin.ext h]

theorem scaled0 (t : Fin 1536) (e : Fin 4736) : (val_main_v14 (F := Ideal) x0 x1 x2 (ix2 t e) : EReal) = scaled x0 x1 x2 t e 0 (by decide) := by
  have h : (val_main_v13 (F := Ideal) x2 (ix2 t e) : EReal) = x2 (ix1 ⟨4 * e.val + 0, by have := e.isLt; omega⟩) := by
    pointwise [val_main_v13, val_main_v12, val_main_v11, val_main_v10, val_main_v1]
    exact scale_congr x2 (by simp only; omega)
  rw [val_main_v14_apply, val_main_v9_apply, h]
  simp only [lidx9, ridx9, field0]
  rfl
theorem scaled1 (t : Fin 1536) (e : Fin 4736) : (val_main_v27 (F := Ideal) x0 x1 x2 (ix2 t e) : EReal) = scaled x0 x1 x2 t e 1 (by decide) := by
  have h : (val_main_v26 (F := Ideal) x2 (ix2 t e) : EReal) = x2 (ix1 ⟨4 * e.val + 1, by have := e.isLt; omega⟩) := by
    pointwise [val_main_v26, val_main_v25, val_main_v24, val_main_v23, val_main_v1]
    exact scale_congr x2 (by simp only; omega)
  rw [val_main_v27_apply, val_main_v22_apply, h]
  simp only [lidx22, ridx22, field1]
  rfl
theorem scaled2 (t : Fin 1536) (e : Fin 4736) : (val_main_v40 (F := Ideal) x0 x1 x2 (ix2 t e) : EReal) = scaled x0 x1 x2 t e 2 (by decide) := by
  have h : (val_main_v39 (F := Ideal) x2 (ix2 t e) : EReal) = x2 (ix1 ⟨4 * e.val + 2, by have := e.isLt; omega⟩) := by
    pointwise [val_main_v39, val_main_v38, val_main_v37, val_main_v36, val_main_v1]
    exact scale_congr x2 (by simp only; omega)
  rw [val_main_v40_apply, val_main_v35_apply, h]
  simp only [lidx35, ridx35, field2]
  rfl
theorem scaled3 (t : Fin 1536) (e : Fin 4736) : (val_main_v53 (F := Ideal) x0 x1 x2 (ix2 t e) : EReal) = scaled x0 x1 x2 t e 3 (by decide) := by
  have h : (val_main_v52 (F := Ideal) x2 (ix2 t e) : EReal) = x2 (ix1 ⟨4 * e.val + 3, by have := e.isLt; omega⟩) := by
    pointwise [val_main_v52, val_main_v51, val_main_v50, val_main_v49, val_main_v1]
    exact scale_congr x2 (by simp only; omega)
  rw [val_main_v53_apply, val_main_v48_apply, h]
  simp only [lidx48, ridx48, field3]
  rfl

/-- The four fields' products joined along a new axis. -/
theorem joined (t : Fin 1536) (e : Fin 4736) (k : Fin 4) : (val_main_v58 (F := Ideal) x0 x1 x2 (ix3 t e k) : EReal) = scaled x0 x1 x2 t e k.val k.isLt := by
  unfold val_main_v58
  concat_tiles i h
  · rw [val_main_v54_apply, show idx_main_v54 i = ix2 t e from funext fun a => Fin.ext (by fin_cases a; exacts [h0, h1]), scaled0]
    exact scaled_congr x0 x1 x2 t rfl _ _ h.symm
  · rw [val_main_v55_apply, show idx_main_v55 i = ix2 t e from funext fun a => Fin.ext (by fin_cases a; exacts [h0, h1]), scaled1]
    exact scaled_congr x0 x1 x2 t rfl _ _ h.symm
  · rw [val_main_v56_apply, show idx_main_v56 i = ix2 t e from funext fun a => Fin.ext (by fin_cases a; exacts [h0, h1]), scaled2]
    exact scaled_congr x0 x1 x2 t rfl _ _ h.symm
  · rw [val_main_v57_apply, show idx_main_v57 i = ix2 t e from funext fun a => Fin.ext (by fin_cases a; exacts [h0, h1]), scaled3]
    exact scaled_congr x0 x1 x2 t rfl _ _ h.symm

/-- The scaled product at row `t`, column `n` of the 18944, rounded to bfloat16 (no change over the reals). -/
theorem product (t : Fin 1536) (g : Fin 74) (n : Fin 256) :
    (val_main_v61 (F := Ideal) x0 x1 x2 (ix3 t g n) : EReal)
      = scaled x0 x1 x2 t ⟨64 * g.val + n.val / 4, by have := g.isLt; have := n.isLt; omega⟩ (n.val % 4) (Nat.mod_lt _ (by decide)) := by
  have hg := g.isLt
  have hn := n.isLt
  have ht := t.isLt
  have e61 : (val_main_v61 (F := Ideal) x0 x1 x2 (ix3 t g n) : EReal)
      = val_main_v58 (F := Ideal) x0 x1 x2 (ix3 t ⟨64 * g.val + n.val / 4, by omega⟩ ⟨n.val % 4, Nat.mod_lt _ (by decide)⟩) := by
    generalize hy : val_main_v58 (F := Ideal) x0 x1 x2 = y
    pointwise [val_main_v61, val_main_v60, val_main_v59, hy]
    congr 1
    refine congr (congr (congrArg ix3 rfl) (Fin.ext ?_)) (Fin.ext ?_) <;> simp only <;> omega
  rw [e61, joined]

/-- The rotation by the second matrix at row `t`, group `g`, element `b`. -/
theorem rotated (t : Fin 1536) (g : Fin 74) (b : Fin 256) :
    (val_main_v62 (F := Ideal) x0 x1 x2 x4 (ix3 t g b) : EReal) = result x0 x1 x2 x4 t g.val g.isLt b := by
  rw [val_main_v62_apply]
  unfold result
  refine Finset.sum_congr rfl fun n _ => ?_
  rw [show lidx_main_v62 (ix3 t g b) n = ix3 t g n from by funext a; fin_cases a <;> rfl,
    show ridx_main_v62 (ix3 t g b) n = ix2 b n from by funext a; fin_cases a <;> rfl, product]
  unfold scaled
  congr 2
  exact scale_congr x2 (by have := n.isLt; simp only; omega)

theorem lidx64 (t : Fin 1536) (b : Fin 256) (a k : Fin 74) : lidx_main_v64 (ix3 t b a) k = ix3 t k b := by
  funext d; fin_cases d <;> rfl
theorem ridx64 (t : Fin 1536) (b : Fin 256) (a k : Fin 74) : ridx_main_v64 (ix3 t b a) k = ix2 a k := by
  funext d; fin_cases d <;> rfl

/-- The reference's result at row `t`, column `256 a + b`. -/
theorem result_apply (t : Fin 1536) (e : Fin 18944) :
    (val_main_v67 (F := Ideal) x0 x1 x2 x3 x4 (ix2 t e) : EReal)
      = total x0 x1 x2 x3 x4 t ⟨e.val / 256, by have := e.isLt; omega⟩ ⟨e.val % 256, Nat.mod_lt _ (by decide)⟩ := by
  have he := e.isLt
  have ht := t.isLt
  have e67 : (val_main_v67 (F := Ideal) x0 x1 x2 x3 x4 (ix2 t e) : EReal)
      = val_main_v64 (F := Ideal) x0 x1 x2 x3 x4 (ix3 t ⟨e.val % 256, Nat.mod_lt _ (by decide)⟩ ⟨e.val / 256, by omega⟩) := by
    generalize hy : val_main_v64 (F := Ideal) x0 x1 x2 x3 x4 = y
    pointwise [val_main_v67, val_main_v66, val_main_v65, hy]
  rw [e67, val_main_v64_apply]
  unfold total
  refine Finset.sum_congr rfl fun q _ => ?_
  rw [lidx64, ridx64, mul_comm]
  refine congrArg (fun v : EReal => x3 (ix2 _ q) * v) ?_
  exact rotated x0 x1 x2 x4 t q _

end Cert.ReferenceIdeal.Result

end
-- ==== Proof.InPairs.lean ====
/- What the first call's product loop leaves in its scratch array: the products with the second matrix, two tokens per word row. -/
module

public import proofs.«01_k».proof.Proof.Gen.RotateInIdeal.Loops
public import Idealize.ShloMosaic.Lib.Pipeline.Value
public import Idealize.ShloMosaic.Lib.Pipeline.ValueKit
public import Idealize.ShloMosaic.Lib.KernelVsHost
public import Idealize.ShloMosaic.Lib.Pointwise

@[expose] public section

set_option maxRecDepth 16384

noncomputable section

namespace Cert.RotateInIdeal.Pairs

open Idealize.ShloMosaic Idealize.ShloMosaic.TcCoe Idealize.SL.Sem
open Cert.RotateInIdeal Cert.RotateInIdeal.Gen

/-- The lane mask, below lane 64. -/
theorem mask_apply (a : Fin 8) (l : Fin 128) : k0_pay1 (ix2 a l) = if l.val < 64 then 1#1 else 0#1 := by
  show IntOp.cmpi .slt (iota .tc S8x128 32 [1] iota_S8x128_d1_w32 (ix2 a l)) 64#32 = _
  rw [iota_single_apply]
  show IntOp.cmpi .slt (BitVec.ofNat 32 l.val) 64#32 = _
  revert l; decide

/-- A selection by the lane mask. -/
theorem select_mask (x y : S8x128.Idx → EReal) (a : Fin 8) (l : Fin 128) :
    select k0_pay1 x y (ix2 a l) = if l.val < 64 then x (ix2 a l) else y (ix2 a l) := by
  show (if k0_pay1 (ix2 a l) = 1#1 then _ else _) = _
  rw [mask_apply]
  by_cases h : l.val < 64 <;> simp [h]

/-- Rows rotated by half the lanes. -/
theorem turned (v : FVec Ideal S8x128 .f32) (a : Fin 8) (l : Fin 128) :
    (dynamicRotate 1 64#32 none v rotates_S8x128_d1 (ix2 a l) : EReal) = v (ix2 a ⟨(l.val + 64) % 128, by omega⟩) := by
  rw [dynamicRotate_apply 1 64#32 _ _ _ (ix2 a ⟨(l.val + 64) % 128, by omega⟩)]
  intro b
  match b with
  | ⟨0, _⟩ => rfl
  | ⟨1, _⟩ => show (l.val + 64) % 128 = (l.val + 128 - 64) % 128; omega

/-- The two halves of the exchange: the first 64 lanes of both arrays side by side, and the last 64 lanes of both. -/
def low (A B : FVec Ideal S8x128 .f32) : FVec Ideal S8x128 .f32 := select k0_pay1 A (dynamicRotate 1 64#32 none B rotates_S8x128_d1)
def high (A B : FVec Ideal S8x128 .f32) : FVec Ideal S8x128 .f32 := select k0_pay1 (dynamicRotate 1 64#32 none A rotates_S8x128_d1) B

/-- Lane `l % 64` of half `p`. -/
abbrev at64 (p : Nat) (hp : p < 2) (l : Fin 128) : Fin 128 := ⟨64 * p + l.val % 64, by omega⟩

theorem low_apply (A B : FVec Ideal S8x128 .f32) (a : Fin 8) (l : Fin 128) :
    (low A B (ix2 a l) : EReal) = if l.val < 64 then A (ix2 a (at64 0 (by decide) l)) else B (ix2 a (at64 0 (by decide) l)) := by
  have hl := l.isLt
  refine (select_mask _ _ a l).trans ?_
  rw [turned]
  split
  · exact congrArg (fun q => A (ix2 a q)) (Fin.ext (by show l.val = 64 * 0 + l.val % 64; omega))
  · exact congrArg (fun q => B (ix2 a q)) (Fin.ext (by show (l.val + 64) % 128 = 64 * 0 + l.val % 64; omega))
theorem high_apply (A B : FVec Ideal S8x128 .f32) (a : Fin 8) (l : Fin 128) :
    (high A B (ix2 a l) : EReal) = if l.val < 64 then A (ix2 a (at64 1 (by decide) l)) else B (ix2 a (at64 1 (by decide) l)) := by
  have hl := l.isLt
  refine (select_mask _ _ a l).trans ?_
  rw [turned]
  split
  · exact congrArg (fun q => A (ix2 a q)) (Fin.ext (by show (l.val + 64) % 128 = 64 * 1 + l.val % 64; omega))
  · exact congrArg (fun q => B (ix2 a q)) (Fin.ext (by show l.val = 64 * 1 + l.val % 64; omega))

/-- The word rows stored for eight pairs of tokens. -/
def word (A B : FVec Ideal S8x128 .f32) : Vec Ideal S8x1x2x128 .bf16 :=
  k0_pay3 (F := Ideal) (truncf .bf16 (low A B)) (truncf .bf16 (high A B))

theorem word_apply (A B : FVec Ideal S8x128 .f32) (r : Fin 8) (p : Fin 2) (l : Fin 128) :
    (word A B (ix4 r 0 p l) : EReal) = if l.val < 64 then A (ix2 r (at64 p.val p.isLt l)) else B (ix2 r (at64 p.val p.isLt l)) := by
  match p with
  | ⟨0, _⟩ =>
    refine Eq.trans ?_ (low_apply A B r l)
    unfold word
    generalize low A B = U
    generalize high A B = V
    pointwise [k0_pay3]
  | ⟨1, _⟩ =>
    refine Eq.trans ?_ (high_apply A B r l)
    unfold word
    generalize low A B = U
    generalize high A B = V
    pointwise [k0_pay3]

/-- Element `n` of the product of token `t`'s column block `j` with the matrix. -/
def el (x0 : Vec Ideal S128x3584 .bf16) (x1 : Vec Ideal S256x256 .bf16) (t j n : Nat) : EReal :=
  ∑ d : Fin 256, x0 (ix2 ⟨t % 128, Nat.mod_lt _ (by decide)⟩ ⟨(256 * j + d.val) % 3584, Nat.mod_lt _ (by decide)⟩) * x1 (ix2 d ⟨n % 256, Nat.mod_lt _ (by decide)⟩)

/-- What the scratch holds: pair row `y 0`, word row `y 1`, parity `y 2`, lane `y 3`. -/
def pair (x0 : Vec Ideal S128x3584 .bf16) (x1 : Vec Ideal S256x256 .bf16) : S64x40x2x128.Idx → EReal := fun y =>
  el x0 x1 (16 * ((y 0).val / 8) + 8 * ((y 3).val / 64) + (y 0).val % 8) ((y 1).val / 2) (128 * ((y 1).val % 2) + 64 * (y 2).val + (y 3).val % 64)

theorem pay6_apply (X : Vec Ideal S128x256 .bf16) (W : Vec Ideal S256x256 .bf16) (t : Fin 128) (n : Fin 256) :
    (k0_pay6 (F := Ideal) X W (ix2 t n) : EReal) = ∑ d : Fin 256, X (ix2 t d) * W (ix2 d n) := by
  pointwise [k0_pay6]

/-- Eight rows and 128 columns cut out of the product. -/
theorem cut_apply (M : FVec Ideal S128x256 .f32) (o q : Nat) (ho : o + 8 ≤ 128) (hq : q + 128 ≤ 256) (h : S128x256.Slices ![o, q] S8x128) (r : Fin 8) (l : Fin 128) :
    extractStridedSlice S8x128 ![o, q] M h (ix2 r l) = M (ix2 ⟨o + r.val, by omega⟩ ⟨q + l.val, by omega⟩) := by
  refine extractStridedSlice_apply _ _ _ _ _ fun a => ?_
  match a with
  | ⟨0, _⟩ => rfl
  | ⟨1, _⟩ => rfl

/-- The column block, loaded. -/
theorem block_apply (x0 : Vec Ideal S128x3584 .bf16) (k : Nat) (hk : k < 14) (off : Fin 2 → Nat) (hoff : off = ![0, 256 * k])
    (inb : ∀ a, off a + S128x256.size a ≤ S128x3584.size a) (t : Fin 128) (d : Fin 256) :
    View.ld x0 (Rect.unit (s := S128x3584) off S128x256.size inb) (ix2 t d) = x0 (ix2 t ⟨(256 * k + d.val) % 3584, Nat.mod_lt _ (by decide)⟩) := by
  subst hoff
  refine View.ld_unit_apply_of x0 ![0, 256 * k] S128x256.size inb _ _ ?_
  intro a; fin_cases a
  · exact (Nat.zero_add _).symm
  · show (256 * k + d.val) % 3584 = 256 * k + d.val
    have := d.isLt
    omega

/-- The store of group `g`, half `h` in trip `k` is a part of the products. -/
theorem piece_ok (x0 : Vec Ideal S128x3584 .bf16) (x1 : Vec Ideal S256x256 .bf16) (k g h : Nat) (hk : k < 14) (hg : g < 8) (hh : h < 2)
    (off : Fin 4 → Nat) (hoff : off = ![8 * g, 2 * k + h, 0, 0]) (inb : ∀ a, off a + S8x1x2x128.size a ≤ S64x40x2x128.size a)
    (P : S8x1x2x128.Idx → EReal) (X : Vec Ideal S128x256 .bf16)
    (hX : ∀ (t : Fin 128) (d : Fin 256), X (ix2 t d) = x0 (ix2 t ⟨(256 * k + d.val) % 3584, Nat.mod_lt _ (by decide)⟩))
    (hs : S128x256.Slices ![16 * g, 128 * h] S8x128) (hs' : S128x256.Slices ![16 * g + 8, 128 * h] S8x128)
    (hP : P = word (extractStridedSlice S8x128 ![16 * g, 128 * h] (k0_pay6 (F := Ideal) X x1) hs) (extractStridedSlice S8x128 ![16 * g + 8, 128 * h] (k0_pay6 (F := Ideal) X x1) hs'))
    (x : S8x1x2x128.Idx) : P x = pair x0 x1 ((Rect.unit (s := S64x40x2x128) off S8x1x2x128.size inb).emb x) := by
  subst hoff hP
  obtain ⟨r, o, p, l, rfl⟩ : ∃ (r : Fin 8) (o : Fin 1) (p : Fin 2) (l : Fin 128), x = ix4 r o p l := ⟨x 0, x 1, x 2, x 3, eq_ix4 x⟩
  obtain rfl : o = 0 := Subsingleton.elim _ _
  have hr := r.isLt
  have hp := p.isLt
  have hl := l.isLt
  have e0 : (((Rect.unit (s := S64x40x2x128) ![8 * g, 2 * k + h, 0, 0] S8x1x2x128.size inb).emb (ix4 r 0 p l)) 0).val = 8 * g + r.val := Rect.idx_unit_val _ _ _ _ _
  have e1 : (((Rect.unit (s := S64x40x2x128) ![8 * g, 2 * k + h, 0, 0] S8x1x2x128.size inb).emb (ix4 r 0 p l)) 1).val = 2 * k + h + 0 := Rect.idx_unit_val _ _ _ _ _
  have e2 : (((Rect.unit (s := S64x40x2x128) ![8 * g, 2 * k + h, 0, 0] S8x1x2x128.size inb).emb (ix4 r 0 p l)) 2).val = 0 + p.val := Rect.idx_unit_val _ _ _ _ _
  have e3 : (((Rect.unit (s := S64x40x2x128) ![8 * g, 2 * k + h, 0, 0] S8x1x2x128.size inb).emb (ix4 r 0 p l)) 3).val = 0 + l.val := Rect.idx_unit_val _ _ _ _ _
  refine (word_apply _ _ r p l).trans ?_
  unfold pair
  rw [e0, e1, e2, e3]
  have hc : ∀ (t : Fin 128) (n : Fin 256) (t' j' n' : Nat), t.val = t' → k = j' → n.val = n' → (k0_pay6 (F := Ideal) X x1 (ix2 t n) : EReal) = el x0 x1 t' j' n' := by
    intro t n t' j' n' ht hj hn
    subst ht hj hn
    refine (pay6_apply X x1 t n).trans (Finset.sum_congr rfl fun d _ => ?_)
    rw [hX]
    refine congr (congrArg _ (congrArg (fun q => x0 (ix2 q _)) (Fin.ext (Nat.mod_eq_of_lt t.isLt).symm))) (congrArg (fun q => x1 (ix2 d q)) (Fin.ext (Nat.mod_eq_of_lt n.isLt).symm))
  split
  · rw [cut_apply _ _ _ (by omega) (by omega)]
    refine hc _ _ _ _ _ ?_ ?_ ?_
    · show 16 * g + r.val = 16 * ((8 * g + r.val) / 8) + 8 * ((0 + l.val) / 64) + (8 * g + r.val) % 8
      omega
    · omega
    · show 128 * h + (64 * p.val + l.val % 64) = 128 * ((2 * k + h + 0) % 2) + 64 * (0 + p.val) + (0 + l.val) % 64
      omega
  · rw [cut_apply _ _ _ (by omega) (by omega)]
    refine hc _ _ _ _ _ ?_ ?_ ?_
    · show 16 * g + 8 + r.val = 16 * ((8 * g + r.val) / 8) + 8 * ((0 + l.val) / 64) + (8 * g + r.val) % 8
      omega
    · omega
    · show 128 * h + (64 * p.val + l.val % 64) = 128 * ((2 * k + h + 0) % 2) + 64 * (0 + p.val) + (0 + l.val) % 64
      omega

/-- An entry of word row `2 k + h`, pair rows of group `g`, is in that store's rectangle. -/
theorem mem_piece (y : S64x40x2x128.Idx) (k g h : Nat) (off : Fin 4 → Nat) (hoff : off = ![8 * g, 2 * k + h, 0, 0])
    (inb : ∀ a, off a + S8x1x2x128.size a ≤ S64x40x2x128.size a) (h0 : (y 0).val / 8 = g) (h1 : (y 1).val = 2 * k + h) :
    y ∈ (Rect.unit (s := S64x40x2x128) off S8x1x2x128.size inb).set := by
  subst hoff
  rw [Rect.mem_set_unit]
  intro d
  match d with
  | ⟨0, _⟩ => exact ⟨by show 8 * g ≤ (y 0).val; omega, by show (y 0).val < 8 * g + 8; omega⟩
  | ⟨1, _⟩ => exact ⟨by show 2 * k + h ≤ (y 1).val; omega, by show (y 1).val < 2 * k + h + 1; omega⟩
  | ⟨2, _⟩ => exact ⟨Nat.zero_le _, by show (y 2).val < 0 + 2; have h : (y 2).val < 2 := (y 2).isLt; omega⟩
  | ⟨3, _⟩ => exact ⟨Nat.zero_le _, by show (y 3).val < 0 + 128; have h : (y 3).val < 128 := (y 3).isLt; omega⟩

theorem t1_lt (k : Fin k0_t1_loop.trips) : k.val < 14 := Nat.lt_of_lt_of_le k.isLt k0_t1_abs.2.1

section Loop
variable (𝒱 : Variants) (c : Dev nD) (bd : Option 𝒱.V) (i : grid0.Coords) (arg1 : Memref sig .tc .vmem S128x3584 .bf16) (harg1 : arg1.IsWhole) (arg2 : Memref sig .tc .vmem S256x256 .bf16) (harg2 : arg2.IsWhole) (arg3 : Memref sig .tc .vmem S56x64 .bf16) (harg3 : arg3.IsWhole) (arg4 : Memref sig .tc .vmem S128x3584 .bf16) (harg4 : arg4.IsWhole) (arg5 : Memref sig .tc .vmem S64x40x2x128 .bf16) (harg5 : arg5.IsWhole) (arg6 : Memref sig .tc .vmem S3584x128 .f32) (harg6 : arg6.IsWhole)
  (x0 : Vec Ideal S128x3584 .bf16) (x1 : Vec Ideal S256x256 .bf16)

/-- Every store of trip `k` is a part of the products. -/
theorem trip_pieces (k : Fin k0_t1_loop.trips) :
    ∀ p ∈ tripL_k0_t1 (F := Ideal) 𝒱 c bd i arg1 harg1 arg2 harg2 arg3 harg3 arg4 harg4 arg5 harg5 arg6 harg6 (harg1.unread x0) (harg2.unread x1) k,
      ∀ x : p.1.shape.Idx, p.2 x = pair x0 x1 (p.1.emb x) := by
  have h2 : View.ld x1 (Rect.unit (s := S256x256) ![0, 0] S256x256.size inb_S256x256_S256x256_0_0) = x1 :=
    View.ld_unit_zero (by funext a; fin_cases a <;> rfl) _ _
  have hk := t1_lt k
  unfold tripL_k0_t1 trip_k0_t1
  dsimp only
  sl_unfold_words
  simp only [View.readAt_eq_ld, harg1.read_unread, harg2.read_unread]
  rw [h2]
  simp only [List.forall_mem_cons]
  refine ⟨?_, ?_, ?_, ?_, ?_, ?_, ?_, ?_, ?_, ?_, ?_, ?_, ?_, ?_, ?_, ?_, ?_⟩
  · exact piece_ok x0 x1 k.val 7 1 hk (by decide) (by decide) _ (k0_off9_eq k 1) _ _ _ (block_apply x0 k.val hk _ (k0_off1_eq k) _) slices_S128x256_o112_128_S8x128 slices_S128x256_o120_128_S8x128 rfl
  · exact piece_ok x0 x1 k.val 6 1 hk (by decide) (by decide) _ (k0_off8_eq k 1) _ _ _ (block_apply x0 k.val hk _ (k0_off1_eq k) _) slices_S128x256_o96_128_S8x128 slices_S128x256_o104_128_S8x128 rfl
  · exact piece_ok x0 x1 k.val 5 1 hk (by decide) (by decide) _ (k0_off7_eq k 1) _ _ _ (block_apply x0 k.val hk _ (k0_off1_eq k) _) slices_S128x256_o80_128_S8x128 slices_S128x256_o88_128_S8x128 rfl
  · exact piece_ok x0 x1 k.val 4 1 hk (by decide) (by decide) _ (k0_off6_eq k 1) _ _ _ (block_apply x0 k.val hk _ (k0_off1_eq k) _) slices_S128x256_o64_128_S8x128 slices_S128x256_o72_128_S8x128 rfl
  · exact piece_ok x0 x1 k.val 3 1 hk (by decide) (by decide) _ (k0_off5_eq k 1) _ _ _ (block_apply x0 k.val hk _ (k0_off1_eq k) _) slices_S128x256_o48_128_S8x128 slices_S128x256_o56_128_S8x128 rfl
  · exact piece_ok x0 x1 k.val 2 1 hk (by decide) (by decide) _ (k0_off4_eq k 1) _ _ _ (block_apply x0 k.val hk _ (k0_off1_eq k) _) slices_S128x256_o32_128_S8x128 slices_S128x256_o40_128_S8x128 rfl
  · exact piece_ok x0 x1 k.val 1 1 hk (by decide) (by decide) _ (k0_off3_eq k 1) _ _ _ (block_apply x0 k.val hk _ (k0_off1_eq k) _) slices_S128x256_o16_128_S8x128 slices_S128x256_o24_128_S8x128 rfl
  · exact piece_ok x0 x1 k.val 0 1 hk (by decide) (by decide) _ (k0_off2_eq k 1) _ _ _ (block_apply x0 k.val hk _ (k0_off1_eq k) _) slices_S128x256_o0_128_S8x128 slices_S128x256_o8_128_S8x128 rfl
  · exact piece_ok x0 x1 k.val 7 0 hk (by decide) (by decide) _ (k0_off9_eq k 0) _ _ _ (block_apply x0 k.val hk _ (k0_off1_eq k) _) slices_S128x256_o112_0_S8x128 slices_S128x256_o120_0_S8x128 rfl
  · exact piece_ok x0 x1 k.val 6 0 hk (by decide) (by decide) _ (k0_off8_eq k 0) _ _ _ (block_apply x0 k.val hk _ (k0_off1_eq k) _) slices_S128x256_o96_0_S8x128 slices_S128x256_o104_0_S8x128 rfl
  · exact piece_ok x0 x1 k.val 5 0 hk (by decide) (by decide) _ (k0_off7_eq k 0) _ _ _ (block_apply x0 k.val hk _ (k0_off1_eq k) _) slices_S128x256_o80_0_S8x128 slices_S128x256_o88_0_S8x128 rfl
  · exact piece_ok x0 x1 k.val 4 0 hk (by decide) (by decide) _ (k0_off6_eq k 0) _ _ _ (block_apply x0 k.val hk _ (k0_off1_eq k) _) slices_S128x256_o64_0_S8x128 slices_S128x256_o72_0_S8x128 rfl
  · exact piece_ok x0 x1 k.val 3 0 hk (by decide) (by decide) _ (k0_off5_eq k 0) _ _ _ (block_apply x0 k.val hk _ (k0_off1_eq k) _) slices_S128x256_o48_0_S8x128 slices_S128x256_o56_0_S8x128 rfl
  · exact piece_ok x0 x1 k.val 2 0 hk (by decide) (by decide) _ (k0_off4_eq k 0) _ _ _ (block_apply x0 k.val hk _ (k0_off1_eq k) _) slices_S128x256_o32_0_S8x128 slices_S128x256_o40_0_S8x128 rfl
  · exact piece_ok x0 x1 k.val 1 0 hk (by decide) (by decide) _ (k0_off3_eq k 0) _ _ _ (block_apply x0 k.val hk _ (k0_off1_eq k) _) slices_S128x256_o16_0_S8x128 slices_S128x256_o24_0_S8x128 rfl
  · exact piece_ok x0 x1 k.val 0 0 hk (by decide) (by decide) _ (k0_off2_eq k 0) _ _ _ (block_apply x0 k.val hk _ (k0_off1_eq k) _) slices_S128x256_o0_0_S8x128 slices_S128x256_o8_0_S8x128 rfl
  · exact fun _ h => absurd h List.not_mem_nil

/-- Trip `k` stores every entry of its two word rows. -/
theorem trip_cover (k : Fin k0_t1_loop.trips) (y : S64x40x2x128.Idx) (hy : (y 1).val / 2 = k.val) :
    ∃ p ∈ tripL_k0_t1 (F := Ideal) 𝒱 c bd i arg1 harg1 arg2 harg2 arg3 harg3 arg4 harg4 arg5 harg5 arg6 harg6 (harg1.unread x0) (harg2.unread x1) k, y ∈ p.1.set := by
  have h0 : (y 0).val < 64 := (y 0).isLt
  unfold tripL_k0_t1 trip_k0_t1
  dsimp only
  by_cases hz : (y 1).val % 2 = 0
  · have h1 : (y 1).val = 2 * k.val + 0 := by omega
    obtain hg | hg | hg | hg | hg | hg | hg | hg : (y 0).val / 8 = 0 ∨ (y 0).val / 8 = 1 ∨ (y 0).val / 8 = 2 ∨ (y 0).val / 8 = 3 ∨ (y 0).val / 8 = 4 ∨ (y 0).val / 8 = 5 ∨ (y 0).val / 8 = 6 ∨ (y 0).val / 8 = 7 := by omega
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_piece y k.val 0 0 _ (k0_off2_eq k 0) (k0_off2_inb k 0) hg h1⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_piece y k.val 1 0 _ (k0_off3_eq k 0) (k0_off3_inb k 0) hg h1⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_piece y k.val 2 0 _ (k0_off4_eq k 0) (k0_off4_inb k 0) hg h1⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_piece y k.val 3 0 _ (k0_off5_eq k 0) (k0_off5_inb k 0) hg h1⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_piece y k.val 4 0 _ (k0_off6_eq k 0) (k0_off6_inb k 0) hg h1⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_piece y k.val 5 0 _ (k0_off7_eq k 0) (k0_off7_inb k 0) hg h1⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_piece y k.val 6 0 _ (k0_off8_eq k 0) (k0_off8_inb k 0) hg h1⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mem_piece y k.val 7 0 _ (k0_off9_eq k 0) (k0_off9_inb k 0) hg h1⟩
  · have h1 : (y 1).val = 2 * k.val + 1 := by omega
    obtain hg | hg | hg | hg | hg | hg | hg | hg : (y 0).val / 8 = 0 ∨ (y 0).val / 8 = 1 ∨ (y 0).val / 8 = 2 ∨ (y 0).val / 8 = 3 ∨ (y 0).val / 8 = 4 ∨ (y 0).val / 8 = 5 ∨ (y 0).val / 8 = 6 ∨ (y 0).val / 8 = 7 := by omega
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_piece y k.val 0 1 _ (k0_off2_eq k 1) (k0_off2_inb k 1) hg h1⟩
    · exact ⟨_, List.mem_cons_of_mem _ (List.mem_cons_of_mem _ (List.mem_cons_of_mem _ (List.mem_cons_of_mem _ (List.mem_cons_of_mem _ (List.mem_cons_of_mem _ List.mem_cons_self))))), mem_piece y k.val 1 1 _ (k0_off3_eq k 1) (k0_off3_inb k 1) hg h1⟩
    · exact ⟨_, List.mem_cons_of_mem _ (List.mem_cons_of_mem _ (List.mem_cons_of_mem _ (List.mem_cons_of_mem _ (List.mem_cons_of_mem _ List.mem_cons_self)))), mem_piece y k.val 2 1 _ (k0_off4_eq k 1) (k0_off4_inb k 1) hg h1⟩
    · exact ⟨_, List.mem_cons_of_mem _ (List.mem_cons_of_mem _ (List.mem_cons_of_mem _ (List.mem_cons_of_mem _ List.mem_cons_self))), mem_piece y k.val 3 1 _ (k0_off5_eq k 1) (k0_off5_inb k 1) hg h1⟩
    · exact ⟨_, List.mem_cons_of_mem _ (List.mem_cons_of_mem _ (List.mem_cons_of_mem _ List.mem_cons_self)), mem_piece y k.val 4 1 _ (k0_off6_eq k 1) (k0_off6_inb k 1) hg h1⟩
    · exact ⟨_, List.mem_cons_of_mem _ (List.mem_cons_of_mem _ List.mem_cons_self), mem_piece y k.val 5 1 _ (k0_off7_eq k 1) (k0_off7_inb k 1) hg h1⟩
    · exact ⟨_, List.mem_cons_of_mem _ List.mem_cons_self, mem_piece y k.val 6 1 _ (k0_off8_eq k 1) (k0_off8_inb k 1) hg h1⟩
    · exact ⟨_, List.mem_cons_self, mem_piece y k.val 7 1 _ (k0_off9_eq k 1) (k0_off9_inb k 1) hg h1⟩

/-- The stores of the first `n` trips. -/
abbrev pieces (n : Nat) := pb_k0_t1 (F := Ideal) 𝒱 c bd i arg1 harg1 arg2 harg2 arg3 harg3 arg4 harg4 arg5 harg5 arg6 harg6 (harg1.unread x0) (harg2.unread x1) n

theorem pieces_succ (n : Nat) (hn : n < k0_t1_loop.trips) :
    pieces 𝒱 c bd i arg1 harg1 arg2 harg2 arg3 harg3 arg4 harg4 arg5 harg5 arg6 harg6 x0 x1 (n + 1)
      = tripL_k0_t1 (F := Ideal) 𝒱 c bd i arg1 harg1 arg2 harg2 arg3 harg3 arg4 harg4 arg5 harg5 arg6 harg6 (harg1.unread x0) (harg2.unread x1) ⟨n, hn⟩ ++ pieces 𝒱 c bd i arg1 harg1 arg2 harg2 arg3 harg3 arg4 harg4 arg5 harg5 arg6 harg6 x0 x1 n :=
  pb_k0_t1_succ (F := Ideal) 𝒱 c bd i arg1 harg1 arg2 harg2 arg3 harg3 arg4 harg4 arg5 harg5 arg6 harg6 (harg1.unread x0) (harg2.unread x1) ⟨n, hn⟩

theorem loop_pieces : ∀ n : Nat, n ≤ k0_t1_loop.trips →
    ∀ p ∈ pieces 𝒱 c bd i arg1 harg1 arg2 harg2 arg3 harg3 arg4 harg4 arg5 harg5 arg6 harg6 x0 x1 n, ∀ x : p.1.shape.Idx, p.2 x = pair x0 x1 (p.1.emb x)
  | 0, _, p, hp => absurd hp (by unfold pieces pb_k0_t1; exact List.not_mem_nil)
  | n + 1, hn, p, hp => by
    rw [pieces_succ 𝒱 c bd i arg1 harg1 arg2 harg2 arg3 harg3 arg4 harg4 arg5 harg5 arg6 harg6 x0 x1 n hn] at hp
    rcases List.mem_append.mp hp with h | h
    · exact trip_pieces 𝒱 c bd i arg1 harg1 arg2 harg2 arg3 harg3 arg4 harg4 arg5 harg5 arg6 harg6 x0 x1 _ p h
    · exact loop_pieces n (by omega) p h

theorem loop_cover (y : S64x40x2x128.Idx) : ∀ n : Nat, n ≤ k0_t1_loop.trips → (y 1).val / 2 < n →
    ∃ p ∈ pieces 𝒱 c bd i arg1 harg1 arg2 harg2 arg3 harg3 arg4 harg4 arg5 harg5 arg6 harg6 x0 x1 n, y ∈ p.1.set
  | 0, _, h => absurd h (by omega)
  | n + 1, hn, h => by
    rw [pieces_succ 𝒱 c bd i arg1 harg1 arg2 harg2 arg3 harg3 arg4 harg4 arg5 harg5 arg6 harg6 x0 x1 n hn]
    by_cases hy : (y 1).val / 2 = n
    · obtain ⟨p, hp, hm⟩ := trip_cover 𝒱 c bd i arg1 harg1 arg2 harg2 arg3 harg3 arg4 harg4 arg5 harg5 arg6 harg6 x0 x1 ⟨n, hn⟩ y hy
      exact ⟨p, List.mem_append_left _ hp, hm⟩
    · obtain ⟨p, hp, hm⟩ := loop_cover y n (by omega) (by omega)
      exact ⟨p, List.mem_append_right _ hp, hm⟩

/-- After the loop the first 28 word rows hold the products, whatever the scratch held before. -/
theorem held (f : arg5.view.ty.Contents (Elt Ideal)) (y : S64x40x2x128.Idx) (h1 : (y 1).val < 28) :
    (arg5.view.read (Elt Ideal) (arg5.view.writes (Elt Ideal) f (pieces 𝒱 c bd i arg1 harg1 arg2 harg2 arg3 harg3 arg4 harg4 arg5 harg5 arg6 harg6 x0 x1 k0_t1_loop.trips)) y : EReal) = pair x0 x1 y := by
  have ht : k0_t1_loop.trips = 14 := by decide +kernel
  exact View.read_writes_apply_of_pieces _ _ (pair x0 x1) _ (loop_pieces 𝒱 c bd i arg1 harg1 arg2 harg2 arg3 harg3 arg4 harg4 arg5 harg5 arg6 harg6 x0 x1 _ le_rfl) y
    (loop_cover 𝒱 c bd i arg1 harg1 arg2 harg2 arg3 harg3 arg4 harg4 arg5 harg5 arg6 harg6 x0 x1 y _ le_rfl (by omega))

end Loop

end Cert.RotateInIdeal.Pairs

end
-- ==== Proof.InRotate.lean ====
/- What the first call's rotation loop leaves in its scratch array of rotated tokens. -/
module

public import proofs.«01_k».proof.Proof.InPairs

@[expose] public section

set_option maxRecDepth 16384

noncomputable section

namespace Cert.RotateInIdeal.Rotate

open Idealize.ShloMosaic Idealize.ShloMosaic.TcCoe Idealize.SL.Sem
open Cert.RotateInIdeal Cert.RotateInIdeal.Gen

/-- Word row `q / 2` and parity `q % 2` of the group `q`, at a pair row and a lane. -/
abbrev pos (i : Nat) (q : Fin 64) (l : Fin 128) : S64x40x2x128.Idx :=
  ix4 ⟨i % 64, Nat.mod_lt _ (by decide)⟩ ⟨q.val / 2, by have := q.isLt; omega⟩ ⟨q.val % 2, Nat.mod_lt _ (by decide)⟩ l
/-- The same position in one pair row's 32 word rows. -/
abbrev at32 (q : Fin 64) (l : Fin 128) : S1x32x2x128.Idx := ix4 0 ⟨q.val / 2, by have := q.isLt; omega⟩ ⟨q.val % 2, Nat.mod_lt _ (by decide)⟩ l

/-- The first matrix applied to a pair row's 64 groups, at group `a` and lane `l`. -/
def rot (u : Vec Ideal S56x64 .bf16) (S : S64x40x2x128.Idx → EReal) (i a : Nat) (l : Fin 128) : EReal :=
  ∑ q : Fin 64, u (ix2 ⟨a % 56, Nat.mod_lt _ (by decide)⟩ q) * S (pos i q l)

section Payloads
variable (A B : Vec Ideal S1x32x2x128 .bf16) (u : Vec Ideal S56x64 .bf16)

theorem pick (q : Fin 64) (l : Fin 128) : (if q.val % 2 = 0 then A (ix4 0 ⟨q.val / 2, by have := q.isLt; omega⟩ 0 l) else A (ix4 0 ⟨q.val / 2, by have := q.isLt; omega⟩ 1 l)) = A (at32 q l) := by
  split
  · next h => exact congrArg (fun p => A (ix4 0 _ p l)) (Fin.ext (by show 0 = q.val % 2; omega))
  · next h => exact congrArg (fun p => A (ix4 0 _ p l)) (Fin.ext (by show 1 = q.val % 2; omega))

/-- A pair row's words unpacked into its 64 groups. -/
def groups (A : Vec Ideal S1x32x2x128 .bf16) : FVec Ideal S64x128 .bf16 :=
  interleaveRows S64x128 (shapeCast S32x128 (shapeCast S1x32x128 (rowsOfParity 0 S1x32x1x128 A bitcasts_S1x32x2x128_w16_S1x32x1x128_w32) shapeCasts_S1x32x1x128_S1x32x128) shapeCasts_S1x32x128_S32x128)
    (shapeCast S32x128 (shapeCast S1x32x128 (rowsOfParity 1 S1x32x1x128 A bitcasts_S1x32x2x128_w16_S1x32x1x128_w32) shapeCasts_S1x32x1x128_S1x32x128) shapeCasts_S1x32x128_S32x128) bitcasts_S64x128_w16_S32x128_w32
theorem groups_apply (q : Fin 64) (l : Fin 128) : (groups A (ix2 q l) : EReal) = A (at32 q l) := by
  refine Eq.trans ?_ (pick A q l)
  unfold groups
  pointwise []

/-- Two pair rows side by side. -/
def both : FVec Ideal S64x256 .bf16 := concatenate S64x256 1 [⟨S64x128, groups A⟩, ⟨S64x128, groups B⟩] concatenates_S64x128_S64x128_S64x256_d1
theorem both_left (q : Fin 64) (l : Fin 128) : (both A B (ix2 q ⟨l.val, by have := l.isLt; omega⟩) : EReal) = A (at32 q l) := by
  unfold both
  exact (concatenate_pair_apply_left (α := EReal) (t := S64x256) (s₁ := S64x128) (s₂ := S64x128) 1 _ _ concatenates_S64x128_S64x128_S64x256_d1 (ix2 q ⟨l.val, by have := l.isLt; omega⟩) rfl (ix2 q l) (fun b => by match b with | ⟨0, _⟩ => rfl | ⟨1, _⟩ => rfl)).trans (groups_apply A q l)
theorem both_right (q : Fin 64) (l : Fin 128) : (both A B (ix2 q ⟨128 + l.val, by have := l.isLt; omega⟩) : EReal) = B (at32 q l) := by
  unfold both
  exact (concatenate_pair_apply_right (α := EReal) (t := S64x256) (s₁ := S64x128) (s₂ := S64x128) 1 _ _ concatenates_S64x128_S64x128_S64x256_d1 (ix2 q ⟨128 + l.val, by have := l.isLt; omega⟩) rfl rfl (ix2 q l) (fun b hb => by match b with | ⟨0, _⟩ => rfl | ⟨1, _⟩ => exact absurd rfl hb) (by show l.val + 128 = 128 + l.val; omega)).trans (groups_apply B q l)

/-- The rotation of two pair rows. -/
def product (G : FVec Ideal S64x256 .bf16) : FVec Ideal S56x256 .f32 :=
  matmul (φ₁ := .bf16) dot_S56x64_S64x256_S56x256_1_0_0_1_n_n none (shapeCast S56x64 u shapeCasts_S56x64_S56x64) G (constant S56x256 .f32 0x00000000#32)
theorem product_apply (G : FVec Ideal S64x256 .bf16) (a : Fin 56) (n : Fin 256) : (product u G (ix2 a n) : EReal) = ∑ q : Fin 64, u (ix2 a q) * G (ix2 q n) := by
  pointwise [product]
theorem pay47_eq : k0_pay47 (F := Ideal) A B u = product u (both A B) := rfl

theorem pay48_apply (a : Fin 56) (l : Fin 128) : (k0_pay48 (F := Ideal) A B u (ix2 a l) : EReal) = ∑ q : Fin 64, u (ix2 a q) * A (at32 q l) := by
  have e : (k0_pay48 (F := Ideal) A B u (ix2 a l) : EReal) = product u (both A B) (ix2 a ⟨l.val, by have := l.isLt; omega⟩) := by
    unfold k0_pay48
    rw [pay47_eq]
    generalize product u (both A B) = M
    pointwise []
  exact e.trans ((product_apply u _ a _).trans (Finset.sum_congr rfl fun q _ => congrArg (u (ix2 a q) * ·) (both_left A B q l)))
theorem pay49_apply (a : Fin 56) (l : Fin 128) : (k0_pay4 (F := Ideal) (k0_pay49 (F := Ideal) A B u) (ix2 a l) : EReal) = ∑ q : Fin 64, u (ix2 a q) * B (at32 q l) := by
  have e : (k0_pay4 (F := Ideal) (k0_pay49 (F := Ideal) A B u) (ix2 a l) : EReal) = product u (both A B) (ix2 a ⟨128 + l.val, by have := l.isLt; omega⟩) := by
    unfold k0_pay49 k0_pay4
    rw [pay47_eq]
    generalize product u (both A B) = M
    pointwise []
  exact e.trans ((product_apply u _ a _).trans (Finset.sum_congr rfl fun q _ => congrArg (u (ix2 a q) * ·) (both_right A B q l)))
end Payloads

/-- One pair row's words, loaded. -/
theorem load_apply (S : Vec Ideal S64x40x2x128 .bf16) (off : Fin 4 → Nat) (i : Nat) (hi : i < 64) (hoff : off = ![i, 0, 0, 0])
    (inb : ∀ a, off a + S1x32x2x128.size a ≤ S64x40x2x128.size a) (q : Fin 64) (l : Fin 128) :
    View.ld S (Rect.unit (s := S64x40x2x128) off S1x32x2x128.size inb) (at32 q l) = S (pos i q l) := by
  subst hoff
  refine View.ld_unit_apply_of S ![i, 0, 0, 0] S1x32x2x128.size inb _ _ ?_
  intro k; fin_cases k
  · show i % 64 = i + 0
    omega
  · exact (Nat.zero_add _).symm
  · exact (Nat.zero_add _).symm
  · exact (Nat.zero_add _).symm

/-- The rotated tokens: row `56 i + a` is pair row `i`, group `a`. -/
def tokens (u : Vec Ideal S56x64 .bf16) (S : S64x40x2x128.Idx → EReal) : S3584x128.Idx → EReal := fun y => rot u S ((y 0).val / 56) ((y 0).val % 56) (y 1)

/-- The store of pair row `i` is a part of the rotated tokens. -/
theorem piece_ok (u : Vec Ideal S56x64 .bf16) (S : Vec Ideal S64x40x2x128 .bf16) (i : Nat) (off : Fin 2 → Nat) (hoff : off = ![56 * i, 0])
    (inb : ∀ a, off a + S56x128.size a ≤ S3584x128.size a) (P : S56x128.Idx → EReal) (R : Vec Ideal S1x32x2x128 .bf16)
    (hP : ∀ (a : Fin 56) (l : Fin 128), P (ix2 a l) = ∑ q : Fin 64, u (ix2 a q) * R (at32 q l))
    (hR : ∀ (q : Fin 64) (l : Fin 128), R (at32 q l) = S (pos i q l))
    (x : S56x128.Idx) : P x = tokens u S ((Rect.unit (s := S3584x128) off S56x128.size inb).emb x) := by
  subst hoff
  obtain ⟨a, l, rfl⟩ : ∃ (a : Fin 56) (l : Fin 128), x = ix2 a l := ⟨x 0, x 1, eq_ix2 x⟩
  have ha := a.isLt
  have e0 : (((Rect.unit (s := S3584x128) ![56 * i, 0] S56x128.size inb).emb (ix2 a l)) 0).val = 56 * i + a.val := Rect.idx_unit_val _ _ _ _ _
  have e1 : (((Rect.unit (s := S3584x128) ![56 * i, 0] S56x128.size inb).emb (ix2 a l)) 1) = l :=
    Fin.ext ((Rect.idx_unit_val _ _ _ _ _).trans (Nat.zero_add _))
  unfold tokens
  rw [e0, e1, show (56 * i + a.val) / 56 = i by omega, show (56 * i + a.val) % 56 = a.val by omega]
  unfold rot
  refine (hP a l).trans (Finset.sum_congr rfl fun q _ => ?_)
  rw [hR]
  exact congrArg (fun b => u (ix2 b q) * _) (Fin.ext (Nat.mod_eq_of_lt ha).symm)

/-- A row of pair row `i` is in that store's rectangle. -/
theorem mem_piece (y : S3584x128.Idx) (i : Nat) (off : Fin 2 → Nat) (hoff : off = ![56 * i, 0])
    (inb : ∀ a, off a + S56x128.size a ≤ S3584x128.size a) (h0 : (y 0).val / 56 = i) :
    y ∈ (Rect.unit (s := S3584x128) off S56x128.size inb).set := by
  subst hoff
  rw [Rect.mem_set_unit]
  intro d
  match d with
  | ⟨0, _⟩ => exact ⟨by show 56 * i ≤ (y 0).val; omega, by show (y 0).val < 56 * i + 56; omega⟩
  | ⟨1, _⟩ => exact ⟨Nat.zero_le _, by show (y 1).val < 0 + 128; have h : (y 1).val < 128 := (y 1).isLt; omega⟩

theorem t2_lt (k : Fin k0_t2_loop.trips) : k.val < 32 := Nat.lt_of_lt_of_le k.isLt k0_t2_abs.2.1

/-- The offsets of the two stores of a trip, by pair row. -/
theorem off_eq (k : Fin k0_t2_loop.trips) (r : Fin 2) : k0_off11 k (BitVec.ofNat 32 r.val) = ![56 * (2 * k.val + r.val), 0] := by
  rw [k0_off11_eq, show 112 * k.val + 56 * r.val = 56 * (2 * k.val + r.val) by omega]

section Loop
variable (𝒱 : Variants) (c : Dev nD) (bd : Option 𝒱.V) (i : grid0.Coords) (arg1 : Memref sig .tc .vmem S128x3584 .bf16) (harg1 : arg1.IsWhole) (arg2 : Memref sig .tc .vmem S256x256 .bf16) (harg2 : arg2.IsWhole) (arg3 : Memref sig .tc .vmem S56x64 .bf16) (harg3 : arg3.IsWhole) (arg4 : Memref sig .tc .vmem S128x3584 .bf16) (harg4 : arg4.IsWhole) (arg5 : Memref sig .tc .vmem S64x40x2x128 .bf16) (harg5 : arg5.IsWhole) (arg6 : Memref sig .tc .vmem S3584x128 .f32) (harg6 : arg6.IsWhole)
  (u : Vec Ideal S56x64 .bf16) (s : arg5.view.ty.Contents (Elt Ideal))

/-- Both stores of trip `k` are parts of the rotated tokens. -/
theorem trip_pieces (k : Fin k0_t2_loop.trips) :
    ∀ p ∈ tripL_k0_t2 (F := Ideal) 𝒱 c bd i arg1 harg1 arg2 harg2 arg3 harg3 arg4 harg4 arg5 harg5 arg6 harg6 (harg3.unread u) s k,
      ∀ x : p.1.shape.Idx, p.2 x = tokens u (arg5.view.read (Elt Ideal) s) (p.1.emb x) := by
  have h3 : View.ld u (Rect.unit (s := S56x64) ![0, 0] S56x64.size inb_S56x64_S56x64_0_0) = u :=
    View.ld_unit_zero (by funext a; fin_cases a <;> rfl) _ _
  have hk := t2_lt k
  unfold tripL_k0_t2 trip_k0_t2
  dsimp only
  sl_unfold_words
  simp only [View.readAt_eq_ld, harg3.read_unread]
  rw [h3]
  simp only [List.forall_mem_cons]
  refine ⟨?_, ?_, fun _ h => absurd h List.not_mem_nil⟩
  · exact piece_ok u (arg5.view.read (Elt Ideal) s) (2 * k.val + 1) _ (off_eq k 1) _ _ _ (pay49_apply _ _ u)
      (load_apply (arg5.view.read (Elt Ideal) s) _ _ (by omega) (k0_off10_eq k 1) _)
  · exact piece_ok u (arg5.view.read (Elt Ideal) s) (2 * k.val + 0) _ (off_eq k 0) _ _ _ (pay48_apply _ _ u)
      (load_apply (arg5.view.read (Elt Ideal) s) _ _ (by omega) (k0_off10_eq k 0) _)

/-- Trip `k` stores every row of its two pair rows. -/
theorem trip_cover (k : Fin k0_t2_loop.trips) (y : S3584x128.Idx) (hy : (y 0).val / 112 = k.val) :
    ∃ p ∈ tripL_k0_t2 (F := Ideal) 𝒱 c bd i arg1 harg1 arg2 harg2 arg3 harg3 arg4 harg4 arg5 harg5 arg6 harg6 (harg3.unread u) s k, y ∈ p.1.set := by
  unfold tripL_k0_t2 trip_k0_t2
  dsimp only
  by_cases hz : (y 0).val / 56 = 2 * k.val + 1
  · exact ⟨_, List.mem_cons_self, mem_piece y (2 * k.val + 1) _ (off_eq k 1) (k0_off11_inb k 1) hz⟩
  · exact ⟨_, List.mem_cons_of_mem _ List.mem_cons_self, mem_piece y (2 * k.val + 0) _ (off_eq k 0) (k0_off11_inb k 0) (by omega)⟩

/-- The stores of the first `n` trips. -/
abbrev pieces (n : Nat) := pb_k0_t2 (F := Ideal) 𝒱 c bd i arg1 harg1 arg2 harg2 arg3 harg3 arg4 harg4 arg5 harg5 arg6 harg6 (harg3.unread u) s n

theorem pieces_succ (n : Nat) (hn : n < k0_t2_loop.trips) :
    pieces 𝒱 c bd i arg1 harg1 arg2 harg2 arg3 harg3 arg4 harg4 arg5 harg5 arg6 harg6 u s (n + 1)
      = tripL_k0_t2 (F := Ideal) 𝒱 c bd i arg1 harg1 arg2 harg2 arg3 harg3 arg4 harg4 arg5 harg5 arg6 harg6 (harg3.unread u) s ⟨n, hn⟩ ++ pieces 𝒱 c bd i arg1 harg1 arg2 harg2 arg3 harg3 arg4 harg4 arg5 harg5 arg6 harg6 u s n :=
  pb_k0_t2_succ (F := Ideal) 𝒱 c bd i arg1 harg1 arg2 harg2 arg3 harg3 arg4 harg4 arg5 harg5 arg6 harg6 (harg3.unread u) s ⟨n, hn⟩

theorem loop_pieces : ∀ n : Nat, n ≤ k0_t2_loop.trips →
    ∀ p ∈ pieces 𝒱 c bd i arg1 harg1 arg2 harg2 arg3 harg3 arg4 harg4 arg5 harg5 arg6 harg6 u s n, ∀ x : p.1.shape.Idx, p.2 x = tokens u (arg5.view.read (Elt Ideal) s) (p.1.emb x)
  | 0, _, p, hp => absurd hp (by unfold pieces pb_k0_t2; exact List.not_mem_nil)
  | n + 1, hn, p, hp => by
    rw [pieces_succ 𝒱 c bd i arg1 harg1 arg2 harg2 arg3 harg3 arg4 harg4 arg5 harg5 arg6 harg6 u s n hn] at hp
    rcases List.mem_append.mp hp with h | h
    · exact trip_pieces 𝒱 c bd i arg1 harg1 arg2 harg2 arg3 harg3 arg4 harg4 arg5 harg5 arg6 harg6 u s _ p h
    · exact loop_pieces n (by omega) p h

theorem loop_cover (y : S3584x128.Idx) : ∀ n : Nat, n ≤ k0_t2_loop.trips → (y 0).val / 112 < n →
    ∃ p ∈ pieces 𝒱 c bd i arg1 harg1 arg2 harg2 arg3 harg3 arg4 harg4 arg5 harg5 arg6 harg6 u s n, y ∈ p.1.set
  | 0, _, h => absurd h (by omega)
  | n + 1, hn, h => by
    rw [pieces_succ 𝒱 c bd i arg1 harg1 arg2 harg2 arg3 harg3 arg4 harg4 arg5 harg5 arg6 harg6 u s n hn]
    by_cases hy : (y 0).val / 112 = n
    · obtain ⟨p, hp, hm⟩ := trip_cover 𝒱 c bd i arg1 harg1 arg2 harg2 arg3 harg3 arg4 harg4 arg5 harg5 arg6 harg6 u s ⟨n, hn⟩ y hy
      exact ⟨p, List.mem_append_left _ hp, hm⟩
    · obtain ⟨p, hp, hm⟩ := loop_cover y n (by omega) (by omega)
      exact ⟨p, List.mem_append_right _ hp, hm⟩

/-- After the loop the scratch holds the rotated tokens, whatever it held before. -/
theorem rotated (f : arg6.view.ty.Contents (Elt Ideal)) (y : S3584x128.Idx) :
    (arg6.view.read (Elt Ideal) (arg6.view.writes (Elt Ideal) f (pieces 𝒱 c bd i arg1 harg1 arg2 harg2 arg3 harg3 arg4 harg4 arg5 harg5 arg6 harg6 u s k0_t2_loop.trips)) y : EReal) = tokens u (arg5.view.read (Elt Ideal) s) y := by
  have ht : k0_t2_loop.trips = 32 := by decide +kernel
  have h0 : (y 0).val < 3584 := (y 0).isLt
  exact View.read_writes_apply_of_pieces _ _ (tokens u (arg5.view.read (Elt Ideal) s)) _ (loop_pieces 𝒱 c bd i arg1 harg1 arg2 harg2 arg3 harg3 arg4 harg4 arg5 harg5 arg6 harg6 u s _ le_rfl) y
    (loop_cover 𝒱 c bd i arg1 harg1 arg2 harg2 arg3 harg3 arg4 harg4 arg5 harg5 arg6 harg6 u s y _ le_rfl (by omega))

end Loop

end Cert.RotateInIdeal.Rotate

end
-- ==== Proof.InEmit.lean ====
/- What a step of the first call writes to its output block. -/
module

public import proofs.«01_k».proof.Proof.InRotate
public import proofs.«01_k».proof.Proof.Gen.RotateInIdeal.Frame

@[expose] public section

set_option maxRecDepth 16384

noncomputable section

namespace Cert.RotateInIdeal.Emit

open Idealize.ShloMosaic Idealize.ShloMosaic.TcCoe Idealize.SL.Sem
open Cert.RotateInIdeal Cert.RotateInIdeal.Gen Cert.RotateInIdeal.Pairs Cert.RotateInIdeal.Rotate

/-- The output block of a step: row `t`, column `64 a + b`. -/
def out (u : Vec Ideal S56x64 .bf16) (S : S64x40x2x128.Idx → EReal) : S128x3584.Idx → EReal := fun y =>
  rot u S (8 * ((y 0).val / 16) + (y 0).val % 8) ((y 1).val / 64) ⟨64 * ((y 0).val / 8 % 2) + (y 1).val % 64, by omega⟩

section Payloads
variable (A B : Vec Ideal S8x128 .f32)

/-- The exchange of two groups' rows, eight tokens above eight. -/
theorem pay50_apply (b : Fin 16) (l : Fin 128) : (k0_pay50 (F := Ideal) k0_pay1 A B (ix2 b l) : EReal)
    = if l.val < 64 then A (ix2 ⟨b.val % 8, Nat.mod_lt _ (by decide)⟩ (at64 (b.val / 8) (by have := b.isLt; omega) l)) else B (ix2 ⟨b.val % 8, Nat.mod_lt _ (by decide)⟩ (at64 (b.val / 8) (by have := b.isLt; omega) l)) := by
  have hb := b.isLt
  have e : k0_pay50 (F := Ideal) k0_pay1 A B = truncf .bf16 (concatenate S16x128 0 [⟨S8x128, low A B⟩, ⟨S8x128, high A B⟩] concatenates_S8x128_S8x128_S16x128_d0) bitsLt_bf16_f32 := rfl
  rw [e]
  show (concatenate S16x128 0 [⟨S8x128, low A B⟩, ⟨S8x128, high A B⟩] concatenates_S8x128_S8x128_S16x128_d0 (ix2 b l) : EReal) = _
  by_cases h : b.val < 8
  · refine (concatenate_pair_apply_left (α := EReal) (t := S16x128) (s₁ := S8x128) (s₂ := S8x128) 0 _ _ concatenates_S8x128_S8x128_S16x128_d0 (ix2 b l) rfl (ix2 ⟨b.val, h⟩ l) (fun d => by match d with | ⟨0, _⟩ => rfl | ⟨1, _⟩ => rfl)).trans ?_
    refine (low_apply A B _ l).trans ?_
    have h1 : (⟨b.val, h⟩ : Fin 8) = ⟨b.val % 8, Nat.mod_lt _ (by decide)⟩ := Fin.ext (by show b.val = b.val % 8; omega)
    have h2 : at64 0 (by decide) l = at64 (b.val / 8) (by omega) l := Fin.ext (by show 64 * 0 + l.val % 64 = 64 * (b.val / 8) + l.val % 64; omega)
    rw [h1, h2]
  · refine (concatenate_pair_apply_right (α := EReal) (t := S16x128) (s₁ := S8x128) (s₂ := S8x128) 0 _ _ concatenates_S8x128_S8x128_S16x128_d0 (ix2 b l) rfl rfl (ix2 ⟨b.val - 8, by omega⟩ l) (fun d hd => by match d with | ⟨0, _⟩ => exact absurd rfl hd | ⟨1, _⟩ => rfl) (by show b.val - 8 + 8 = b.val; omega)).trans ?_
    refine (high_apply A B _ l).trans ?_
    have h1 : (⟨b.val - 8, by omega⟩ : Fin 8) = ⟨b.val % 8, Nat.mod_lt _ (by decide)⟩ := Fin.ext (by show b.val - 8 = b.val % 8; omega)
    have h2 : at64 1 (by decide) l = at64 (b.val / 8) (by omega) l := Fin.ext (by show 64 * 1 + l.val % 64 = 64 * (b.val / 8) + l.val % 64; omega)
    rw [h1, h2]
end Payloads

/-- A strided load of one group's rows of eight pair rows. -/
theorem load_apply (v : View sig .tc .vmem S3584x128 .f32) (f : v.ty.Contents (Elt Ideal)) (off : Fin 2 → Nat) (g a : Nat) (hoff : off = ![448 * g + a, 0])
    (inb : ∀ d, S8x128.size d = 0 ∨ off d + (![56, 1] : Fin 2 → Nat) d * (S8x128.size d - 1) < S3584x128.size d)
    (T : S3584x128.Idx → EReal) (hT : ∀ y : S3584x128.Idx, (v.read (Elt Ideal) f y : EReal) = T y)
    (j : Fin 8) (l : Fin 128) (hlt : 448 * g + a + 56 * j.val < 3584) :
    (View.readAt (Elt Ideal) v (⟨off, S8x128.size, ![56, 1], inb⟩ : LoadRect S3584x128) f (ix2 j l) : EReal) = T (ix2 ⟨448 * g + a + 56 * j.val, hlt⟩ l) := by
  subst hoff
  rw [View.readAt_apply]
  have e : ((⟨![448 * g + a, 0], S8x128.size, ![56, 1], inb⟩ : LoadRect S3584x128).idx (ix2 j l) : S3584x128.Idx) = ix2 ⟨448 * g + a + 56 * j.val, hlt⟩ l := by
    funext d
    match d with
    | ⟨0, _⟩ => rfl
    | ⟨1, _⟩ => exact Fin.ext (by show 0 + 1 * l.val = l.val; omega)
  rw [e]
  exact hT _

/-- A store of sixteen tokens of two groups is a part of the output block. -/
theorem piece_ok (u : Vec Ideal S56x64 .bf16) (S : S64x40x2x128.Idx → EReal) (k g : Nat) (hk : k < 28) (hg : g < 8)
    (off : Fin 2 → Nat) (hoff : off = ![16 * g, 128 * k]) (inb : ∀ a, off a + S16x128.size a ≤ S128x3584.size a)
    (P : S16x128.Idx → EReal) (A B : Vec Ideal S8x128 .f32) (hP : P = k0_pay50 (F := Ideal) k0_pay1 A B)
    (hA : ∀ (j : Fin 8) (l : Fin 128) (hlt : 448 * g + 2 * k + 56 * j.val < 3584), A (ix2 j l) = tokens u S (ix2 ⟨448 * g + 2 * k + 56 * j.val, hlt⟩ l))
    (hB : ∀ (j : Fin 8) (l : Fin 128) (hlt : 448 * g + (2 * k + 1) + 56 * j.val < 3584), B (ix2 j l) = tokens u S (ix2 ⟨448 * g + (2 * k + 1) + 56 * j.val, hlt⟩ l))
    (x : S16x128.Idx) : P x = out u S ((Rect.unit (s := S128x3584) off S16x128.size inb).emb x) := by
  subst hoff hP
  obtain ⟨b, l, rfl⟩ : ∃ (b : Fin 16) (l : Fin 128), x = ix2 b l := ⟨x 0, x 1, eq_ix2 x⟩
  have hb := b.isLt
  have hl := l.isLt
  have e0 : (((Rect.unit (s := S128x3584) ![16 * g, 128 * k] S16x128.size inb).emb (ix2 b l)) 0).val = 16 * g + b.val := Rect.idx_unit_val _ _ _ _ _
  have e1 : (((Rect.unit (s := S128x3584) ![16 * g, 128 * k] S16x128.size inb).emb (ix2 b l)) 1).val = 128 * k + l.val := Rect.idx_unit_val _ _ _ _ _
  have hc : ∀ {i i' a a' : Nat} {l l' : Fin 128}, i = i' → a = a' → l = l' → rot u S i a l = rot u S i' a' l' := by
    intro i i' a a' l l' h h' h''; subst h h' h''; rfl
  refine (pay50_apply A B b l).trans ?_
  split
  · next h =>
    refine (hA _ _ (by show 448 * g + 2 * k + 56 * (b.val % 8) < 3584; omega)).trans ?_
    unfold tokens out
    refine hc ?_ ?_ (Fin.ext ?_)
    · rw [e0]; show (448 * g + 2 * k + 56 * (b.val % 8)) / 56 = _; omega
    · rw [e1]; show (448 * g + 2 * k + 56 * (b.val % 8)) % 56 = _; omega
    · show 64 * (b.val / 8) + l.val % 64 = 64 * (_ / 8 % 2) + _ % 64
      rw [e0, e1]; omega
  · next h =>
    refine (hB _ _ (by show 448 * g + (2 * k + 1) + 56 * (b.val % 8) < 3584; omega)).trans ?_
    unfold tokens out
    refine hc ?_ ?_ (Fin.ext ?_)
    · rw [e0]; show (448 * g + (2 * k + 1) + 56 * (b.val % 8)) / 56 = _; omega
    · rw [e1]; show (448 * g + (2 * k + 1) + 56 * (b.val % 8)) % 56 = _; omega
    · show 64 * (b.val / 8) + l.val % 64 = 64 * (_ / 8 % 2) + _ % 64
      rw [e0, e1]; omega

theorem t3_lt (k : Fin k0_t3_loop.trips) : k.val < 28 := Nat.lt_of_lt_of_le k.isLt k0_t3_abs.2.1

section Loop
variable (𝒱 : Variants) (c : Dev nD) (bd : Option 𝒱.V) (i : grid0.Coords) (arg1 : Memref sig .tc .vmem S128x3584 .bf16) (harg1 : arg1.IsWhole) (arg2 : Memref sig .tc .vmem S256x256 .bf16) (harg2 : arg2.IsWhole) (arg3 : Memref sig .tc .vmem S56x64 .bf16) (harg3 : arg3.IsWhole) (arg4 : Memref sig .tc .vmem S128x3584 .bf16) (harg4 : arg4.IsWhole) (arg5 : Memref sig .tc .vmem S64x40x2x128 .bf16) (harg5 : arg5.IsWhole) (arg6 : Memref sig .tc .vmem S3584x128 .f32) (harg6 : arg6.IsWhole)
  (u : Vec Ideal S56x64 .bf16) (S : S64x40x2x128.Idx → EReal) (f : arg6.view.ty.Contents (Elt Ideal))
  (hf : ∀ y : S3584x128.Idx, (arg6.view.read (Elt Ideal) f y : EReal) = tokens u S y)

include hf in
/-- Every store of trip `k` is a part of the output block. -/
theorem trip_pieces (k : Fin k0_t3_loop.trips) :
    ∀ p ∈ tripL_k0_t3 (F := Ideal) 𝒱 c bd i arg1 harg1 arg2 harg2 arg3 harg3 arg4 harg4 arg5 harg5 arg6 harg6 f k, ∀ x : p.1.shape.Idx, p.2 x = out u S (p.1.emb x) := by
  have hk := t3_lt k
  unfold tripL_k0_t3 trip_k0_t3
  dsimp only
  sl_unfold_words
  simp only [List.forall_mem_cons]
  refine ⟨?_, ?_, ?_, ?_, ?_, ?_, ?_, ?_, ?_⟩
  · exact piece_ok u S k.val 7 hk (by decide) _ (k0_off21_eq k) _ _ _ _ rfl
      (fun j l hlt => load_apply _ _ _ 7 (2 * k.val) (k0_off12_eq k 7) _ _ hf j l hlt)
      (fun j l hlt => load_apply _ _ _ 7 (2 * k.val + 1) (k0_off13_eq k 7) _ _ hf j l hlt)
  · exact piece_ok u S k.val 6 hk (by decide) _ (k0_off20_eq k) _ _ _ _ rfl
      (fun j l hlt => load_apply _ _ _ 6 (2 * k.val) (k0_off12_eq k 6) _ _ hf j l hlt)
      (fun j l hlt => load_apply _ _ _ 6 (2 * k.val + 1) (k0_off13_eq k 6) _ _ hf j l hlt)
  · exact piece_ok u S k.val 5 hk (by decide) _ (k0_off19_eq k) _ _ _ _ rfl
      (fun j l hlt => load_apply _ _ _ 5 (2 * k.val) (k0_off12_eq k 5) _ _ hf j l hlt)
      (fun j l hlt => load_apply _ _ _ 5 (2 * k.val + 1) (k0_off13_eq k 5) _ _ hf j l hlt)
  · exact piece_ok u S k.val 4 hk (by decide) _ (k0_off18_eq k) _ _ _ _ rfl
      (fun j l hlt => load_apply _ _ _ 4 (2 * k.val) (k0_off12_eq k 4) _ _ hf j l hlt)
      (fun j l hlt => load_apply _ _ _ 4 (2 * k.val + 1) (k0_off13_eq k 4) _ _ hf j l hlt)
  · exact piece_ok u S k.val 3 hk (by decide) _ (k0_off17_eq k) _ _ _ _ rfl
      (fun j l hlt => load_apply _ _ _ 3 (2 * k.val) (k0_off12_eq k 3) _ _ hf j l hlt)
      (fun j l hlt => load_apply _ _ _ 3 (2 * k.val + 1) (k0_off13_eq k 3) _ _ hf j l hlt)
  · exact piece_ok u S k.val 2 hk (by decide) _ (k0_off16_eq k) _ _ _ _ rfl
      (fun j l hlt => load_apply _ _ _ 2 (2 * k.val) (k0_off12_eq k 2) _ _ hf j l hlt)
      (fun j l hlt => load_apply _ _ _ 2 (2 * k.val + 1) (k0_off13_eq k 2) _ _ hf j l hlt)
  · exact piece_ok u S k.val 1 hk (by decide) _ (k0_off15_eq k) _ _ _ _ rfl
      (fun j l hlt => load_apply _ _ _ 1 (2 * k.val) (k0_off12_eq k 1) _ _ hf j l hlt)
      (fun j l hlt => load_apply _ _ _ 1 (2 * k.val + 1) (k0_off13_eq k 1) _ _ hf j l hlt)
  · exact piece_ok u S k.val 0 hk (by decide) _ (k0_off14_eq k) _ _ _ _ rfl
      (fun j l hlt => load_apply _ _ _ 0 (2 * k.val) (k0_off12_eq k 0) _ _ hf j l hlt)
      (fun j l hlt => load_apply _ _ _ 0 (2 * k.val + 1) (k0_off13_eq k 0) _ _ hf j l hlt)
  · exact fun _ h => absurd h List.not_mem_nil

abbrev pieces (n : Nat) := pb_k0_t3 (F := Ideal) 𝒱 c bd i arg1 harg1 arg2 harg2 arg3 harg3 arg4 harg4 arg5 harg5 arg6 harg6 f n

include hf in
theorem loop_pieces : ∀ n : Nat, n ≤ k0_t3_loop.trips →
    ∀ p ∈ pieces 𝒱 c bd i arg1 harg1 arg2 harg2 arg3 harg3 arg4 harg4 arg5 harg5 arg6 harg6 f n, ∀ x : p.1.shape.Idx, p.2 x = out u S (p.1.emb x)
  | 0, _, p, hp => absurd hp (by unfold pieces pb_k0_t3; exact List.not_mem_nil)
  | n + 1, hn, p, hp => by
    have e := pb_k0_t3_succ (F := Ideal) 𝒱 c bd i arg1 harg1 arg2 harg2 arg3 harg3 arg4 harg4 arg5 harg5 arg6 harg6 f ⟨n, hn⟩
    rw [show pieces 𝒱 c bd i arg1 harg1 arg2 harg2 arg3 harg3 arg4 harg4 arg5 harg5 arg6 harg6 f (n + 1) = _ from e] at hp
    rcases List.mem_append.mp hp with h | h
    · exact trip_pieces 𝒱 c bd i arg1 harg1 arg2 harg2 arg3 harg3 arg4 harg4 arg5 harg5 arg6 harg6 u S f hf _ p h
    · exact loop_pieces n (by omega) p h

end Loop

/-- The rotation reads only the 56 groups that the first matrix's columns reach. -/
theorem rot_congr (u : Vec Ideal S56x64 .bf16) (hu : ∀ (a : Fin 56) (q : Fin 64), 56 ≤ q.val → u (ix2 a q) = (0 : EReal))
    (S S' : S64x40x2x128.Idx → EReal) (h : ∀ y : S64x40x2x128.Idx, (y 1).val < 28 → S y = S' y) (i a : Nat) (l : Fin 128) : rot u S i a l = rot u S' i a l := by
  unfold rot
  refine Finset.sum_congr rfl fun q _ => ?_
  by_cases hq : q.val < 56
  · rw [h _ (by show q.val / 2 < 28; omega)]
  · rw [hu _ q (by omega), zero_mul, zero_mul]

section Step
variable (c : Dev nD) (i : grid0.Coords) (arg1 : Memref sig .tc .vmem S128x3584 .bf16) (harg1 : arg1.IsWhole) (arg2 : Memref sig .tc .vmem S256x256 .bf16) (harg2 : arg2.IsWhole) (arg3 : Memref sig .tc .vmem S56x64 .bf16) (harg3 : arg3.IsWhole) (arg4 : Memref sig .tc .vmem S128x3584 .bf16) (harg4 : arg4.IsWhole) (arg5 : Memref sig .tc .vmem S64x40x2x128 .bf16) (harg5 : arg5.IsWhole) (arg6 : Memref sig .tc .vmem S3584x128 .f32) (harg6 : arg6.IsWhole)
  (x0 : Vec Ideal S128x3584 .bf16) (x1 : Vec Ideal S256x256 .bf16) (x2 : Vec Ideal S56x64 .bf16)
  (hx2 : ∀ (a : Fin 56) (q : Fin 64), 56 ≤ q.val → x2 (ix2 a q) = (0 : EReal))

include hx2 in
/-- What a step of case A leaves in its output block. -/
theorem out_A (hc0 : cond0_0 i) :
    (out0_A_3 (F := Ideal) c i arg1 harg1 arg2 harg2 arg3 harg3 arg4 harg4 arg5 harg5 arg6 harg6 hc0 x0 x1 x2 : S128x3584.Idx → EReal) = out x2 (pair x0 x1) := by
  have hc := cover0_A_3 (F := Ideal) c i arg1 harg1 arg2 harg2 arg3 harg3 arg4 harg4 arg5 harg5 arg6 harg6 hc0 x0 x1 x2
  have ht1 : Scf.trips (0#32) (Scalar.addi 0#32 14#32) 1#32 = k0_t1_loop.trips := by decide +kernel
  have ht2 : Scf.trips (0#32) (Scalar.addi 0#32 32#32) 1#32 = k0_t2_loop.trips := by decide +kernel
  have ht3 : Scf.trips (0#32) (Scalar.addi 0#32 28#32) 1#32 = k0_t3_loop.trips := by decide +kernel
  funext y
  unfold out0_A_3
  refine View.read_writes_apply_of_pieces _ _ (out x2 (pair x0 x1)) _ ?_ y (hc y)
  unfold kernelRun0_A
  dsimp only
  rw [ht3, ht2, ht1]
  refine loop_pieces Variants.none c none i arg1 harg1 arg2 harg2 arg3 harg3 arg4 harg4 arg5 harg5 arg6 harg6 x2 (pair x0 x1) _ ?_ _ le_rfl
  intro y
  simp only [View.writes_append]
  refine (rotated Variants.none c none i arg1 harg1 arg2 harg2 arg3 harg3 arg4 harg4 arg5 harg5 arg6 harg6 x2 _ _ y).trans ?_
  unfold tokens
  exact rot_congr x2 hx2 _ _ (fun y h => held Variants.none c none i arg1 harg1 arg2 harg2 arg3 harg3 arg4 harg4 arg5 harg5 arg6 harg6 x0 x1 _ y h) _ _ _
include hx2 in
/-- What a step of case B leaves in its output block. -/
theorem out_B (hc0 : ¬cond0_0 i) (xs : Vec Ideal S64x40x2x128 .bf16) :
    (out0_B_3 (F := Ideal) c i arg1 harg1 arg2 harg2 arg3 harg3 arg4 harg4 arg5 harg5 arg6 harg6 hc0 x0 x1 x2 xs : S128x3584.Idx → EReal) = out x2 (pair x0 x1) := by
  have hc := cover0_B_3 (F := Ideal) c i arg1 harg1 arg2 harg2 arg3 harg3 arg4 harg4 arg5 harg5 arg6 harg6 hc0 x0 x1 x2 xs
  have ht1 : Scf.trips (0#32) (Scalar.addi 0#32 14#32) 1#32 = k0_t1_loop.trips := by decide +kernel
  have ht2 : Scf.trips (0#32) (Scalar.addi 0#32 32#32) 1#32 = k0_t2_loop.trips := by decide +kernel
  have ht3 : Scf.trips (0#32) (Scalar.addi 0#32 28#32) 1#32 = k0_t3_loop.trips := by decide +kernel
  funext y
  unfold out0_B_3
  refine View.read_writes_apply_of_pieces _ _ (out x2 (pair x0 x1)) _ ?_ y (hc y)
  unfold kernelRun0_B
  dsimp only
  rw [ht3, ht2, ht1]
  refine loop_pieces Variants.none c none i arg1 harg1 arg2 harg2 arg3 harg3 arg4 harg4 arg5 harg5 arg6 harg6 x2 (pair x0 x1) _ ?_ _ le_rfl
  intro y
  simp only [View.writes_append]
  refine (rotated Variants.none c none i arg1 harg1 arg2 harg2 arg3 harg3 arg4 harg4 arg5 harg5 arg6 harg6 x2 _ _ y).trans ?_
  unfold tokens
  exact rot_congr x2 hx2 _ _ (fun y h => held Variants.none c none i arg1 harg1 arg2 harg2 arg3 harg3 arg4 harg4 arg5 harg5 arg6 harg6 x0 x1 _ y h) _ _ _

end Step

end Cert.RotateInIdeal.Emit

end
-- ==== Proof.InArray.lean ====
/- The first call's result array, from its arguments. -/
module

public import proofs.«01_k».proof.Proof.Gen.RotateInIdeal.Value
public import proofs.«01_k».proof.Proof.InEmit

@[expose] public section

set_option maxRecDepth 16384

noncomputable section

namespace Cert.RotateInIdeal.Array

open Idealize.ShloMosaic Idealize.ShloMosaic.TcCoe Idealize.SL.Sem
open Cert.RotateInIdeal Cert.RotateInIdeal.Gen Cert.RotateInIdeal.Pairs Cert.RotateInIdeal.Rotate

variable (m : (ℓ : Loc nD τ sig) → Buf (Elt Ideal) ℓ) (c : Dev nD)

/-- The arguments. -/
abbrev x : Vec Ideal S1536x3584 .bf16 := m ((c : Thread nD τ).loc main_arg0)
abbrev v : Vec Ideal S56x56 .bf16 := m ((c : Thread nD τ).loc main_arg1)
abbrev w : Vec Ideal S64x64 .bf16 := m ((c : Thread nD τ).loc main_arg2)

/-- The identity matrix of size four as the host builds it. -/
def eye : FVec Ideal S4x4 .bf16 :=
  uitofp (F := Ideal) .bf16 (cmpi .eq (addi (iotaInDim S4x4 32 0) (broadcastInDim S4x4 ![] bcast_S_S4x4 (constantI S_ 32 0#32))) (iotaInDim S4x4 32 1))
theorem eye_apply (a b : Fin 4) : (eye (ix2 a b) : EReal) = if a = b then 1 else 0 := by
  show ((((IntOp.cmpi .eq (IntOp.addi (BitVec.ofNat 32 a.val) 0#32) (BitVec.ofNat 32 b.val)) : BitVec 1).toNat : ℝ) : EReal) = _
  have h : (IntOp.cmpi .eq (IntOp.addi (BitVec.ofNat 32 a.val) 0#32) (BitVec.ofNat 32 b.val) : BitVec 1) = if a = b then 1#1 else 0#1 := by
    revert a b; decide
  rw [h]
  by_cases hab : a = b <;> simp [hab]

/-- The second matrix as the kernel reads it: four copies of the argument along the diagonal. -/
theorem second_eq : (V m c main_v6 : Vec Ideal S256x256 .bf16)
    = shapeCast S256x256 (mulf (broadcastInDim S4x64x4x64 ![0, 1, 2, 3] bcast_S4x1x4x1_S4x64x4x64_0_1_2_3 (broadcastInDim S4x1x4x1 ![0, 2] bcast_S4x4_S4x1x4x1_0_2 eye))
        (broadcastInDim S4x64x4x64 ![0, 1, 2, 3] bcast_S1x64x1x64_S4x64x4x64_0_1_2_3 (broadcastInDim S1x64x1x64 ![1, 3] bcast_S64x64_S1x64x1x64_1_3 (w m c)))) shapeCasts_S4x64x4x64_S256x256 := by
  show StableHlo.after (List.flatten [hostOps0, hostOps0_1, hostOps0_2, hostOps0_3]) _ (Proc.devRef .tc main_v6) = _
  simp only [hostOps0, hostOps0_1, hostOps0_2, hostOps0_3, List.flatten_cons, List.flatten_nil, List.append_nil, List.cons_append, List.nil_append]
  after_results
  rfl
theorem second (j b : Fin 256) : (V m c main_v6 : Vec Ideal S256x256 .bf16) (ix2 j b)
    = (if j.val / 64 = b.val / 64 then w m c (ix2 ⟨j.val % 64, Nat.mod_lt _ (by decide)⟩ ⟨b.val % 64, Nat.mod_lt _ (by decide)⟩) else 0 : EReal) := by
  have hj := j.isLt
  have hb := b.isLt
  have e : ((V m c main_v6 : Vec Ideal S256x256 .bf16) (ix2 j b) : EReal)
      = eye (ix2 ⟨j.val / 64, by omega⟩ ⟨b.val / 64, by omega⟩) * w m c (ix2 ⟨j.val % 64, Nat.mod_lt _ (by decide)⟩ ⟨b.val % 64, Nat.mod_lt _ (by decide)⟩) := by
    rw [second_eq]
    generalize w m c = y
    generalize eye = E
    pointwise []
  rw [e, eye_apply]
  by_cases h : j.val / 64 = b.val / 64
  · rw [if_pos h, if_pos (Fin.ext h), one_mul]
  · rw [if_neg h, if_neg (fun h' => h (congrArg Fin.val h')), zero_mul]

/-- The first matrix as the kernel reads it: the argument transposed, with columns of zeros after it. -/
theorem first_eq : (V m c main_v8 : Vec Ideal S56x64 .bf16)
    = pad S56x64 ![0, 0] ![0, 8] ![0, 0] (transpose S56x56 [1, 0] (v m c) transposes_S56x56_S56x56_1_0) (sitofp (F := Ideal) .bf16 (constantI S_ 32 0#32)) pads_S56x56_S56x64_000_080 h_S_ := by
  show StableHlo.after (List.flatten [hostOps0, hostOps0_1, hostOps0_2, hostOps0_3]) _ (Proc.devRef .tc main_v8) = _
  simp only [hostOps0, hostOps0_1, hostOps0_2, hostOps0_3, List.flatten_cons, List.flatten_nil, List.append_nil, List.cons_append, List.nil_append]
  after_results
  rfl
theorem first (a : Fin 56) (q : Fin 64) (hq : q.val < 56) : (V m c main_v8 : Vec Ideal S56x64 .bf16) (ix2 a q) = v m c (ix2 ⟨q.val, hq⟩ a) := by
  rw [first_eq]
  refine (pad_apply_of_inside _ _ _ _ _ _ _ _ (ix2 a ⟨q.val, hq⟩) fun k => ?_).trans ?_
  · fin_cases k
    · show a.val = 0 + a.val * (0 + 1); omega
    · show q.val = 0 + q.val * (0 + 1); omega
  · exact transpose_apply [1, 0] (v m c) transposes_S56x56_S56x56_1_0 (ix2 a ⟨q.val, hq⟩) (ix2 ⟨q.val, hq⟩ a) (fun b => match b with
      | ⟨0, _⟩ => rfl
      | ⟨1, _⟩ => rfl)
theorem first_zero (a : Fin 56) (q : Fin 64) (hq : 56 ≤ q.val) : (V m c main_v8 : Vec Ideal S56x64 .bf16) (ix2 a q) = (0 : EReal) := by
  rw [first_eq]
  refine (pad_apply_of_not_inside _ _ _ _ _ _ _ _ 1 fun h => ?_).trans ?_
  · have h' : (q.val - 0) / (0 + 1) < 56 := h.2.2
    omega
  · show (((0#32 : BitVec 32).toInt : ℝ) : EReal) = 0
    norm_num

/-- Where each window's block lies at a point. -/
theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = t.val ∧ win0_3.index t 1 = 0 := by decide +kernel
theorem points (t : Fin cfg0.N) : t.val < 12 := t.isLt.trans_eq N_0

theorem block0 (t : Fin cfg0.N) (a : Fin 128) (d : Fin 3584) :
    (iblk m c 0 t : Vec Ideal S128x3584 .bf16) (ix2 a d)
      = (V m c main_arg0 : Vec Ideal S1536x3584 .bf16) (ix2 ⟨128 * t.val + a.val, by have := points t; have := a.isLt; omega⟩ d) := by
  blk_ext [iblk, (index0 t).1, (index0 t).2]
theorem block1 (t : Fin cfg0.N) (j b : Fin 256) :
    (iblk m c 1 t : Vec Ideal S256x256 .bf16) (ix2 j b) = (V m c main_v6 : Vec Ideal S256x256 .bf16) (ix2 j b) := by
  blk_ext [iblk, (index1 t).1, (index1 t).2]
theorem block2 (t : Fin cfg0.N) (a : Fin 56) (q : Fin 64) :
    (iblk m c 2 t : Vec Ideal S56x64 .bf16) (ix2 a q) = (V m c main_v8 : Vec Ideal S56x64 .bf16) (ix2 a q) := by
  blk_ext [iblk, (index2 t).1, (index2 t).2]

/-- A sum over 256 terms of which only one run of 64 is not zero. -/
theorem sum_run (f : Fin 256 → EReal) (g : Fin 4) (h : ∀ d : Fin 256, d.val / 64 ≠ g.val → f d = 0) :
    ∑ d : Fin 256, f d = ∑ d : Fin 64, f ⟨64 * g.val + d.val, by have := g.isLt; have := d.isLt; omega⟩ := by
  refine (Equiv.sum_comp (finProdFinEquiv (m := 4) (n := 64)) f).symm.trans ?_
  rw [Fintype.sum_prod_type, Finset.sum_eq_single g]
  · refine Finset.sum_congr rfl fun d _ => congrArg f (Fin.ext ?_)
    show d.val + 64 * g.val = 64 * g.val + d.val
    omega
  · intro p _ hp
    refine Finset.sum_eq_zero fun d _ => h _ ?_
    have hd := d.isLt
    show (d.val + 64 * p.val) / 64 ≠ g.val
    intro he
    exact hp (Fin.ext (by omega))
  · intro hn
    exact absurd (Finset.mem_univ _) hn

/-- An element of the product with the second matrix, from the arguments. -/
theorem el_apply (t : Fin cfg0.N) (k j n : Nat) (hk : k < 128) (hj : j < 14) (hn : n < 256) :
    el (iblk m c 0 t : Vec Ideal S128x3584 .bf16) (iblk m c 1 t : Vec Ideal S256x256 .bf16) k j n
      = ∑ d : Fin 64, x m c (ix2 ⟨128 * t.val + k, by have := points t; omega⟩ ⟨256 * j + (64 * (n / 64) + d.val), by have := d.isLt; omega⟩) * w m c (ix2 d ⟨n % 64, Nat.mod_lt _ (by decide)⟩) := by
  have hp := points t
  unfold el
  refine (sum_run _ ⟨n / 64, by omega⟩ fun d hd => ?_).trans (Finset.sum_congr rfl fun d _ => ?_)
  · refine (congrArg (fun r : EReal => _ * r) ((block1 m c t _ _).trans ((second m c _ _).trans (if_neg ?_)))).trans (mul_zero _)
    show ¬d.val / 64 = n % 256 / 64
    intro he
    exact hd (by show d.val / 64 = n / 64; omega)
  · have hd := d.isLt
    refine congr (congrArg _ ?_) ?_
    · refine (block0 m c t _ _).trans ((congrFun (V_main_arg0 m c) _).trans ?_)
      refine congrArg (x m c) (congr (congrArg ix2 (Fin.ext ?_)) (Fin.ext ?_))
      · show 128 * t.val + k % 128 = 128 * t.val + k
        omega
      · show (256 * j + (64 * (n / 64) + d.val)) % 3584 = 256 * j + (64 * (n / 64) + d.val)
        omega
    · refine (block1 m c t _ _).trans ((second m c _ _).trans ((if_pos ?_).trans ?_))
      · show (64 * (n / 64) + d.val) / 64 = n % 256 / 64
        omega
      · refine congrArg (w m c) (congr (congrArg ix2 (Fin.ext ?_)) (Fin.ext ?_))
        · show (64 * (n / 64) + d.val) % 64 = d.val
          omega
        · show n % 256 % 64 = n % 64
          omega

/-- The whole result array, from the arguments. -/
def whole : Vec Ideal S1536x3584 .bf16 := fun y =>
  (∑ q : Fin 56, v m c (ix2 q ⟨(y 1).val / 64, by have : (y 1).val < 3584 := (y 1).isLt; omega⟩)
    * ∑ d : Fin 64, x m c (ix2 (y 0) ⟨64 * q.val + d.val, by have := q.isLt; have := d.isLt; omega⟩) * w m c (ix2 d ⟨(y 1).val % 64, Nat.mod_lt _ (by decide)⟩) : EReal)

/-- What a step leaves in its output block. -/
theorem step (t : Fin cfg0.N) : ((outsAt0 m c t.val t.isLt).1 : S128x3584.Idx → EReal)
    = Emit.out (iblk m c 2 t : Vec Ideal S56x64 .bf16) (pair (iblk m c 0 t : Vec Ideal S128x3584 .bf16) (iblk m c 1 t : Vec Ideal S256x256 .bf16)) := by
  have hz : ∀ (a : Fin 56) (q : Fin 64), 56 ≤ q.val → (iblk m c 2 t : Vec Ideal S56x64 .bf16) (ix2 a q) = (0 : EReal) := fun a q hq =>
    (block2 m c t a q).trans (first_zero m c a q hq)
  by_cases h0 : t.val % 12 = 0
  · rw [outsAt0_A m c t h0]
    have e := Emit.out_A c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) hz ((hcond0_0 t).mpr h0)
    dsimp only
    exact e
  · rw [outsAt0_B m c t h0]
    have e := Emit.out_B c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) hz (fun h => h0 ((hcond0_0 t).mp h)) (outsAt0 m c (t.val - 1) (Nat.lt_of_le_of_lt (Nat.sub_le _ _) t.isLt)).2
    dsimp only
    exact e

/-- What a step leaves in its output block is its part of the whole array. -/
theorem block3 (t : Fin cfg0.N) (a : Fin 128) (n : Fin 3584) (j : S1536x3584.Idx)
    (hj0 : (j 0).val = t.val * 128 + a.val) (hj1 : (j 1).val = n.val) :
    ((outsAt0 m c t.val t.isLt).1 (ix2 a n) : EReal) = whole m c j := by
  have hp := points t
  have ha := a.isLt
  have hn := n.isLt
  refine (congrFun (step m c t) (ix2 a n)).trans ?_
  unfold Emit.out rot whole
  refine (Fin.sum_univ_add (a := 56) (b := 8) _).trans ?_
  refine (congr (congrArg _ (Finset.sum_congr rfl fun q _ => ?_)) (Finset.sum_eq_zero fun q _ => ?_)).trans (add_zero _)
  · have hq := q.isLt
    refine congr (congrArg _ ?_) ?_
    · refine (block2 m c t _ _).trans ((first m c _ _ hq).trans ?_)
      refine congrArg (v m c) (congr (congrArg ix2 rfl) (Fin.ext ?_))
      show n.val / 64 % 56 = (j 1).val / 64
      rw [hj1]; omega
    · unfold pair
      refine (el_apply m c t _ _ _ ?_ ?_ ?_).trans (Finset.sum_congr rfl fun d _ => ?_)
      · show 16 * ((8 * (a.val / 16) + a.val % 8) % 64 / 8) + 8 * ((64 * (a.val / 8 % 2) + n.val % 64) / 64) + (8 * (a.val / 16) + a.val % 8) % 64 % 8 < 128
        omega
      · show q.val / 2 / 2 < 14
        omega
      · show 128 * (q.val / 2 % 2) + 64 * (q.val % 2) + (64 * (a.val / 8 % 2) + n.val % 64) % 64 < 256
        omega
      · have hd := d.isLt
        refine congr (congrArg _ (congrArg (x m c) (congr (congrArg ix2 (Fin.ext ?_)) (Fin.ext ?_)))) (congrArg (w m c) (congrArg (ix2 d) (Fin.ext ?_)))
        · show 128 * t.val + (16 * ((8 * (a.val / 16) + a.val % 8) % 64 / 8) + 8 * ((64 * (a.val / 8 % 2) + n.val % 64) / 64) + (8 * (a.val / 16) + a.val % 8) % 64 % 8) = (j 0).val
          rw [hj0]; omega
        · show 256 * (q.val / 2 / 2) + (64 * ((128 * (q.val / 2 % 2) + 64 * (q.val % 2) + (64 * (a.val / 8 % 2) + n.val % 64) % 64) / 64) + d.val) = 64 * q.val + d.val
          omega
        · show (128 * (q.val / 2 % 2) + 64 * (q.val % 2) + (64 * (a.val / 8 % 2) + n.val % 64) % 64) % 64 = (j 1).val % 64
          rw [hj1]; omega
  · refine (congrArg (fun r : EReal => r * _) ((block2 m c t _ _).trans (first_zero m c _ _ ?_))).trans (zero_mul _)
    show 56 ≤ 56 + q.val
    omega

/-- The call's result array. -/
theorem final : (dats m 0 c).arrAt 3 cfg0.N = whole m c := by
  refine (dats m 0 c).arrAt_eq_of_covers 3 _ (by decide +kernel) fun t hf y => ?_
  blk_simp
  rw [after0_3]
  obtain ⟨a, n, rfl⟩ : ∃ (a : Fin 128) (n : Fin 3584), y = ix2 a n := ⟨y 0, y 1, eq_ix2 y⟩
  refine block3 m c t a n _ ?_ ?_
  · exact (Pipeline.Window.rect_emb_val win0_3 t (ix2 a n) 0).trans (by rw [(index3 t).1]; rfl)
  · exact (Pipeline.Window.rect_emb_val win0_3 t (ix2 a n) 1).trans (by rw [(index3 t).2]; show 0 * 3584 + n.val = n.val; omega)

end Cert.RotateInIdeal.Array

end
-- ==== Proof.InResult.lean ====
/- The first call's reference result at an index. -/
module

public import proofs.«01_k».proof.Proof.Gen.ReferenceInIdeal.Read
public import Idealize.ShloMosaic.Lib.Pipeline.ValueKit
public import Idealize.ShloMosaic.Lib.KernelVsHost

@[expose] public section

set_option maxRecDepth 16384

noncomputable section

namespace Cert.ReferenceInIdeal.Result

open Idealize.ShloMosaic Idealize.ShloMosaic.TcCoe Idealize.SL.Sem
open Cert.ReferenceInIdeal Cert.ReferenceInIdeal.Gen Cert.ReferenceInIdeal.Read

variable (x0 : (⟨S1536x3584, .bf16⟩ : BufTy).Contents (Elt Ideal)) (x1 : (⟨S56x56, .bf16⟩ : BufTy).Contents (Elt Ideal)) (x2 : (⟨S64x64, .bf16⟩ : BufTy).Contents (Elt Ideal))

/-- The product with the second matrix. -/
theorem inner_apply (t : Fin 1536) (q : Fin 56) (b : Fin 64) :
    (val_main_v2 (F := Ideal) x0 x2 (ix3 t q b) : EReal) = ∑ d : Fin 64, x0 (ix2 t ⟨64 * q.val + d.val, by have := q.isLt; have := d.isLt; omega⟩) * x2 (ix2 d b) := by
  refine (val_main_v1_apply x0 x2 (ix3 t q b)).trans (Finset.sum_congr rfl fun d _ => ?_)
  have ht := t.isLt
  have hq := q.isLt
  have hd := d.isLt
  refine congr (congrArg _ ?_) (congrArg x2 ?_)
  · refine (val_main_v0_apply (F := Ideal) x0 _).trans (congrArg x0 (funext fun a => Fin.ext ?_))
    match a with
    | ⟨0, _⟩ => show ((t.val * 56 + q.val) * 64 + d.val) / 3584 = t.val; omega
    | ⟨1, _⟩ => show ((t.val * 56 + q.val) * 64 + d.val) % 3584 = 64 * q.val + d.val; omega
  · funext a
    match a with
    | ⟨0, _⟩ => rfl
    | ⟨1, _⟩ => rfl

/-- The reference's result. -/
theorem result_apply (t : Fin 1536) (e : Fin 3584) :
    (val_main_v6 (F := Ideal) x0 x1 x2 (ix2 t e) : EReal) = ∑ q : Fin 56, x1 (ix2 q ⟨e.val / 64, by have := e.isLt; omega⟩)
      * ∑ d : Fin 64, x0 (ix2 t ⟨64 * q.val + d.val, by have := q.isLt; have := d.isLt; omega⟩) * x2 (ix2 d ⟨e.val % 64, Nat.mod_lt _ (by decide)⟩) := by
  have ht := t.isLt
  have he := e.isLt
  refine (val_main_v6_apply (F := Ideal) x0 x1 x2 (ix2 t e)).trans ?_
  refine (val_main_v4_apply (F := Ideal) x0 x1 x2 _).trans ?_
  refine (val_main_v3_apply x0 x1 x2 _).trans (Finset.sum_congr rfl fun q _ => ?_)
  refine congr (congrArg _ (congrArg x1 (funext fun a => Fin.ext ?_))) ?_
  · match a with
    | ⟨0, _⟩ => rfl
    | ⟨1, _⟩ => show (t.val * 3584 + e.val) / 64 % 56 = e.val / 64; omega
  · refine Eq.trans (congrArg (val_main_v2 (F := Ideal) x0 x2) (funext fun a => Fin.ext ?_)) (inner_apply x0 x2 t q ⟨e.val % 64, Nat.mod_lt _ (by decide)⟩)
    match a with
    | ⟨0, _⟩ => show (t.val * 3584 + e.val) / 3584 = t.val; omega
    | ⟨1, _⟩ => rfl
    | ⟨2, _⟩ => show (t.val * 3584 + e.val) % 64 = e.val % 64; omega

end Cert.ReferenceInIdeal.Result

end
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.RotateIn
public import proofs.«01_k».proof.Proof.Gen.RotateIn.Skeleton
public import proofs.«01_k».proof.Proof.Gen.RotateIn.Loops
public import proofs.«01_k».proof.Proof.Gen.RotateIn.Launch
public import proofs.«01_k».proof.Proof.Gen.RotateIn.Points
public import proofs.«01_k».proof.Proof.Gen.RotateIn.Frame
public import proofs.«01_k».proof.Proof.Gen.RotateInIdeal
public import proofs.«01_k».proof.Proof.Gen.RotateInIdeal.Skeleton
public import proofs.«01_k».proof.Proof.Gen.RotateInIdeal.Loops
public import proofs.«01_k».proof.Proof.Gen.RotateInIdeal.Launch
public import proofs.«01_k».proof.Proof.Gen.RotateInIdeal.Points
public import proofs.«01_k».proof.Proof.Gen.RotateInIdeal.Frame
public import proofs.«01_k».proof.Proof.Gen.RotateInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Array
public import proofs.«01_k».proof.Proof.Result
public import proofs.«01_k».proof.Proof.InArray
public import proofs.«01_k».proof.Proof.InResult
public import Idealize.ShloMosaic.Lib.Bf16PairInverse
public import Idealize.ShloMosaic.Adequacy
public import Idealize.ShloMosaic.Init

@[expose] public section

noncomputable section

namespace Cert.Proof

open Idealize.ShloMosaic Idealize.SL.Sem Cert.Kernel

/-- The reference declares no semaphore, so its run ends with every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The rewrites that the ideal program was printed with. -/
theorem preserves : Cert.preserves_Kernel_KernelIdeal := ⟨IdealRules.bf16_pair.bufferStatement _ _,
  IdealRules.bf16_pair.bufferStatement _ _,
  IdealRules.bf16_pair.statement _ _,
  IdealRules.bf16_pair.selectZeroStatement _,
  IdealRules.bf16_pair.statement _ _,
  IdealRules.bf16_pair.selectZeroStatement _,
  IdealRules.bf16_pair.packStatement _,
  IdealRules.bf16_pair.statement _ _,
  IdealRules.bf16_pair.statement _ _,
  IdealRules.bf16_pair.statement _ _,
  IdealRules.bf16_pair.packStatement _,
  IdealRules.bf16_pair.statement _ _,
  IdealRules.bf16_pair.statement _ _,
  IdealRules.bf16_pair.statement _ _⟩

/-- The reference's result is the kernel's result array, the arguments being the same. -/
theorem same_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v67 m' c = Cert.KernelIdeal.Array.whole m c := by
  rw [Cert.ReferenceIdeal.Read.val_main_v67_eq, h0, h1, h2, h3, h4]
  funext y
  obtain ⟨t, e, rfl⟩ : ∃ (t : Fin 1536) (e : Fin 18944), y = ix2 t e := ⟨y 0, y 1, eq_ix2 y⟩
  exact Cert.ReferenceIdeal.Result.result_apply _ _ _ _ _ t e

/-- Both programs end with the same result array. -/
theorem algebraic : Cert.algebraic_KernelIdeal_ReferenceIdeal := by
  intro m ρ m' ρ' _ hagree
  refine ⟨fun c => Cert.KernelIdeal.Array.whole m c, ?_, ?_⟩
  · exact (θ_run Cert.KernelIdeal.defs _ _).mono (fun _ h c => ⟨(h c).1.trans (Cert.KernelIdeal.Array.final m c), (h c).2⟩)
      (Cert.KernelIdeal.Value.run_blocks m ρ)
  · exact (θ_run Cert.ReferenceIdeal.defs _ _).mono
      (fun _ h c => ⟨(h c).1.trans (same_result m m' c (hagree c).1 (hagree c).2.1 (hagree c).2.2.1 (hagree c).2.2.2.1 (hagree c).2.2.2.2), (h c).2⟩)
      (Cert.ReferenceIdeal.Value.run m' ρ')

/-- The first call's reference declares no semaphore either. -/
theorem frame_reference_in : Cert.quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run m ρ)

/-- The rewrites that the first call's ideal program was printed with. -/
theorem preserves_in : Cert.preserves_RotateIn_RotateInIdeal := ⟨IdealRules.bf16_pair.bufferStatement _ _,
  IdealRules.bf16_pair.statement _ _,
  IdealRules.bf16_pair.selectZeroStatement _,
  IdealRules.bf16_pair.packStatement _,
  IdealRules.bf16_pair.statement _ _,
  IdealRules.bf16_pair.statement _ _,
  IdealRules.bf16_pair.statement _ _⟩

/-- The first call's reference result is its result array, the arguments being the same. -/
theorem same_result_in (m : (ℓ : Loc Cert.RotateInIdeal.nD Cert.RotateInIdeal.τ Cert.RotateInIdeal.sig) → Buf (Elt Ideal) ℓ)
    (m' : (ℓ : Loc Cert.ReferenceInIdeal.nD Cert.ReferenceInIdeal.τ Cert.ReferenceInIdeal.sig) → Buf (Elt Ideal) ℓ) (c : Dev Cert.RotateInIdeal.nD)
    (h0 : m' ((c.tc : Thread Cert.ReferenceInIdeal.nD Cert.ReferenceInIdeal.τ).loc Cert.ReferenceInIdeal.main_arg0) = m ((c.tc : Thread Cert.RotateInIdeal.nD Cert.RotateInIdeal.τ).loc Cert.RotateInIdeal.main_arg0))
    (h1 : m' ((c.tc : Thread Cert.ReferenceInIdeal.nD Cert.ReferenceInIdeal.τ).loc Cert.ReferenceInIdeal.main_arg1) = m ((c.tc : Thread Cert.RotateInIdeal.nD Cert.RotateInIdeal.τ).loc Cert.RotateInIdeal.main_arg1))
    (h2 : m' ((c.tc : Thread Cert.ReferenceInIdeal.nD Cert.ReferenceInIdeal.τ).loc Cert.ReferenceInIdeal.main_arg2) = m ((c.tc : Thread Cert.RotateInIdeal.nD Cert.RotateInIdeal.τ).loc Cert.RotateInIdeal.main_arg2)) :
    Cert.ReferenceInIdeal.Read.val_main_v6 (F := Ideal) (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) = Cert.RotateInIdeal.Array.whole m c := by
  rw [h0, h1, h2]
  funext y
  obtain ⟨t, e, rfl⟩ : ∃ (t : Fin 1536) (e : Fin 3584), y = ix2 t e := ⟨y 0, y 1, eq_ix2 y⟩
  exact Cert.ReferenceInIdeal.Result.result_apply _ _ _ t e

/-- The first call and its reference end with the same result array. -/
theorem algebraic_in : Cert.algebraic_RotateInIdeal_ReferenceInIdeal := by
  intro m ρ m' ρ' _ hagree
  refine ⟨fun c => Cert.RotateInIdeal.Array.whole m c, ?_, ?_⟩
  · exact (θ_run Cert.RotateInIdeal.defs _ _).mono (fun _ h c => ⟨(h c).1.trans (Cert.RotateInIdeal.Array.final m c), (h c).2⟩)
      (Cert.RotateInIdeal.Value.run_blocks m ρ)
  · exact (θ_run Cert.ReferenceInIdeal.defs _ _).mono
      (fun _ h c => ⟨(h c).1.trans ((Cert.ReferenceInIdeal.Read.val_main_v6_eq _ _ _).trans (same_result_in m m' c (hagree c).1 (hagree c).2.1 (hagree c).2.2)), (h c).2⟩)
      (Cert.ReferenceInIdeal.Value.run m' ρ')

theorem claim : Cert.Claim := ⟨Cert.Kernel.Gen.facts, Cert.KernelIdeal.Gen.facts, Cert.ReferenceIdeal.Gen.facts,
  Cert.RotateIn.Gen.facts, Cert.RotateInIdeal.Gen.facts, Cert.ReferenceInIdeal.Gen.facts,
  fun m ρ _ => Cert.Kernel.Gen.frame m ρ,
  fun m ρ _ => Cert.KernelIdeal.Gen.frame m ρ,
  frame_reference,
  fun m ρ _ => Cert.RotateIn.Gen.frame m ρ,
  fun m ρ _ => Cert.RotateInIdeal.Gen.frame m ρ,
  frame_reference_in,
  preserves,
  algebraic,
  preserves_in,
  algebraic_in⟩

end Cert.Proof

end
